-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v93) = v0 c
          ∧ r.2.mem ((c.tc : Thread Cert.Reference7Ideal.nD Cert.Reference7Ideal.τ).loc Cert.Reference7Ideal.main_v95) = v1 c
          ∧ r.2.mem ((c.tc : Thread Cert.Reference7Ideal.nD Cert.Reference7Ideal.τ).loc Cert.Reference7Ideal.main_v98) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v48) = v1 c
          ∧ r.2.mem ((c.tc : Thread Cert.Reference8Ideal.nD Cert.Reference8Ideal.τ).loc Cert.Reference8Ideal.main_v51) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v258) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite5 : Cert.Pre_finite5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite5.lean ====
abbrev S1024x16384 : Shape := ⟨2, ![1024, 16384]⟩
abbrev S1024x1024 : Shape := ⟨2, ![1024, 1024]⟩
abbrev S512x1024 : Shape := ⟨2, ![512, 1024]⟩
abbrev S16384x1024 : Shape := ⟨2, ![16384, 1024]⟩
abbrev S512x16384 : Shape := ⟨2, ![512, 16384]⟩
abbrev S_ : Shape := ⟨0, ![]⟩

class Facts : Prop where
  bitsLt_bf16_f32 : FTy.bits .bf16 < FTy.bits .f32
  bcast_S_S1024x16384 : S_.BroadcastsInDim S1024x16384 (![] : Fin 0 → Fin S1024x16384.rank)
  bcast_S_S1024x1024 : S_.BroadcastsInDim S1024x1024 (![] : Fin 0 → Fin S1024x1024.rank)
  bcast_S_S16384x1024 : S_.BroadcastsInDim S16384x1024 (![] : Fin 0 → Fin S16384x1024.rank)

variable [Facts]

def fn {F : FTy → Type} [FloatOps F] (main_arg0 : FVec F S1024x16384 .bf16) (main_arg1 : FVec F S1024x1024 .bf16) (main_arg2 : FVec F S512x1024 .bf16) (main_arg3 : FVec F S16384x1024 .bf16) (main_arg4 : FVec F S512x16384 .bf16) : IVec S1024x16384 1 × IVec S1024x1024 1 × IVec S16384x1024 1 :=
  let main_v0 : FVec F S1024x16384 .f32 := (extf .f32 · bitsLt_bf16_f32) main_arg0
  let main_v1 : FVec F S1024x16384 .f32 := Host.absf main_v0
  let main_cst : FVec F S_ .f32 := constant S_ .f32 0x7F800000#32
  let main_v2 : FVec F S1024x16384 .f32 := broadcastInDim S1024x16384 ![] bcast_S_S1024x16384 main_cst
  let main_v3 : IVec S1024x16384 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S16384x1024 .f32 := (extf .f32 · bitsLt_bf16_f32) main_arg3
  let main_v9 : FVec F S16384x1024 .f32 := Host.absf main_v8
  let main_cst_1 : FVec F S_ .f32 := constant S_ .f32 0x7F800000#32
  let main_v10 : FVec F S16384x1024 .f32 := broadcastInDim S16384x1024 ![] bcast_S_S16384x1024 main_cst_1
  let main_v11 : IVec S16384x1024 1 := cmpf .olt main_v9 main_v10
  (main_v3, main_v7, main_v11)
-- ==== Kernel.lean ====
abbrev S512x16384 : Shape := ⟨2, ![512, 16384]⟩
abbrev S1024x512 : Shape := ⟨2, ![1024, 512]⟩
abbrev S512x1024 : Shape := ⟨2, ![512, 1024]⟩
abbrev S16384x512 : Shape := ⟨2, ![16384, 512]⟩
abbrev S1x64 : Shape := ⟨2, ![1, 64]⟩
abbrev S1x128 : Shape := ⟨2, ![1, 128]⟩
abbrev S128x512 : Shape := ⟨2, ![128, 512]⟩
abbrev S256x128 : Shape := ⟨2, ![256, 128]⟩
abbrev S128x256 : Shape := ⟨2, ![128, 256]⟩
abbrev S4096x128 : Shape := ⟨2, ![4096, 128]⟩
abbrev S128x4096 : Shape := ⟨2, ![128, 4096]⟩
abbrev S512x128 : Shape := ⟨2, ![512, 128]⟩
abbrev S4352x256 : Shape := ⟨2, ![4352, 256]⟩
abbrev S8x256 : Shape := ⟨2, ![8, 256]⟩
abbrev S256x256 : Shape := ⟨2, ![256, 256]⟩
abbrev S32x8x256 : Shape := ⟨3, ![32, 8, 256]⟩
abbrev S512x256 : Shape := ⟨2, ![512, 256]⟩
abbrev S64x8x256 : Shape := ⟨3, ![64, 8, 256]⟩
abbrev S256 : Shape := ⟨1, ![256]⟩
abbrev S1x256 : Shape := ⟨2, ![1, 256]⟩
abbrev S4096x256 : Shape := ⟨2, ![4096, 256]⟩
abbrev S1 : Shape := ⟨1, ![1]⟩
abbrev S1x1 : Shape := ⟨2, ![1, 1]⟩
abbrev S256x1 : Shape := ⟨2, ![256, 1]⟩

abbrev nBuf : Space → Nat
  | .hbm => 11
  | .vmem => 25
  | .smem => 0
  | _ => 0

abbrev bufTy : (tb : Table) → Fin (tcTables nBuf tb) → BufTy
  | .hbm, ⟨0, _⟩ => ⟨S512x16384, .bf16⟩
  | .hbm, ⟨1, _⟩ => ⟨S1024x512, .bf16⟩
  | .hbm, ⟨2, _⟩ => ⟨S512x1024, .bf16⟩
  | .hbm, ⟨3, _⟩ => ⟨S16384x512, .bf16⟩
  | .hbm, ⟨4, _⟩ => ⟨S512x16384, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S256x128, .bf16⟩
  | .local _ .vmem, ⟨3, _⟩ => ⟨S256x128, .bf16⟩
  | .local _ .vmem, ⟨4, _⟩ => ⟨S128x256, .bf16⟩
  | .local _ .vmem, ⟨5, _⟩ => ⟨S128x256, .bf16⟩
  | .local _ .vmem, ⟨6, _⟩ => ⟨S4096x128, .bf16⟩
  | .local _ .vmem, ⟨7, _⟩ => ⟨S4096x128, .bf16⟩
  | .local _ .vmem, ⟨8, _⟩ => ⟨S128x4096, .bf16⟩
  | .local _ .vmem, ⟨9, _⟩ => ⟨S128x4096, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S512x128, .bf16⟩
  | .local _ .vmem, ⟨16, _⟩ => ⟨S512x128, .bf16⟩
  | .local _ .vmem, ⟨17, _⟩ => ⟨S4352x256, .f32⟩
  | .local _ .vmem, ⟨18, _⟩ => ⟨S4352x256, .f32⟩
  | .local _ .vmem, ⟨19, _⟩ => ⟨S4352x256, .f32⟩
  | .local _ .vmem, ⟨20, _⟩ => ⟨S4352x256, .f32⟩
  | .local _ .vmem, ⟨21, _⟩ => ⟨S4352x256, .bf16⟩
  | .local _ .vmem, ⟨22, _⟩ => ⟨S4352x256, .bf16⟩
  | .local _ .vmem, ⟨23, _⟩ => ⟨S4352x256, .bf16⟩
  | .local _ .vmem, ⟨24, _⟩ => ⟨S4352x256, .bf16⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S512x16384 : Shape := ⟨2, ![512, 16384]⟩
abbrev S1024x512 : Shape := ⟨2, ![1024, 512]⟩
abbrev S512x1024 : Shape := ⟨2, ![512, 1024]⟩
abbrev S16384x512 : Shape := ⟨2, ![16384, 512]⟩
abbrev S1x64 : Shape := ⟨2, ![1, 64]⟩
abbrev S1x128 : Shape := ⟨2, ![1, 128]⟩
abbrev S4x4096x4x2x64 : Shape := ⟨5, ![4, 4096, 4, 2, 64]⟩
abbrev S4x256x4x2x64 : Shape := ⟨5, ![4, 256, 4, 2, 64]⟩
abbrev S4x4352x4x2x64 : Shape := ⟨5, ![4, 4352, 4, 2, 64]⟩
abbrev S4x256x4x128 : Shape := ⟨4, ![4, 256, 4, 128]⟩
abbrev S4x4096x4x128 : Shape := ⟨4, ![4, 4096, 4, 128]⟩
abbrev S4x4352x4x128 : Shape := ⟨4, ![4, 4352, 4, 128]⟩
abbrev S4x4x2x4096x4352 : Shape := ⟨5, ![4, 4, 2, 4096, 4352]⟩
abbrev S_ : Shape := ⟨0, ![]⟩
abbrev S4x4x2x4096 : Shape := ⟨4, ![4, 4, 2, 4096]⟩
abbrev S4x4x2x4096x1 : Shape := ⟨5, ![4, 4, 2, 4096, 1]⟩
abbrev S4x4x128x2x4096 : Shape := ⟨5, ![4, 4, 128, 2, 4096]⟩
abbrev S4x4096x4x2x128 : Shape := ⟨5, ![4, 4096, 4, 2, 128]⟩
abbrev S4x4096x4x1x128 : Shape := ⟨5, ![4, 4096, 4, 1, 128]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S1024x512, .bf16⟩
  | .hbm, ⟨2, _⟩ => ⟨S512x1024, .bf16⟩
  | .hbm, ⟨3, _⟩ => ⟨S16384x512, .bf16⟩
  | .hbm, ⟨4, _⟩ => ⟨S512x16384, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S512x16384, .f32⟩
  | .hbm, ⟨11, _⟩ => ⟨S16384x512, .f32⟩
  | .hbm, ⟨12, _⟩ => ⟨S4x4096x4x2x64, .f32⟩
  | .hbm, ⟨13, _⟩ => ⟨S1024x512, .f32⟩
  | .hbm, ⟨14, _⟩ => ⟨S4x256x4x2x64, .f32⟩
  | .hbm, ⟨15, _⟩ => ⟨S16384x512, .f32⟩
  | .hbm, ⟨16, _⟩ => ⟨S4x4096x4x2x64, .f32⟩
  | .hbm, ⟨17, _⟩ => ⟨S4x4352x4x2x64, .f32⟩
  | .hbm, ⟨18, _⟩ => ⟨S512x1024, .f32⟩
  | .hbm, ⟨19, _⟩ => ⟨S1024x512, .f32⟩
  | .hbm, ⟨20, _⟩ => ⟨S4x256x4x128, .f32⟩
  | .hbm, ⟨21, _⟩ => ⟨S512x16384, .f32⟩
  | .hbm, ⟨22, _⟩ => ⟨S16384x512, .f32⟩
  | .hbm, ⟨23, _⟩ => ⟨S4x4096x4x128, .f32⟩
  | .hbm, ⟨24, _⟩ => ⟨S4x4352x4x128, .f32⟩
  | .hbm, ⟨25, _⟩ => ⟨S4x4x2x4096x4352, .f32⟩
  | .hbm, ⟨26, _⟩ => ⟨S_, .f32⟩
  | .hbm, ⟨27, _⟩ => ⟨S_, .f32⟩
  | .hbm, ⟨28, _⟩ => ⟨S4x4x2x4096x4352, .f32⟩
  | .hbm, ⟨29, _⟩ => ⟨S4x4x2x4096x4352, .f32⟩
  | .hbm, ⟨30, _⟩ => ⟨S_, .f32⟩
  | .hbm, ⟨31, _⟩ => ⟨S4x4x2x4096, .f32⟩
  | .hbm, ⟨32, _⟩ => ⟨S4x4x2x4096x1, .f32⟩
  | .hbm, ⟨33, _⟩ => ⟨S4x4x2x4096x4352, .f32⟩
  | .hbm, ⟨34, _⟩ => ⟨S4x4x2x4096x4352, .f32⟩
  | .hbm, ⟨35, _⟩ => ⟨S4x4x2x4096x4352, .f32⟩
  | .hbm, ⟨36, _⟩ => ⟨S_, .f32⟩
  | .hbm, ⟨37, _⟩ => ⟨S4x4x2x4096, .f32⟩
  | .hbm, ⟨38, _⟩ => ⟨S4x4x2x4096x1, .f32⟩
  | .hbm, ⟨39, _⟩ => ⟨S4x4x2x4096x4352, .f32⟩
  | .hbm, ⟨40, _⟩ => ⟨S4x4x2x4096x4352, .f32⟩
  | .hbm, ⟨41, _⟩ => ⟨S4x4x128x2x4096, .f32⟩
  | .hbm, ⟨42, _⟩ => ⟨S4x4096x4x2x128, .f32⟩
  | .hbm, ⟨43, _⟩ => ⟨S1x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4x4096x4x1x128, .f32⟩
  | .hbm, ⟨55, _⟩ => ⟨S4x4096x4x128, .f32⟩
  | .hbm, ⟨56, _⟩ => ⟨S4x4096x4x1x128, .f32⟩
  | .hbm, ⟨57, _⟩ => ⟨S4x4096x4x128, .f32⟩
  | .hbm, ⟨58, _⟩ => ⟨S4x4096x4x128, .f32⟩
  | .hbm, ⟨59, _⟩ => ⟨S4x4096x4x128, .f32⟩
  | .hbm, ⟨60, _⟩ => ⟨S4x4096x4x128, .f32⟩
  | .hbm, ⟨61, _⟩ => ⟨S128, .f32⟩
  | .hbm, ⟨62, _⟩ => ⟨S4x4096x4x128, .f32⟩
  | .hbm, ⟨63, _⟩ => ⟨S_, .f32⟩
  | .hbm, ⟨64, _⟩ => ⟨S4x4096x4, .f32⟩
  | .hbm, ⟨65, _⟩ => ⟨S4x4096x4x1, .f32⟩
  | .hbm, ⟨66, _⟩ => ⟨S_, .f32⟩
  | .hbm, ⟨67, _⟩ => ⟨S4x4096x4x1, .f32⟩
  | .hbm, ⟨68, _⟩ => ⟨S4x4096x4x1, .f32⟩
  | .hbm, ⟨69, _⟩ => ⟨S_, .f32⟩
  | .hbm, ⟨70, _⟩ => ⟨S4x4096x4x1, .f32⟩
  | .hbm, ⟨71, _⟩ => ⟨S4x4096x4x1, .f32⟩
  | .hbm, ⟨72, _⟩ => ⟨S4x4096x4x1, .f32⟩
  | .hbm, ⟨73, _⟩ => ⟨S4x4096x4x128, .f32⟩
  | .hbm, ⟨74, _⟩ => ⟨S4x4096x4x128, .f32⟩
  | .hbm, ⟨75, _⟩ => ⟨S1x1x1x128, .f32⟩
  | .hbm, ⟨76, _⟩ => ⟨S4x4096x4x128, .f32⟩
  | .hbm, ⟨77, _⟩ => ⟨S4x4096x4x128, .f32⟩
  | .hbm, ⟨78, _⟩ => ⟨S_, .f32⟩
  | .hbm, ⟨79, _⟩ => ⟨S4x4096x4x128, .f32⟩
  | .hbm, ⟨80, _⟩ => ⟨S4x4096x4x128, .f32⟩
  | .hbm, ⟨81, _⟩ => ⟨S16384x512, .f32⟩
  | .hbm, ⟨82, _⟩ => ⟨S16384x512, .bf16⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S4x8x1x12288 : Shape := ⟨4, ![4, 8, 1, 12288]⟩
abbrev S4x2048x11264 : Shape := ⟨3, ![4, 2048, 11264]⟩
abbrev S4x5632x2048 : Shape := ⟨3, ![4, 5632, 2048]⟩
abbrev S512x2048 : Shape := ⟨2, ![512, 2048]⟩
abbrev S1x1x1x2048 : Shape := ⟨4, ![1, 1, 1, 2048]⟩
abbrev S1x2048x512 : Shape := ⟨3, ![1, 2048, 512]⟩
abbrev S1x512x2048 : Shape := ⟨3, ![1, 512, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S512x512 : Shape := ⟨2, ![512, 512]⟩
abbrev S8x2048 : Shape := ⟨2, ![8, 2048]⟩
abbrev S8 : Shape := ⟨1, ![8]⟩
abbrev S8x1 : Shape := ⟨2, ![8, 1]⟩

abbrev nBuf : Space → Nat
  | .hbm => 7
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S4x8x1x12288, .f32⟩
  | .hbm, ⟨4, _⟩ => ⟨S4x2048x11264, .bf16⟩
  | .hbm, ⟨5, _⟩ => ⟨S4x5632x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_29 : BitVec 32 := 0#32
  let c32_i32 : BitVec 32 := 32#32
  let v32 : BitVec 32 := Scalar.addi c0_i32_29 c32_i32
  let c1_i32 : BitVec 32 := 1#32
  ⟨c0_i32_29, v32, c1_i32⟩
def k0_mult1 (k0_t1 : Fin k0_t1_loop.trips) : BitVec 32 :=
  let c0_i32_29 : BitVec 32 := 0#32
  let c1_i32 : BitVec 32 := 1#32
  let arg14 : BitVec 32 := Scf.iv c0_i32_29 c1_i32 k0_t1
  let c16_i32 : BitVec 32 := 16#32
  let v37 : BitVec 32 := Scalar.muli arg14 c16_i32
  v37
def k0_off1 (k0_t1 : Fin k0_t1_loop.trips) : Fin 2 → Nat :=
  let c0_i32_29 : BitVec 32 := 0#32
  let c1_i32 : BitVec 32 := 1#32
  let arg14 : BitVec 32 := Scf.iv c0_i32_29 c1_i32 k0_t1
  let c16_i32 : BitVec 32 := 16#32
  let v37 : BitVec 32 := Scalar.muli arg14 c16_i32
  let v38 : BitVec 32 := v37
  let v39 : Index := Scalar.indexCast v38
  let c0_34 : Index := 0#32
  ![v39.toNat, 0]
def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

@[reducible] def k0_t2_loop : Scf.Loop 32 :=
  let c0_i32_24 : BitVec 32 := 0#32
  let c64_i32 : BitVec 32 := 64#32
  let v28 : BitVec 32 := Scalar.addi c0_i32_24 c64_i32
  let c1_i32 : BitVec 32 := 1#32
  ⟨c0_i32_24, v28, c1_i32⟩
def k0_mult2 (k0_t2 : Fin k0_t2_loop.trips) : BitVec 32 :=
  let c0_i32_24 : BitVec 32 := 0#32
  let c1_i32 : BitVec 32 := 1#32
  let arg14 : BitVec 32 := Scf.iv c0_i32_24 c1_i32 k0_t2
  let c8_i32 : BitVec 32 := 8#32
  let v29 : BitVec 32 := Scalar.muli arg14 c8_i32
  v29
def k0_off2 (k0_t2 : Fin k0_t2_loop.trips) : Fin 2 → Nat :=
  let c0_i32_24 : BitVec 32 := 0#32
  let c1_i32 : BitVec 32 := 1#32
  let arg14 : BitVec 32 := Scf.iv c0_i32_24 c1_i32 k0_t2
  let c8_i32 : BitVec 32 := 8#32
  let v29 : BitVec 32 := Scalar.muli arg14 c8_i32
  let v30 : BitVec 32 := v29
  let v31 : Index := Scalar.indexCast v30
  let c0_26 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c3_i32 : BitVec 32 := 3#32
  let c0_i32_6 : BitVec 32 := 0#32
  ![c0_i32_4.toNat, v16.toNat, c0_i32_5.toNat, c3_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c4_i32 : BitVec 32 := 4#32
  let c0_i32_6 : BitVec 32 := 0#32
  ![c0_i32_4.toNat, v16.toNat, c0_i32_5.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c5_i32 : BitVec 32 := 5#32
  let c0_i32_6 : BitVec 32 := 0#32
  ![c0_i32_4.toNat, v16.toNat, c0_i32_5.toNat, c5_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x2048 : Shape := ⟨2, ![16384, 2048]⟩
abbrev S1x2048 : Shape := ⟨2, ![1, 2048]⟩
abbrev S4x8x1x12288 : Shape := ⟨4, ![4, 8, 1, 12288]⟩
abbrev S4x2048x11264 : Shape := ⟨3, ![4, 2048, 11264]⟩
abbrev S4x5632x2048 : Shape := ⟨3, ![4, 5632, 2048]⟩
abbrev S1x4x1x2048 : Shape := ⟨4, ![1, 4, 1, 2048]⟩
abbrev S4x1x2048 : Shape := ⟨3, ![4, 1, 2048]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4096x5632 : Shape := ⟨3, ![4, 4096, 5632]⟩
abbrev S1x5632x2048 : Shape := ⟨3, ![1, 5632, 2048]⟩
abbrev S5632x2048 : Shape := ⟨2, ![5632, 2048]⟩

abbrev nBuf : Space → Nat
  | .hbm => 78
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S4x8x1x12288, .f32⟩
  | .hbm, ⟨4, _⟩ => ⟨S4x2048x11264, .bf16⟩
  | .hbm, ⟨5, _⟩ => ⟨S4x5632x2048, .bf16⟩
  | .hbm, ⟨6, _⟩ => ⟨S1x4x1x2048, .f32⟩
  | .hbm, ⟨7, _⟩ => ⟨S4x1x2048, .f32⟩
  | .hbm, ⟨8, _⟩ => ⟨S1x4x1x2048, .f32⟩
  | .hbm, ⟨9, _⟩ => ⟨S4x1x2048, .f32⟩
  | .hbm, ⟨10, _⟩ => ⟨S1x4x1x2048, .f32⟩
  | .hbm, ⟨11, _⟩ => ⟨S4x1x2048, .f32⟩
  | .hbm, ⟨12, _⟩ => ⟨S4x4096x2048, .f32⟩
  | .hbm, ⟨13, _⟩ => ⟨S2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S1x2048x11264, .bf16⟩
  | .hbm, ⟨38, _⟩ => ⟨S2048x11264, .bf16⟩
  | .hbm, ⟨39, _⟩ => ⟨S2048x11264, .f32⟩
  | .hbm, ⟨40, _⟩ => ⟨S4x4096x11264, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S_, .f32⟩
  | .hbm, ⟨45, _⟩ => ⟨S4x4096x5632, .f32⟩
  | .hbm, ⟨46, _⟩ => ⟨S4x4096x5632, .f32⟩
  | .hbm, ⟨47, _⟩ => ⟨S_, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S1x5632x2048, .bf16⟩
  | .hbm, ⟨54, _⟩ => ⟨S5632x2048, .bf16⟩
  | .hbm, ⟨55, _⟩ => ⟨S5632x2048, .f32⟩
  | .hbm, ⟨56, _⟩ => ⟨S4x4096x2048, .f32⟩
  | .hbm, ⟨57, _⟩ => ⟨S2048, .f32⟩
  | .hbm, ⟨58, _⟩ => ⟨S4x4096x2048, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1, .f32⟩
  | .hbm, ⟨69, _⟩ => ⟨S4x4096x2048, .f32⟩
  | .hbm, ⟨70, _⟩ => ⟨S4x4096x2048, .f32⟩
  | .hbm, ⟨71, _⟩ => ⟨S1x1x2048, .f32⟩
  | .hbm, ⟨72, _⟩ => ⟨S4x4096x2048, .f32⟩
  | .hbm, ⟨73, _⟩ => ⟨S4x4096x2048, .f32⟩
  | .hbm, ⟨74, _⟩ => ⟨S4x4096x2048, .f32⟩
  | .hbm, ⟨75, _⟩ => ⟨S4x4096x2048, .f32⟩
  | .hbm, ⟨76, _⟩ => ⟨S4x4096x2048, .f32⟩
  | .hbm, ⟨77, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S4x8x1x12288 : Shape := ⟨4, ![4, 8, 1, 12288]⟩
abbrev S4x2048x4096 : Shape := ⟨3, ![4, 2048, 4096]⟩
abbrev S16384x4096 : Shape := ⟨2, ![16384, 4096]⟩
abbrev S1024x2048 : Shape := ⟨2, ![1024, 2048]⟩
abbrev S1x1x1x2048 : Shape := ⟨4, ![1, 1, 1, 2048]⟩
abbrev S1x2048x2048 : Shape := ⟨3, ![1, 2048, 2048]⟩
abbrev S16x2048 : Shape := ⟨2, ![16, 2048]⟩
abbrev S16 : Shape := ⟨1, ![16]⟩
abbrev S16x1 : Shape := ⟨2, ![16, 1]⟩
abbrev S2048x2048 : Shape := ⟨2, ![2048, 2048]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x8x1x12288, .f32⟩
  | .hbm, ⟨3, _⟩ => ⟨S4x2048x4096, .bf16⟩
  | .hbm, ⟨4, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048x2048, .bf16⟩
  | .local _ .vmem, ⟨8, _⟩ => ⟨S1x2048x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c64_i32 : BitVec 32 := 64#32
  let v16 : BitVec 32 := Scalar.addi c0_i32_18 c64_i32
  let c1_i32 : BitVec 32 := 1#32
  ⟨c0_i32_18, v16, c1_i32⟩
def k0_mult1 (k0_t1 : Fin k0_t1_loop.trips) : BitVec 32 :=
  let c0_i32_18 : BitVec 32 := 0#32
  let c1_i32 : BitVec 32 := 1#32
  let arg9 : BitVec 32 := Scf.iv c0_i32_18 c1_i32 k0_t1
  let c16_i32 : BitVec 32 := 16#32
  let v17 : BitVec 32 := Scalar.muli arg9 c16_i32
  v17
def k0_off1 (k0_t1 : Fin k0_t1_loop.trips) : Fin 2 → Nat :=
  let c0_i32_18 : BitVec 32 := 0#32
  let c1_i32 : BitVec 32 := 1#32
  let arg9 : BitVec 32 := Scf.iv c0_i32_18 c1_i32 k0_t1
  let c16_i32 : BitVec 32 := 16#32
  let v17 : BitVec 32 := Scalar.muli arg9 c16_i32
  let v18 : BitVec 32 := v17
  let v19 : Index := Scalar.indexCast v18
  let c0_20 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c1_i32_6 : BitVec 32 := 1#32
  let c0_i32_7 : BitVec 32 := 0#32
  ![c0_i32_4.toNat, v16.toNat, c0_i32_5.toNat, c1_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x2048 : Shape := ⟨2, ![16384, 2048]⟩
abbrev S1x2048 : Shape := ⟨2, ![1, 2048]⟩
abbrev S4x8x1x12288 : Shape := ⟨4, ![4, 8, 1, 12288]⟩
abbrev S4x2048x4096 : Shape := ⟨3, ![4, 2048, 4096]⟩
abbrev S1x4x1x2048 : Shape := ⟨4, ![1, 4, 1, 2048]⟩
abbrev S4x1x2048 : Shape := ⟨3, ![4, 1, 2048]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x4096 : Shape := ⟨3, ![1, 2048, 4096]⟩
abbrev S2048x4096 : Shape := ⟨2, ![2048, 4096]⟩
abbrev S4x4096x4096 : Shape := ⟨3, ![4, 4096, 4096]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x8x1x12288, .f32⟩
  | .hbm, ⟨3, _⟩ => ⟨S4x2048x4096, .bf16⟩
  | .hbm, ⟨4, _⟩ => ⟨S1x4x1x2048, .f32⟩
  | .hbm, ⟨5, _⟩ => ⟨S4x1x2048, .f32⟩
  | .hbm, ⟨6, _⟩ => ⟨S1x4x1x2048, .f32⟩
  | .hbm, ⟨7, _⟩ => ⟨S4x1x2048, .f32⟩
  | .hbm, ⟨8, _⟩ => ⟨S4x4096x2048, .f32⟩
  | .hbm, ⟨9, _⟩ => ⟨S2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S1x2048x4096, .bf16⟩
  | .hbm, ⟨34, _⟩ => ⟨S2048x4096, .bf16⟩
  | .hbm, ⟨35, _⟩ => ⟨S2048x4096, .f32⟩
  | .hbm, ⟨36, _⟩ => ⟨S4x4096x4096, .f32⟩
  | .hbm, ⟨37, _⟩ => ⟨S16384x4096, .f32⟩
  | .hbm, ⟨38, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel4.lean ====
abbrev S16384x512 : Shape := ⟨2, ![16384, 512]⟩
abbrev S4x2048x2048 : Shape := ⟨3, ![4, 2048, 2048]⟩
abbrev S16384x2048 : Shape := ⟨2, ![16384, 2048]⟩
abbrev S1x2048 : Shape := ⟨2, ![1, 2048]⟩
abbrev S4x8x1x12288 : Shape := ⟨4, ![4, 8, 1, 12288]⟩
abbrev S512x512 : Shape := ⟨2, ![512, 512]⟩
abbrev S1x2048x2048 : Shape := ⟨3, ![1, 2048, 2048]⟩
abbrev S512x2048 : Shape := ⟨2, ![512, 2048]⟩
abbrev S1x1x1x2048 : Shape := ⟨4, ![1, 1, 1, 2048]⟩
abbrev S1x512x2048 : Shape := ⟨3, ![1, 512, 2048]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S4x2048x2048, .bf16⟩
  | .hbm, ⟨5, _⟩ => ⟨S16384x2048, .f32⟩
  | .hbm, ⟨6, _⟩ => ⟨S1x2048, .f32⟩
  | .hbm, ⟨7, _⟩ => ⟨S4x8x1x12288, .f32⟩
  | .hbm, ⟨8, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S512x2048, .f32⟩
  | .local _ .vmem, ⟨15, _⟩ => ⟨S512x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c2_i32 : BitVec 32 := 2#32
  let c0_i32_6 : BitVec 32 := 0#32
  ![c0_i32_4.toNat, v16.toNat, c0_i32_5.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x512 : Shape := ⟨2, ![16384, 512]⟩
abbrev S4x2048x2048 : Shape := ⟨3, ![4, 2048, 2048]⟩
abbrev S16384x2048 : Shape := ⟨2, ![16384, 2048]⟩
abbrev S1x2048 : Shape := ⟨2, ![1, 2048]⟩
abbrev S4x8x1x12288 : Shape := ⟨4, ![4, 8, 1, 12288]⟩
abbrev S1x4x1x2048 : Shape := ⟨4, ![1, 4, 1, 2048]⟩
abbrev S4x1x2048 : Shape := ⟨3, ![4, 1, 2048]⟩
abbrev S4x4096x512 : Shape := ⟨3, ![4, 4096, 512]⟩
abbrev S4x4096x2048 : Shape := ⟨3, ![4, 4096, 2048]⟩
abbrev S1x2048x2048 : Shape := ⟨3, ![1, 2048, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S4x2048x2048, .bf16⟩
  | .hbm, ⟨5, _⟩ => ⟨S16384x2048, .f32⟩
  | .hbm, ⟨6, _⟩ => ⟨S1x2048, .f32⟩
  | .hbm, ⟨7, _⟩ => ⟨S4x8x1x12288, .f32⟩
  | .hbm, ⟨8, _⟩ => ⟨S1x4x1x2048, .f32⟩
  | .hbm, ⟨9, _⟩ => ⟨S4x1x2048, .f32⟩
  | .hbm, ⟨10, _⟩ => ⟨S16384x512, .f32⟩
  | .hbm, ⟨11, _⟩ => ⟨S4x4096x512, .f32⟩
  | .hbm, ⟨12, _⟩ => ⟨S16384x512, .f32⟩
  | .hbm, ⟨13, _⟩ => ⟨S4x4096x512, .f32⟩
  | .hbm, ⟨14, _⟩ => ⟨S16384x512, .f32⟩
  | .hbm, ⟨15, _⟩ => ⟨S4x4096x512, .f32⟩
  | .hbm, ⟨16, _⟩ => ⟨S16384x512, .f32⟩
  | .hbm, ⟨17, _⟩ => ⟨S4x4096x512, .f32⟩
  | .hbm, ⟨18, _⟩ => ⟨S4x4096x2048, .f32⟩
  | .hbm, ⟨19, _⟩ => ⟨S1x2048x2048, .bf16⟩
  | .hbm, ⟨20, _⟩ => ⟨S2048x2048, .bf16⟩
  | .hbm, ⟨21, _⟩ => ⟨S2048x2048, .f32⟩
  | .hbm, ⟨22, _⟩ => ⟨S4x4096x2048, .f32⟩
  | .hbm, ⟨23, _⟩ => ⟨S4x4096x2048, .f32⟩
  | .hbm, ⟨24, _⟩ => ⟨S2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x2048, .f32⟩
  | .hbm, ⟨37, _⟩ => ⟨S4x4096x2048, .f32⟩
  | .hbm, ⟨38, _⟩ => ⟨S1x1x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel5.lean ====
abbrev S1024x16384 : Shape := ⟨2, ![1024, 16384]⟩
abbrev S1024x1024 : Shape := ⟨2, ![1024, 1024]⟩
abbrev S512x1024 : Shape := ⟨2, ![512, 1024]⟩
abbrev S16384x1024 : Shape := ⟨2, ![16384, 1024]⟩
abbrev S512x16384 : Shape := ⟨2, ![512, 16384]⟩
abbrev S16384x512 : Shape := ⟨2, ![16384, 512]⟩
abbrev S256x1024 : Shape := ⟨2, ![256, 1024]⟩
abbrev S256x256 : Shape := ⟨2, ![256, 256]⟩
abbrev S128x256 : Shape := ⟨2, ![128, 256]⟩
abbrev S4096x256 : Shape := ⟨2, ![4096, 256]⟩
abbrev S128x4096 : Shape := ⟨2, ![128, 4096]⟩
abbrev S1024x128 : Shape := ⟨2, ![1024, 128]⟩
abbrev S4352x256 : Shape := ⟨2, ![4352, 256]⟩
abbrev S8x256 : Shape := ⟨2, ![8, 256]⟩
abbrev S32x8x256 : Shape := ⟨3, ![32, 8, 256]⟩
abbrev S512x256 : Shape := ⟨2, ![512, 256]⟩
abbrev S64x8x256 : Shape := ⟨3, ![64, 8, 256]⟩
abbrev S256 : Shape := ⟨1, ![256]⟩
abbrev S1x256 : Shape := ⟨2, ![1, 256]⟩
abbrev S256x128 : Shape := ⟨2, ![256, 128]⟩

abbrev nBuf : Space → Nat
  | .hbm => 6
  | .vmem => 20
  | .smem => 0
  | _ => 0

abbrev bufTy : (tb : Table) → Fin (tcTables nBuf tb) → BufTy
  | .hbm, ⟨0, _⟩ => ⟨S1024x16384, .bf16⟩
  | .hbm, ⟨1, _⟩ => ⟨S1024x1024, .bf16⟩
  | .hbm, ⟨2, _⟩ => ⟨S512x1024, .bf16⟩
  | .hbm, ⟨3, _⟩ => ⟨S16384x1024, .bf16⟩
  | .hbm, ⟨4, _⟩ => ⟨S512x16384, .bf16⟩
  | .hbm, ⟨5, _⟩ => ⟨S16384x512, .bf16⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S4096x256, .bf16⟩
  | .local _ .vmem, ⟨7, _⟩ => ⟨S4096x256, .bf16⟩
  | .local _ .vmem, ⟨8, _⟩ => ⟨S128x4096, .bf16⟩
  | .local _ .vmem, ⟨9, _⟩ => ⟨S128x4096, .bf16⟩
  | .local _ .vmem, ⟨10, _⟩ => ⟨S1024x128, .bf16⟩
  | .local _ .vmem, ⟨11, _⟩ => ⟨S1024x128, .bf16⟩
  | .local _ .vmem, ⟨12, _⟩ => ⟨S4352x256, .f32⟩
  | .local _ .vmem, ⟨13, _⟩ => ⟨S4352x256, .f32⟩
  | .local _ .vmem, ⟨14, _⟩ => ⟨S4352x256, .f32⟩
  | .local _ .vmem, ⟨15, _⟩ => ⟨S4352x256, .f32⟩
  | .local _ .vmem, ⟨16, _⟩ => ⟨S4352x256, .bf16⟩
  | .local _ .vmem, ⟨17, _⟩ => ⟨S4352x256, .bf16⟩
  | .local _ .vmem, ⟨18, _⟩ => ⟨S4352x256, .bf16⟩
  | .local _ .vmem, ⟨19, _⟩ => ⟨S4352x256, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S1024x16384 : Shape := ⟨2, ![1024, 16384]⟩
abbrev S1024x1024 : Shape := ⟨2, ![1024, 1024]⟩
abbrev S512x1024 : Shape := ⟨2, ![512, 1024]⟩
abbrev S16384x1024 : Shape := ⟨2, ![16384, 1024]⟩
abbrev S512x16384 : Shape := ⟨2, ![512, 16384]⟩
abbrev S4x4096x4x256 : Shape := ⟨4, ![4, 4096, 4, 256]⟩
abbrev S4x256x4x256 : Shape := ⟨4, ![4, 256, 4, 256]⟩
abbrev S4x4352x4x256 : Shape := ⟨4, ![4, 4352, 4, 256]⟩
abbrev S1024x512 : Shape := ⟨2, ![1024, 512]⟩
abbrev S4x256x4x128 : Shape := ⟨4, ![4, 256, 4, 128]⟩
abbrev S16384x512 : Shape := ⟨2, ![16384, 512]⟩
abbrev S4x4096x4x128 : Shape := ⟨4, ![4, 4096, 4, 128]⟩
abbrev S4x4352x4x128 : Shape := ⟨4, ![4, 4352, 4, 128]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 40
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S1024x1024, .bf16⟩
  | .hbm, ⟨2, _⟩ => ⟨S512x1024, .bf16⟩
  | .hbm, ⟨3, _⟩ => ⟨S16384x1024, .bf16⟩
  | .hbm, ⟨4, _⟩ => ⟨S512x16384, .bf16⟩
  | .hbm, ⟨5, _⟩ => ⟨S1024x16384, .f32⟩
  | .hbm, ⟨6, _⟩ => ⟨S16384x1024, .f32⟩
  | .hbm, ⟨7, _⟩ => ⟨S4x4096x4x256, .f32⟩
  | .hbm, ⟨8, _⟩ => ⟨S1024x1024, .f32⟩
  | .hbm, ⟨9, _⟩ => ⟨S4x256x4x256, .f32⟩
  | .hbm, ⟨10, _⟩ => ⟨S16384x1024, .f32⟩
  | .hbm, ⟨11, _⟩ => ⟨S4x4096x4x256, .f32⟩
  | .hbm, ⟨12, _⟩ => ⟨S4x4352x4x256, .f32⟩
  | .hbm, ⟨13, _⟩ => ⟨S512x1024, .f32⟩
  | .hbm, ⟨14, _⟩ => ⟨S1024x512, .f32⟩
  | .hbm, ⟨15, _⟩ => ⟨S4x256x4x128, .f32⟩
  | .hbm, ⟨16, _⟩ => ⟨S512x16384, .f32⟩
  | .hbm, ⟨17, _⟩ => ⟨S16384x512, .f32⟩
  | .hbm, ⟨18, _⟩ => ⟨S4x4096x4x128, .f32⟩
  | .hbm, ⟨19, _⟩ => ⟨S4x4352x4x128, .f32⟩
  | .hbm, ⟨20, _⟩ => ⟨S4x4x4096x4352, .f32⟩
  | .hbm, ⟨21, _⟩ => ⟨S_, .f32⟩
  | .hbm, ⟨22, _⟩ => ⟨S_, .f32⟩
  | .hbm, ⟨23, _⟩ => ⟨S4x4x4096x4352, .f32⟩
  | .hbm, ⟨24, _⟩ => ⟨S4x4x4096x4352, .f32⟩
  | .hbm, ⟨25, _⟩ => ⟨S_, .f32⟩
  | .hbm, ⟨26, _⟩ => ⟨S4x4x4096, .f32⟩
  | .hbm, ⟨27, _⟩ => ⟨S4x4x4096x1, .f32⟩
  | .hbm, ⟨28, _⟩ => ⟨S4x4x4096x4352, .f32⟩
  | .hbm, ⟨29, _⟩ => ⟨S4x4x4096x4352, .f32⟩
  | .hbm, ⟨30, _⟩ => ⟨S4x4x4096x4352, .f32⟩
  | .hbm, ⟨31, _⟩ => ⟨S_, .f32⟩
  | .hbm, ⟨32, _⟩ => ⟨S4x4x4096, .f32⟩
  | .hbm, ⟨33, _⟩ => ⟨S4x4x4096x1, .f32⟩
  | .hbm, ⟨34, _⟩ => ⟨S4x4x4096x4352, .f32⟩
  | .hbm, ⟨35, _⟩ => ⟨S4x4x4096x4352, .f32⟩
  | .hbm, ⟨36, _⟩ => ⟨S4x4x128x4096, .f32⟩
  | .hbm, ⟨37, _⟩ => ⟨S4x4096x4x128, .f32⟩
  | .hbm, ⟨38, _⟩ => ⟨S16384x512, .f32⟩
  | .hbm, ⟨39, _⟩ => ⟨S16384x512, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel6.lean ====
abbrev S2x16384x512 : Shape := ⟨3, ![2, 16384, 512]⟩
abbrev S16384x4096 : Shape := ⟨2, ![16384, 4096]⟩
abbrev S1x512 : Shape := ⟨2, ![1, 512]⟩
abbrev S512x512 : Shape := ⟨2, ![512, 512]⟩
abbrev S16384x512 : Shape := ⟨2, ![16384, 512]⟩
abbrev S1x1024x512 : Shape := ⟨3, ![1, 1024, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S2x16384x512, .f32⟩
  | .hbm, ⟨1, _⟩ => ⟨S16384x4096, .bf16⟩
  | .hbm, ⟨2, _⟩ => ⟨S1x512, .f32⟩
  | .hbm, ⟨3, _⟩ => ⟨S512x512, .bf16⟩
  | .hbm, ⟨4, _⟩ => ⟨S16384x512, .bf16⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x16384x512 : Shape := ⟨3, ![2, 16384, 512]⟩
abbrev S16384x4096 : Shape := ⟨2, ![16384, 4096]⟩
abbrev S1x512 : Shape := ⟨2, ![1, 512]⟩
abbrev S512x512 : Shape := ⟨2, ![512, 512]⟩
abbrev S16384x512 : Shape := ⟨2, ![16384, 512]⟩
abbrev S4x4096x512 : Shape := ⟨3, ![4, 4096, 512]⟩
abbrev S2x4x4096x512 : Shape := ⟨4, ![2, 4, 4096, 512]⟩
abbrev S1x4x4096x512 : Shape := ⟨4, ![1, 4, 4096, 512]⟩
abbrev S512 : Shape := ⟨1, ![512]⟩
abbrev S1x1x512 : Shape := ⟨3, ![1, 1, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S16384x4096, .bf16⟩
  | .hbm, ⟨2, _⟩ => ⟨S1x512, .f32⟩
  | .hbm, ⟨3, _⟩ => ⟨S512x512, .bf16⟩
  | .hbm, ⟨4, _⟩ => ⟨S16384x512, .bf16⟩
  | .hbm, ⟨5, _⟩ => ⟨S16384x512, .f32⟩
  | .hbm, ⟨6, _⟩ => ⟨S4x4096x512, .f32⟩
  | .hbm, ⟨7, _⟩ => ⟨S2x4x4096x512, .f32⟩
  | .hbm, ⟨8, _⟩ => ⟨S1x4x4096x512, .f32⟩
  | .hbm, ⟨9, _⟩ => ⟨S4x4096x512, .f32⟩
  | .hbm, ⟨10, _⟩ => ⟨S1x4x4096x512, .f32⟩
  | .hbm, ⟨11, _⟩ => ⟨S4x4096x512, .f32⟩
  | .hbm, ⟨12, _⟩ => ⟨S512, .f32⟩
  | .hbm, ⟨13, _⟩ => ⟨S1x1x512, .f32⟩
  | .hbm, ⟨14, _⟩ => ⟨S4x4096x512, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S4x4096x512, .f32⟩
  | .hbm, ⟨19, _⟩ => ⟨S4x4096x512, .f32⟩
  | .hbm, ⟨20, _⟩ => ⟨S_, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S_, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S_, .f32⟩
  | .hbm, ⟨29, _⟩ => ⟨S4x4096x512, .f32⟩
  | .hbm, ⟨30, _⟩ => ⟨S4x4096x512, .f32⟩
  | .hbm, ⟨31, _⟩ => ⟨S_, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S512x512, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S_, .f32⟩
  | .hbm, ⟨40, _⟩ => ⟨S4x4096x512, .f32⟩
  | .hbm, ⟨41, _⟩ => ⟨S4x4096x512, .f32⟩
  | .hbm, ⟨42, _⟩ => ⟨S_, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S16384x512, .f32⟩
  | .hbm, ⟨47, _⟩ => ⟨S16384x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel7.lean ====
abbrev S16384x4096 : Shape := ⟨2, ![16384, 4096]⟩
abbrev S1x512 : Shape := ⟨2, ![1, 512]⟩
abbrev S1x256 : Shape := ⟨2, ![1, 256]⟩
abbrev S512x1024 : Shape := ⟨2, ![512, 1024]⟩
abbrev S256x1024 : Shape := ⟨2, ![256, 1024]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1024x16384 : Shape := ⟨2, ![1024, 16384]⟩
abbrev S16384x1024 : Shape := ⟨2, ![16384, 1024]⟩
abbrev S512x16384 : Shape := ⟨2, ![512, 16384]⟩
abbrev S1024x512 : Shape := ⟨2, ![1024, 512]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1024x256 : Shape := ⟨2, ![1024, 256]⟩
abbrev S128x1024 : Shape := ⟨2, ![128, 1024]⟩

abbrev nBuf : Space → Nat
  | .hbm => 18
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S1x512, .f32⟩
  | .hbm, ⟨2, _⟩ => ⟨S1x256, .f32⟩
  | .hbm, ⟨3, _⟩ => ⟨S512x1024, .bf16⟩
  | .hbm, ⟨4, _⟩ => ⟨S256x1024, .bf16⟩
  | .hbm, ⟨5, _⟩ => ⟨S4096x32, .f32⟩
  | .hbm, ⟨6, _⟩ => ⟨S4096x32, .f32⟩
  | .hbm, ⟨7, _⟩ => ⟨S1x4096x1x32, .f32⟩
  | .hbm, ⟨8, _⟩ => ⟨S1x4096x4x32, .f32⟩
  | .hbm, ⟨9, _⟩ => ⟨S4096x128, .f32⟩
  | .hbm, ⟨10, _⟩ => ⟨S4096x32, .f32⟩
  | .hbm, ⟨11, _⟩ => ⟨S4096x64, .f32⟩
  | .hbm, ⟨12, _⟩ => ⟨S1x4096x1x64, .f32⟩
  | .hbm, ⟨13, _⟩ => ⟨S1x4096x2x64, .f32⟩
  | .hbm, ⟨14, _⟩ => ⟨S4096x128, .f32⟩
  | .hbm, ⟨15, _⟩ => ⟨S1024x16384, .bf16⟩
  | .hbm, ⟨16, _⟩ => ⟨S16384x1024, .bf16⟩
  | .hbm, ⟨17, _⟩ => ⟨S512x16384, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x256, .f32⟩
  | .local _ .vmem, ⟨6, _⟩ => ⟨S512x1024, .bf16⟩
  | .local _ .vmem, ⟨7, _⟩ => ⟨S256x1024, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S16384x4096 : Shape := ⟨2, ![16384, 4096]⟩
abbrev S1x512 : Shape := ⟨2, ![1, 512]⟩
abbrev S1x256 : Shape := ⟨2, ![1, 256]⟩
abbrev S512x1024 : Shape := ⟨2, ![512, 1024]⟩
abbrev S256x1024 : Shape := ⟨2, ![256, 1024]⟩
abbrev S4096x32 : Shape := ⟨2, ![4096, 32]⟩
abbrev S16384x1024 : Shape := ⟨2, ![16384, 1024]⟩
abbrev S4x4096x1024 : Shape := ⟨3, ![4, 4096, 1024]⟩
abbrev S4x4096x512 : Shape := ⟨3, ![4, 4096, 512]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x4x256 : Shape := ⟨4, ![4, 4096, 4, 256]⟩
abbrev S4x4096x256 : Shape := ⟨3, ![4, 4096, 256]⟩
abbrev S256 : Shape := ⟨1, ![256]⟩
abbrev S1x1x256 : Shape := ⟨3, ![1, 1, 256]⟩
abbrev S4x4096x2x4x128 : Shape := ⟨5, ![4, 4096, 2, 4, 128]⟩
abbrev S4096x1x1x32 : Shape := ⟨4, ![4096, 1, 1, 32]⟩
abbrev S4x4096x4x128 : Shape := ⟨4, ![4, 4096, 4, 128]⟩
abbrev S4x4096x4x2x64 : Shape := ⟨5, ![4, 4096, 4, 2, 64]⟩
abbrev S4x4096x4x2x32 : Shape := ⟨5, ![4, 4096, 4, 2, 32]⟩
abbrev S1x4096x1x1x32 : Shape := ⟨5, ![1, 4096, 1, 1, 32]⟩
abbrev S4x4096x128 : Shape := ⟨3, ![4, 4096, 128]⟩
abbrev S4x4096x1x2x64 : Shape := ⟨5, ![4, 4096, 1, 2, 64]⟩
abbrev S4x4096x1x2x32 : Shape := ⟨5, ![4, 4096, 1, 2, 32]⟩
abbrev S4x4096x1x128 : Shape := ⟨4, ![4, 4096, 1, 128]⟩
abbrev S4x4096x1x4x128 : Shape := ⟨5, ![4, 4096, 1, 4, 128]⟩
abbrev S1024x16384 : Shape := ⟨2, ![1024, 16384]⟩
abbrev S16384x512 : Shape := ⟨2, ![16384, 512]⟩
abbrev S512x16384 : Shape := ⟨2, ![512, 16384]⟩

abbrev nBuf : Space → Nat
  | .hbm => 113
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x512, .f32⟩
  | .hbm, ⟨2, _⟩ => ⟨S1x256, .f32⟩
  | .hbm, ⟨3, _⟩ => ⟨S512x1024, .bf16⟩
  | .hbm, ⟨4, _⟩ => ⟨S256x1024, .bf16⟩
  | .hbm, ⟨5, _⟩ => ⟨S4096x32, .f32⟩
  | .hbm, ⟨6, _⟩ => ⟨S4096x32, .f32⟩
  | .hbm, ⟨7, _⟩ => ⟨S16384x1024, .bf16⟩
  | .hbm, ⟨8, _⟩ => ⟨S16384x1024, .f32⟩
  | .hbm, ⟨9, _⟩ => ⟨S4x4096x1024, .f32⟩
  | .hbm, ⟨10, _⟩ => ⟨S4x4096x512, .f32⟩
  | .hbm, ⟨11, _⟩ => ⟨S512, .f32⟩
  | .hbm, ⟨12, _⟩ => ⟨S4x4096x512, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x512, .f32⟩
  | .hbm, ⟨24, _⟩ => ⟨S4x4096x512, .f32⟩
  | .hbm, ⟨25, _⟩ => ⟨S1x1x512, .f32⟩
  | .hbm, ⟨26, _⟩ => ⟨S4x4096x512, .f32⟩
  | .hbm, ⟨27, _⟩ => ⟨S4x4096x512, .f32⟩
  | .hbm, ⟨28, _⟩ => ⟨S512x1024, .f32⟩
  | .hbm, ⟨29, _⟩ => ⟨S4x4096x1024, .f32⟩
  | .hbm, ⟨30, _⟩ => ⟨S4x4096x4x256, .f32⟩
  | .hbm, ⟨31, _⟩ => ⟨S4x4096x256, .f32⟩
  | .hbm, ⟨32, _⟩ => ⟨S256, .f32⟩
  | .hbm, ⟨33, _⟩ => ⟨S4x4096x256, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S1x1x256, .f32⟩
  | .hbm, ⟨47, _⟩ => ⟨S4x4096x256, .f32⟩
  | .hbm, ⟨48, _⟩ => ⟨S4x4096x256, .f32⟩
  | .hbm, ⟨49, _⟩ => ⟨S256x1024, .f32⟩
  | .hbm, ⟨50, _⟩ => ⟨S4x4096x1024, .f32⟩
  | .hbm, ⟨51, _⟩ => ⟨S4x4096x2x4x128, .f32⟩
  | .hbm, ⟨52, _⟩ => ⟨S4096x1x1x32, .f32⟩
  | .hbm, ⟨53, _⟩ => ⟨S4096x1x1x32, .f32⟩
  | .hbm, ⟨54, _⟩ => ⟨S4x4096x4x128, .f32⟩
  | .hbm, ⟨55, _⟩ => ⟨S4x4096x4x2x64, .f32⟩
  | .hbm, ⟨56, _⟩ => ⟨S4x4096x4x2x32, .f32⟩
  | .hbm, ⟨57, _⟩ => ⟨S4x4096x4x2x32, .f32⟩
  | .hbm, ⟨58, _⟩ => ⟨S1x4096x1x1x32, .f32⟩
  | .hbm, ⟨59, _⟩ => ⟨S4x4096x4x2x32, .f32⟩
  | .hbm, ⟨60, _⟩ => ⟨S4x4096x4x2x32, .f32⟩
  | .hbm, ⟨61, _⟩ => ⟨S1x4096x1x1x32, .f32⟩
  | .hbm, ⟨62, _⟩ => ⟨S4x4096x4x2x32, .f32⟩
  | .hbm, ⟨63, _⟩ => ⟨S4x4096x4x2x32, .f32⟩
  | .hbm, ⟨64, _⟩ => ⟨S4x4096x4x2x32, .f32⟩
  | .hbm, ⟨65, _⟩ => ⟨S1x4096x1x1x32, .f32⟩
  | .hbm, ⟨66, _⟩ => ⟨S4x4096x4x2x32, .f32⟩
  | .hbm, ⟨67, _⟩ => ⟨S4x4096x4x2x32, .f32⟩
  | .hbm, ⟨68, _⟩ => ⟨S1x4096x1x1x32, .f32⟩
  | .hbm, ⟨69, _⟩ => ⟨S4x4096x4x2x32, .f32⟩
  | .hbm, ⟨70, _⟩ => ⟨S4x4096x4x2x32, .f32⟩
  | .hbm, ⟨71, _⟩ => ⟨S4x4096x4x2x32, .f32⟩
  | .hbm, ⟨72, _⟩ => ⟨S4x4096x4x2x64, .f32⟩
  | .hbm, ⟨73, _⟩ => ⟨S4x4096x4x128, .f32⟩
  | .hbm, ⟨74, _⟩ => ⟨S4x4096x128, .f32⟩
  | .hbm, ⟨75, _⟩ => ⟨S4x4096x1x2x64, .f32⟩
  | .hbm, ⟨76, _⟩ => ⟨S4x4096x1x2x32, .f32⟩
  | .hbm, ⟨77, _⟩ => ⟨S4x4096x1x2x32, .f32⟩
  | .hbm, ⟨78, _⟩ => ⟨S1x4096x1x1x32, .f32⟩
  | .hbm, ⟨79, _⟩ => ⟨S4x4096x1x2x32, .f32⟩
  | .hbm, ⟨80, _⟩ => ⟨S4x4096x1x2x32, .f32⟩
  | .hbm, ⟨81, _⟩ => ⟨S1x4096x1x1x32, .f32⟩
  | .hbm, ⟨82, _⟩ => ⟨S4x4096x1x2x32, .f32⟩
  | .hbm, ⟨83, _⟩ => ⟨S4x4096x1x2x32, .f32⟩
  | .hbm, ⟨84, _⟩ => ⟨S4x4096x1x2x32, .f32⟩
  | .hbm, ⟨85, _⟩ => ⟨S1x4096x1x1x32, .f32⟩
  | .hbm, ⟨86, _⟩ => ⟨S4x4096x1x2x32, .f32⟩
  | .hbm, ⟨87, _⟩ => ⟨S4x4096x1x2x32, .f32⟩
  | .hbm, ⟨88, _⟩ => ⟨S1x4096x1x1x32, .f32⟩
  | .hbm, ⟨89, _⟩ => ⟨S4x4096x1x2x32, .f32⟩
  | .hbm, ⟨90, _⟩ => ⟨S4x4096x1x2x32, .f32⟩
  | .hbm, ⟨91, _⟩ => ⟨S4x4096x1x2x32, .f32⟩
  | .hbm, ⟨92, _⟩ => ⟨S4x4096x1x2x64, .f32⟩
  | .hbm, ⟨93, _⟩ => ⟨S4x4096x1x128, .f32⟩
  | .hbm, ⟨94, _⟩ => ⟨S4x4096x4x128, .f32⟩
  | .hbm, ⟨95, _⟩ => ⟨S4x4096x4x256, .f32⟩
  | .hbm, ⟨96, _⟩ => ⟨S_, .f32⟩
  | .hbm, ⟨97, _⟩ => ⟨S4x4096x4x256, .f32⟩
  | .hbm, ⟨98, _⟩ => ⟨S4x4096x4x256, .f32⟩
  | .hbm, ⟨99, _⟩ => ⟨S4x4096x1x4x128, .f32⟩
  | .hbm, ⟨100, _⟩ => ⟨S4x4096x4x128, .f32⟩
  | .hbm, ⟨101, _⟩ => ⟨S4x4096x4x128, .f32⟩
  | .hbm, ⟨102, _⟩ => ⟨S4x4096x4x256, .f32⟩
  | .hbm, ⟨103, _⟩ => ⟨S4x4096x1x4x128, .f32⟩
  | .hbm, ⟨104, _⟩ => ⟨S4x4096x4x128, .f32⟩
  | .hbm, ⟨105, _⟩ => ⟨S16384x1024, .f32⟩
  | .hbm, ⟨106, _⟩ => ⟨S1024x16384, .f32⟩
  | .hbm, ⟨107, _⟩ => ⟨S1024x16384, .bf16⟩
  | .hbm, ⟨108, _⟩ => ⟨S16384x1024, .f32⟩
  | .hbm, ⟨109, _⟩ => ⟨S16384x1024, .bf16⟩
  | .hbm, ⟨110, _⟩ => ⟨S16384x512, .f32⟩
  | .hbm, ⟨111, _⟩ => ⟨S512x16384, .f32⟩
  | .hbm, ⟨112, _⟩ => ⟨S512x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_5 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩

abbrev nD : Nat := 1
abbrev τ : Topo := Topo.v7x

variable {F : FTy → Type} [FloatOps F]
-- ==== Kernel8.lean ====
abbrev S16384x4096 : Shape := ⟨2, ![16384, 4096]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S512x16384 : Shape := ⟨2, ![512, 16384]⟩
abbrev S16384x512 : Shape := ⟨2, ![16384, 512]⟩
abbrev S1024x512 : Shape := ⟨2, ![1024, 512]⟩
abbrev S1024x128 : Shape := ⟨2, ![1024, 128]⟩
abbrev S512x1024 : Shape := ⟨2, ![512, 1024]⟩
abbrev S128x1024 : Shape := ⟨2, ![128, 1024]⟩

abbrev nBuf : Space → Nat
  | .hbm => 14
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S4096x32, .f32⟩
  | .hbm, ⟨2, _⟩ => ⟨S4096x32, .f32⟩
  | .hbm, ⟨3, _⟩ => ⟨S1x4096x1x32, .f32⟩
  | .hbm, ⟨4, _⟩ => ⟨S1x4096x4x32, .f32⟩
  | .hbm, ⟨5, _⟩ => ⟨S4096x128, .f32⟩
  | .hbm, ⟨6, _⟩ => ⟨S4096x32, .f32⟩
  | .hbm, ⟨7, _⟩ => ⟨S4096x64, .f32⟩
  | .hbm, ⟨8, _⟩ => ⟨S1x4096x1x64, .f32⟩
  | .hbm, ⟨9, _⟩ => ⟨S1x4096x2x64, .f32⟩
  | .hbm, ⟨10, _⟩ => ⟨S4096x128, .f32⟩
  | .hbm, ⟨11, _⟩ => ⟨S512x16384, .bf16⟩
  | .hbm, ⟨12, _⟩ => ⟨S16384x512, .bf16⟩
  | .hbm, ⟨13, _⟩ => ⟨S512x16384, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | .local _ .vmem, ⟨14, _⟩ => ⟨S512x1024, .bf16⟩
  | .local _ .vmem, ⟨15, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S16384x4096 : Shape := ⟨2, ![16384, 4096]⟩
abbrev S4096x32 : Shape := ⟨2, ![4096, 32]⟩
abbrev S16384x1536 : Shape := ⟨2, ![16384, 1536]⟩
abbrev S16384x512 : Shape := ⟨2, ![16384, 512]⟩
abbrev S4x4096x8x64 : Shape := ⟨4, ![4, 4096, 8, 64]⟩
abbrev S4096x1x32 : Shape := ⟨3, ![4096, 1, 32]⟩
abbrev S4x4096x8x32 : Shape := ⟨4, ![4, 4096, 8, 32]⟩
abbrev S1x4096x1x32 : Shape := ⟨4, ![1, 4096, 1, 32]⟩
abbrev S_ : Shape := ⟨0, ![]⟩
abbrev S512x16384 : Shape := ⟨2, ![512, 16384]⟩

abbrev nBuf : Space → Nat
  | .hbm => 56
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x32, .f32⟩
  | .hbm, ⟨2, _⟩ => ⟨S4096x32, .f32⟩
  | .hbm, ⟨3, _⟩ => ⟨S16384x1536, .bf16⟩
  | .hbm, ⟨4, _⟩ => ⟨S16384x1536, .f32⟩
  | .hbm, ⟨5, _⟩ => ⟨S16384x512, .f32⟩
  | .hbm, ⟨6, _⟩ => ⟨S4x4096x8x64, .f32⟩
  | .hbm, ⟨7, _⟩ => ⟨S16384x512, .f32⟩
  | .hbm, ⟨8, _⟩ => ⟨S4x4096x8x64, .f32⟩
  | .hbm, ⟨9, _⟩ => ⟨S4096x1x32, .f32⟩
  | .hbm, ⟨10, _⟩ => ⟨S4096x1x32, .f32⟩
  | .hbm, ⟨11, _⟩ => ⟨S4x4096x8x32, .f32⟩
  | .hbm, ⟨12, _⟩ => ⟨S4x4096x8x32, .f32⟩
  | .hbm, ⟨13, _⟩ => ⟨S1x4096x1x32, .f32⟩
  | .hbm, ⟨14, _⟩ => ⟨S4x4096x8x32, .f32⟩
  | .hbm, ⟨15, _⟩ => ⟨S4x4096x8x32, .f32⟩
  | .hbm, ⟨16, _⟩ => ⟨S1x4096x1x32, .f32⟩
  | .hbm, ⟨17, _⟩ => ⟨S4x4096x8x32, .f32⟩
  | .hbm, ⟨18, _⟩ => ⟨S4x4096x8x32, .f32⟩
  | .hbm, ⟨19, _⟩ => ⟨S4x4096x8x32, .f32⟩
  | .hbm, ⟨20, _⟩ => ⟨S1x4096x1x32, .f32⟩
  | .hbm, ⟨21, _⟩ => ⟨S4x4096x8x32, .f32⟩
  | .hbm, ⟨22, _⟩ => ⟨S4x4096x8x32, .f32⟩
  | .hbm, ⟨23, _⟩ => ⟨S1x4096x1x32, .f32⟩
  | .hbm, ⟨24, _⟩ => ⟨S4x4096x8x32, .f32⟩
  | .hbm, ⟨25, _⟩ => ⟨S4x4096x8x32, .f32⟩
  | .hbm, ⟨26, _⟩ => ⟨S4x4096x8x32, .f32⟩
  | .hbm, ⟨27, _⟩ => ⟨S4x4096x8x64, .f32⟩
  | .hbm, ⟨28, _⟩ => ⟨S_, .f32⟩
  | .hbm, ⟨29, _⟩ => ⟨S4x4096x8x64, .f32⟩
  | .hbm, ⟨30, _⟩ => ⟨S4x4096x8x64, .f32⟩
  | .hbm, ⟨31, _⟩ => ⟨S16384x512, .f32⟩
  | .hbm, ⟨32, _⟩ => ⟨S512x16384, .f32⟩
  | .hbm, ⟨33, _⟩ => ⟨S512x16384, .bf16⟩
  | .hbm, ⟨34, _⟩ => ⟨S4x4096x8x32, .f32⟩
  | .hbm, ⟨35, _⟩ => ⟨S4x4096x8x32, .f32⟩
  | .hbm, ⟨36, _⟩ => ⟨S1x4096x1x32, .f32⟩
  | .hbm, ⟨37, _⟩ => ⟨S4x4096x8x32, .f32⟩
  | .hbm, ⟨38, _⟩ => ⟨S4x4096x8x32, .f32⟩
  | .hbm, ⟨39, _⟩ => ⟨S1x4096x1x32, .f32⟩
  | .hbm, ⟨40, _⟩ => ⟨S4x4096x8x32, .f32⟩
  | .hbm, ⟨41, _⟩ => ⟨S4x4096x8x32, .f32⟩
  | .hbm, ⟨42, _⟩ => ⟨S4x4096x8x32, .f32⟩
  | .hbm, ⟨43, _⟩ => ⟨S1x4096x1x32, .f32⟩
  | .hbm, ⟨44, _⟩ => ⟨S4x4096x8x32, .f32⟩
  | .hbm, ⟨45, _⟩ => ⟨S4x4096x8x32, .f32⟩
  | .hbm, ⟨46, _⟩ => ⟨S1x4096x1x32, .f32⟩
  | .hbm, ⟨47, _⟩ => ⟨S4x4096x8x32, .f32⟩
  | .hbm, ⟨48, _⟩ => ⟨S4x4096x8x32, .f32⟩
  | .hbm, ⟨49, _⟩ => ⟨S4x4096x8x32, .f32⟩
  | .hbm, ⟨50, _⟩ => ⟨S4x4096x8x64, .f32⟩
  | .hbm, ⟨51, _⟩ => ⟨S16384x512, .f32⟩
  | .hbm, ⟨52, _⟩ => ⟨S16384x512, .bf16⟩
  | .hbm, ⟨53, _⟩ => ⟨S16384x512, .f32⟩
  | .hbm, ⟨54, _⟩ => ⟨S512x16384, .f32⟩
  | .hbm, ⟨55, _⟩ => ⟨S512x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩

abbrev nD : Nat := 1
abbrev τ : Topo := Topo.v7x

variable {F : FTy → Type} [FloatOps F]
-- ==== Kernel9.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel10.lean ====
abbrev S16384x4096 : Shape := ⟨2, ![16384, 4096]⟩
abbrev S32x512 : Shape := ⟨2, ![32, 512]⟩
abbrev S1x512 : Shape := ⟨2, ![1, 512]⟩
abbrev S16384x512 : Shape := ⟨2, ![16384, 512]⟩
abbrev S16x512 : Shape := ⟨2, ![16, 512]⟩
abbrev S512x512 : Shape := ⟨2, ![512, 512]⟩
abbrev S544x512 : Shape := ⟨2, ![544, 512]⟩
abbrev S536x512 : Shape := ⟨2, ![536, 512]⟩
abbrev S512 : Shape := ⟨1, ![512]⟩
abbrev S512x1 : Shape := ⟨2, ![512, 1]⟩

abbrev nBuf : Space → Nat
  | .hbm => 6
  | .vmem => 26
  | .smem => 0
  | _ => 0

abbrev bufTy : (tb : Table) → Fin (tcTables nBuf tb) → BufTy
  | .hbm, ⟨0, _⟩ => ⟨S16384x4096, .bf16⟩
  | .hbm, ⟨1, _⟩ => ⟨S32x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S16384x512, .bf16⟩
  | .local _ .vmem, ⟨0, _⟩ => ⟨S16x512, .bf16⟩
  | .local _ .vmem, ⟨1, _⟩ => ⟨S16x512, .bf16⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | .local _ .vmem, ⟨18, _⟩ => ⟨S544x512, .f32⟩
  | .local _ .vmem, ⟨19, _⟩ => ⟨S544x512, .f32⟩
  | .local _ .vmem, ⟨20, _⟩ => ⟨S544x512, .f32⟩
  | .local _ .vmem, ⟨21, _⟩ => ⟨S544x512, .f32⟩
  | .local _ .vmem, ⟨22, _⟩ => ⟨S544x512, .f32⟩
  | .local _ .vmem, ⟨23, _⟩ => ⟨S544x512, .f32⟩
  | .local _ .vmem, ⟨24, _⟩ => ⟨S544x512, .f32⟩
  | .local _ .vmem, ⟨25, _⟩ => ⟨S544x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c6_i32 : BitVec 32 := 6#32
  let c0_i32_0 : BitVec 32 := 0#32
  ![v4.toNat, c6_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c1023_i32 : BitVec 32 := 1023#32
  let v4 : BitVec 32 := Scalar.minsi v3 c1023_i32
  let c6_i32 : BitVec 32 := 6#32
  let c0_i32 : BitVec 32 := 0#32
  ![v4.toNat, c6_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c7_i32 : BitVec 32 := 7#32
  let c0_i32_0 : BitVec 32 := 0#32
  ![v4.toNat, c7_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c1023_i32 : BitVec 32 := 1023#32
  let v4 : BitVec 32 := Scalar.minsi v3 c1023_i32
  let c7_i32 : BitVec 32 := 7#32
  let c0_i32 : BitVec 32 := 0#32
  ![v4.toNat, c7_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference10Ideal.lean ====
abbrev S16384x4096 : Shape := ⟨2, ![16384, 4096]⟩
abbrev S32x512 : Shape := ⟨2, ![32, 512]⟩
abbrev S1x512 : Shape := ⟨2, ![1, 512]⟩
abbrev S16384x1024 : Shape := ⟨2, ![16384, 1024]⟩
abbrev S4x4096x1024 : Shape := ⟨3, ![4, 4096, 1024]⟩
abbrev S4x4096x512 : Shape := ⟨3, ![4, 4096, 512]⟩
abbrev S_ : Shape := ⟨0, ![]⟩
abbrev S4x4126x512 : Shape := ⟨3, ![4, 4126, 512]⟩
abbrev S512 : Shape := ⟨1, ![512]⟩
abbrev S1x1x512 : Shape := ⟨3, ![1, 1, 512]⟩
abbrev S4x4096 : Shape := ⟨2, ![4, 4096]⟩
abbrev S4x4096x1 : Shape := ⟨3, ![4, 4096, 1]⟩
abbrev S16384x512 : Shape := ⟨2, ![16384, 512]⟩

abbrev nBuf : Space → Nat
  | .hbm => 282
  | .vmem => 0
  | .smem => 0
  | _ => 0

abbrev hbmTy0_0 (i : Nat) : BufTy := match i % 128 with
  | 0 => ⟨S16384x4096, .bf16⟩
  | 1 => ⟨S32x512, .f32⟩
  | 2 => ⟨S1x512, .f32⟩
  | 3 => ⟨S1x512, .f32⟩
  | 4 => ⟨S1x512, .f32⟩
  | 5 => ⟨S16384x1024, .bf16⟩
  | 6 => ⟨S16384x1024, .f32⟩
  | 7 => ⟨S4x4096x1024, .f32⟩
  | 8 => ⟨S4x4096x512, .f32⟩
  | 9 => ⟨S4x4096x512, .f32⟩
  | 10 => ⟨S4x4096x512, .f32⟩
  | 11 => ⟨S4x4096x512, .f32⟩
  | 12 => ⟨S_, .f32⟩
  | 13 => ⟨S4x4096x512, .f32⟩
  | 14 => ⟨S4x4096x512, .f32⟩
  | 15 => ⟨S_, .f32⟩
  | 16 => ⟨S4x4096x512, .f32⟩
  | 17 => ⟨S4x4096x512, .f32⟩
  | 18 => ⟨S4x4096x512, .f32⟩
  | 19 => ⟨S_, .i32⟩
  | 20 => ⟨S_, .f32⟩
  | 21 => ⟨S4x4126x512, .f32⟩
  | 22 => ⟨S1x512, .f32⟩
  | 23 => ⟨S512, .f32⟩
  | 24 => ⟨S4x4096x512, .f32⟩
  | 25 => ⟨S1x1x512, .f32⟩
  | 26 => ⟨S4x4096x512, .f32⟩
  | 27 => ⟨S4x4096x512, .f32⟩
  | 28 => ⟨S_, .f32⟩
  | 29 => ⟨S4x4096x512, .f32⟩
  | 30 => ⟨S4x4096x512, .f32⟩
  | 31 => ⟨S1x512, .f32⟩
  | 32 => ⟨S512, .f32⟩
  | 33 => ⟨S4x4096x512, .f32⟩
  | 34 => ⟨S1x1x512, .f32⟩
  | 35 => ⟨S4x4096x512, .f32⟩
  | 36 => ⟨S4x4096x512, .f32⟩
  | 37 => ⟨S4x4096x512, .f32⟩
  | 38 => ⟨S1x512, .f32⟩
  | 39 => ⟨S512, .f32⟩
  | 40 => ⟨S4x4096x512, .f32⟩
  | 41 => ⟨S1x1x512, .f32⟩
  | 42 => ⟨S4x4096x512, .f32⟩
  | 43 => ⟨S4x4096x512, .f32⟩
  | 44 => ⟨S4x4096x512, .f32⟩
  | 45 => ⟨S1x512, .f32⟩
  | 46 => ⟨S512, .f32⟩
  | 47 => ⟨S4x4096x512, .f32⟩
  | 48 => ⟨S1x1x512, .f32⟩
  | 49 => ⟨S4x4096x512, .f32⟩
  | 50 => ⟨S4x4096x512, .f32⟩
  | 51 => ⟨S4x4096x512, .f32⟩
  | 52 => ⟨S1x512, .f32⟩
  | 53 => ⟨S512, .f32⟩
  | 54 => ⟨S4x4096x512, .f32⟩
  | 55 => ⟨S1x1x512, .f32⟩
  | 56 => ⟨S4x4096x512, .f32⟩
  | 57 => ⟨S4x4096x512, .f32⟩
  | 58 => ⟨S4x4096x512, .f32⟩
  | 59 => ⟨S1x512, .f32⟩
  | 60 => ⟨S512, .f32⟩
  | 61 => ⟨S4x4096x512, .f32⟩
  | 62 => ⟨S1x1x512, .f32⟩
  | 63 => ⟨S4x4096x512, .f32⟩
  | 64 => ⟨S4x4096x512, .f32⟩
  | 65 => ⟨S4x4096x512, .f32⟩
  | 66 => ⟨S1x512, .f32⟩
  | 67 => ⟨S512, .f32⟩
  | 68 => ⟨S4x4096x512, .f32⟩
  | 69 => ⟨S1x1x512, .f32⟩
  | 70 => ⟨S4x4096x512, .f32⟩
  | 71 => ⟨S4x4096x512, .f32⟩
  | 72 => ⟨S4x4096x512, .f32⟩
  | 73 => ⟨S1x512, .f32⟩
  | 74 => ⟨S512, .f32⟩
  | 75 => ⟨S4x4096x512, .f32⟩
  | 76 => ⟨S1x1x512, .f32⟩
  | 77 => ⟨S4x4096x512, .f32⟩
  | 78 => ⟨S4x4096x512, .f32⟩
  | 79 => ⟨S4x4096x512, .f32⟩
  | 80 => ⟨S1x512, .f32⟩
  | 81 => ⟨S512, .f32⟩
  | 82 => ⟨S4x4096x512, .f32⟩
  | 83 => ⟨S1x1x512, .f32⟩
  | 84 => ⟨S4x4096x512, .f32⟩
  | 85 => ⟨S4x4096x512, .f32⟩
  | 86 => ⟨S4x4096x512, .f32⟩
  | 87 => ⟨S1x512, .f32⟩
  | 88 => ⟨S512, .f32⟩
  | 89 => ⟨S4x4096x512, .f32⟩
  | 90 => ⟨S1x1x512, .f32⟩
  | 91 => ⟨S4x4096x512, .f32⟩
  | 92 => ⟨S4x4096x512, .f32⟩
  | 93 => ⟨S4x4096x512, .f32⟩
  | 94 => ⟨S1x512, .f32⟩
  | 95 => ⟨S512, .f32⟩
  | 96 => ⟨S4x4096x512, .f32⟩
  | 97 => ⟨S1x1x512, .f32⟩
  | 98 => ⟨S4x4096x512, .f32⟩
  | 99 => ⟨S4x4096x512, .f32⟩
  | 100 => ⟨S4x4096x512, .f32⟩
  | 101 => ⟨S1x512, .f32⟩
  | 102 => ⟨S512, .f32⟩
  | 103 => ⟨S4x4096x512, .f32⟩
  | 104 => ⟨S1x1x512, .f32⟩
  | 105 => ⟨S4x4096x512, .f32⟩
  | 106 => ⟨S4x4096x512, .f32⟩
  | 107 => ⟨S4x4096x512, .f32⟩
  | 108 => ⟨S1x512, .f32⟩
  | 109 => ⟨S512, .f32⟩
  | 110 => ⟨S4x4096x512, .f32⟩
  | 111 => ⟨S1x1x512, .f32⟩
  | 112 => ⟨S4x4096x512, .f32⟩
  | 113 => ⟨S4x4096x512, .f32⟩
  | 114 => ⟨S4x4096x512, .f32⟩
  | 115 => ⟨S1x512, .f32⟩
  | 116 => ⟨S512, .f32⟩
  | 117 => ⟨S4x4096x512, .f32⟩
  | 118 => ⟨S1x1x512, .f32⟩
  | 119 => ⟨S4x4096x512, .f32⟩
  | 120 => ⟨S4x4096x512, .f32⟩
  | 121 => ⟨S4x4096x512, .f32⟩
  | 122 => ⟨S1x512, .f32⟩
  | 123 => ⟨S512, .f32⟩
  | 124 => ⟨S4x4096x512, .f32⟩
  | 125 => ⟨S1x1x512, .f32⟩
  | 126 => ⟨S4x4096x512, .f32⟩
  | 127 => ⟨S4x4096x512, .f32⟩
  | _ => ⟨S16384x4096, .bf16⟩

abbrev hbmTy0_1 (i : Nat) : BufTy := match i % 128 with
  | 0 => ⟨S4x4096x512, .f32⟩
  | 1 => ⟨S1x512, .f32⟩
  | 2 => ⟨S512, .f32⟩
  | 3 => ⟨S4x4096x512, .f32⟩
  | 4 => ⟨S1x1x512, .f32⟩
  | 5 => ⟨S4x4096x512, .f32⟩
  | 6 => ⟨S4x4096x512, .f32⟩
  | 7 => ⟨S4x4096x512, .f32⟩
  | 8 => ⟨S1x512, .f32⟩
  | 9 => ⟨S512, .f32⟩
  | 10 => ⟨S4x4096x512, .f32⟩
  | 11 => ⟨S1x1x512, .f32⟩
  | 12 => ⟨S4x4096x512, .f32⟩
  | 13 => ⟨S4x4096x512, .f32⟩
  | 14 => ⟨S4x4096x512, .f32⟩
  | 15 => ⟨S1x512, .f32⟩
  | 16 => ⟨S512, .f32⟩
  | 17 => ⟨S4x4096x512, .f32⟩
  | 18 => ⟨S1x1x512, .f32⟩
  | 19 => ⟨S4x4096x512, .f32⟩
  | 20 => ⟨S4x4096x512, .f32⟩
  | 21 => ⟨S4x4096x512, .f32⟩
  | 22 => ⟨S1x512, .f32⟩
  | 23 => ⟨S512, .f32⟩
  | 24 => ⟨S4x4096x512, .f32⟩
  | 25 => ⟨S1x1x512, .f32⟩
  | 26 => ⟨S4x4096x512, .f32⟩
  | 27 => ⟨S4x4096x512, .f32⟩
  | 28 => ⟨S4x4096x512, .f32⟩
  | 29 => ⟨S1x512, .f32⟩
  | 30 => ⟨S512, .f32⟩
  | 31 => ⟨S4x4096x512, .f32⟩
  | 32 => ⟨S1x1x512, .f32⟩
  | 33 => ⟨S4x4096x512, .f32⟩
  | 34 => ⟨S4x4096x512, .f32⟩
  | 35 => ⟨S4x4096x512, .f32⟩
  | 36 => ⟨S1x512, .f32⟩
  | 37 => ⟨S512, .f32⟩
  | 38 => ⟨S4x4096x512, .f32⟩
  | 39 => ⟨S1x1x512, .f32⟩
  | 40 => ⟨S4x4096x512, .f32⟩
  | 41 => ⟨S4x4096x512, .f32⟩
  | 42 => ⟨S4x4096x512, .f32⟩
  | 43 => ⟨S1x512, .f32⟩
  | 44 => ⟨S512, .f32⟩
  | 45 => ⟨S4x4096x512, .f32⟩
  | 46 => ⟨S1x1x512, .f32⟩
  | 47 => ⟨S4x4096x512, .f32⟩
  | 48 => ⟨S4x4096x512, .f32⟩
  | 49 => ⟨S4x4096x512, .f32⟩
  | 50 => ⟨S1x512, .f32⟩
  | 51 => ⟨S512, .f32⟩
  | 52 => ⟨S4x4096x512, .f32⟩
  | 53 => ⟨S1x1x512, .f32⟩
  | 54 => ⟨S4x4096x512, .f32⟩
  | 55 => ⟨S4x4096x512, .f32⟩
  | 56 => ⟨S4x4096x512, .f32⟩
  | 57 => ⟨S1x512, .f32⟩
  | 58 => ⟨S512, .f32⟩
  | 59 => ⟨S4x4096x512, .f32⟩
  | 60 => ⟨S1x1x512, .f32⟩
  | 61 => ⟨S4x4096x512, .f32⟩
  | 62 => ⟨S4x4096x512, .f32⟩
  | 63 => ⟨S4x4096x512, .f32⟩
  | 64 => ⟨S1x512, .f32⟩
  | 65 => ⟨S512, .f32⟩
  | 66 => ⟨S4x4096x512, .f32⟩
  | 67 => ⟨S1x1x512, .f32⟩
  | 68 => ⟨S4x4096x512, .f32⟩
  | 69 => ⟨S4x4096x512, .f32⟩
  | 70 => ⟨S4x4096x512, .f32⟩
  | 71 => ⟨S1x512, .f32⟩
  | 72 => ⟨S512, .f32⟩
  | 73 => ⟨S4x4096x512, .f32⟩
  | 74 => ⟨S1x1x512, .f32⟩
  | 75 => ⟨S4x4096x512, .f32⟩
  | 76 => ⟨S4x4096x512, .f32⟩
  | 77 => ⟨S4x4096x512, .f32⟩
  | 78 => ⟨S1x512, .f32⟩
  | 79 => ⟨S512, .f32⟩
  | 80 => ⟨S4x4096x512, .f32⟩
  | 81 => ⟨S1x1x512, .f32⟩
  | 82 => ⟨S4x4096x512, .f32⟩
  | 83 => ⟨S4x4096x512, .f32⟩
  | 84 => ⟨S4x4096x512, .f32⟩
  | 85 => ⟨S1x512, .f32⟩
  | 86 => ⟨S512, .f32⟩
  | 87 => ⟨S4x4096x512, .f32⟩
  | 88 => ⟨S1x1x512, .f32⟩
  | 89 => ⟨S4x4096x512, .f32⟩
  | 90 => ⟨S4x4096x512, .f32⟩
  | 91 => ⟨S4x4096x512, .f32⟩
  | 92 => ⟨S1x512, .f32⟩
  | 93 => ⟨S512, .f32⟩
  | 94 => ⟨S4x4096x512, .f32⟩
  | 95 => ⟨S1x1x512, .f32⟩
  | 96 => ⟨S4x4096x512, .f32⟩
  | 97 => ⟨S4x4096x512, .f32⟩
  | 98 => ⟨S4x4096x512, .f32⟩
  | 99 => ⟨S1x512, .f32⟩
  | 100 => ⟨S512, .f32⟩
  | 101 => ⟨S4x4096x512, .f32⟩
  | 102 => ⟨S1x1x512, .f32⟩
  | 103 => ⟨S4x4096x512, .f32⟩
  | 104 => ⟨S4x4096x512, .f32⟩
  | 105 => ⟨S4x4096x512, .f32⟩
  | 106 => ⟨S1x512, .f32⟩
  | 107 => ⟨S512, .f32⟩
  | 108 => ⟨S4x4096x512, .f32⟩
  | 109 => ⟨S1x1x512, .f32⟩
  | 110 => ⟨S4x4096x512, .f32⟩
  | 111 => ⟨S4x4096x512, .f32⟩
  | 112 => ⟨S4x4096x512, .f32⟩
  | 113 => ⟨S1x1x512, .f32⟩
  | 114 => ⟨S4x4096x512, .f32⟩
  | 115 => ⟨S4x4096x512, .f32⟩
  | 116 => ⟨S_, .f32⟩
  | 117 => ⟨S4x4096, .f32⟩
  | 118 => ⟨S4x4096x1, .f32⟩
  | 119 => ⟨S_, .f32⟩
  | 120 => ⟨S4x4096x1, .f32⟩
  | 121 => ⟨S4x4096x1, .f32⟩
  | 122 => ⟨S4x4096x512, .f32⟩
  | 123 => ⟨S4x4096x512, .f32⟩
  | 124 => ⟨S4x4096x512, .f32⟩
  | 125 => ⟨S_, .f32⟩
  | 126 => ⟨S4x4096, .f32⟩
  | 127 => ⟨S4x4096x1, .f32⟩
  | _ => ⟨S16384x4096, .bf16⟩

abbrev hbmTy0_2 (i : Nat) : BufTy := match i % 128 with
  | 0 => ⟨S_, .f32⟩
  | 1 => ⟨S4x4096x1, .f32⟩
  | 2 => ⟨S4x4096x1, .f32⟩
  | 3 => ⟨S_, .f32⟩
  | 4 => ⟨S4x4096x1, .f32⟩
  | 5 => ⟨S4x4096x1, .f32⟩
  | 6 => ⟨S4x4096x1, .f32⟩
  | 7 => ⟨S4x4096x512, .f32⟩
  | 8 => ⟨S4x4096x512, .f32⟩
  | 9 => ⟨S1x1x512, .f32⟩
  | 10 => ⟨S4x4096x512, .f32⟩
  | 11 => ⟨S4x4096x512, .f32⟩
  | 12 => ⟨S1x1x512, .f32⟩
  | 13 => ⟨S4x4096x512, .f32⟩
  | 14 => ⟨S4x4096x512, .f32⟩
  | 15 => ⟨S4x4096x512, .f32⟩
  | 16 => ⟨S4x4096x512, .f32⟩
  | 17 => ⟨S_, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x4096x512, .f32⟩
  | 24 => ⟨S16384x512, .f32⟩
  | 25 => ⟨S16384x512, .bf16⟩
  | _ => ⟨S16384x4096, .bf16⟩

abbrev hbmTy (i : Nat) : BufTy := match i / 128 with
  | 0 => hbmTy0_0 i
  | 1 => hbmTy0_1 i
  | 2 => hbmTy0_2 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_cst_3 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_cst_6 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_call1_v0 : Ref sig .tc := ⟨.hbm, 271, rfl⟩
abbrev main_call1_v1 : Ref sig .tc := ⟨.hbm, 272, rfl⟩
abbrev main_call1_cst : Ref sig .tc := ⟨.hbm, 273, rfl⟩
abbrev main_call1_v2 : Ref sig .tc := ⟨.hbm, 274, rfl⟩
abbrev main_call1_v3 : Ref sig .tc := ⟨.hbm, 275, rfl⟩
abbrev main_call1_cst_0 : Ref sig .tc := ⟨.hbm, 276, rfl⟩
abbrev main_call1_v4 : Ref sig .tc := ⟨.hbm, 277, rfl⟩
abbrev main_call1_v5 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩

abbrev nD : Nat := 1
abbrev τ : Topo := Topo.v7x

variable {F : FTy → Type} [FloatOps F]
-- ==== Proof.Unit.lean ====
module

public import proofs.«01_k».proof.Proof.Gen.KernelIdeal.Skeleton
public import Idealize.ShloMosaic.Lib.Pipeline.ValueKit

/-! # One unit of attention: 256 queries against 4352 keys

A unit reads its scores in nine chunks (256 context keys, then eight chunks of 512 keys), keeps the running maximum and
the running denominator over groups of eight rows, and multiplies the weights with the values. -/

@[expose] public section

set_option maxRecDepth 16384

noncomputable section

open Idealize.ShloMosaic Idealize.ShloMosaic.TcCoe Idealize.SL.Sem
open scoped BigOperators

namespace Cert.Unit

open Cert.KernelIdeal Cert.KernelIdeal.Gen

/-- The running maximum (eight rows) after one more chunk of 512 scores. -/
def up (a : FVec Ideal S8x256 .f32) (s : FVec Ideal S512x256 .f32) : FVec Ideal S8x256 .f32 :=
  maximumf a (multiReduction .maximumf [0] S8x256 (shapeCast S64x8x256 s shapeCasts_S512x256_S64x8x256) 0xFF800000#32
    reduces_S64x8x256_S8x256 (.inl rfl) rfl)

/-- The running maximum after the context chunk. -/
def up0 (s : FVec Ideal S256x256 .f32) : FVec Ideal S8x256 .f32 :=
  maximumf (broadcast S8x256 (Scalar.ofBits .f32 0xFF800000#32)) (multiReduction .maximumf [0] S8x256
    (shapeCast S32x8x256 s shapeCasts_S256x256_S32x8x256) 0xFF800000#32 reduces_S32x8x256_S8x256 (.inl rfl) rfl)

/-- The maximum over the eight rows. -/
def last (a : FVec Ideal S8x256 .f32) : FVec Ideal S1x256 .f32 :=
  shapeCast S1x256 (multiReduction .maximumf [0] S256 a 0xFF800000#32 reduces_S8x256_S256 (.inl rfl) rfl)
    shapeCasts_S256_S1x256

/-- The weights of a chunk, before rounding. -/
def ex (t : FVec Ideal S1x256 .f32) (s : FVec Ideal S512x256 .f32) : FVec Ideal S512x256 .f32 :=
  exp2 (subf s (broadcastTo S512x256 t broadcasts_S1x256_S512x256))

/-- The weights of the context chunk, before rounding. -/
def ex0 (t : FVec Ideal S1x256 .f32) (s : FVec Ideal S256x256 .f32) : FVec Ideal S256x256 .f32 :=
  exp2 (subf s (broadcastTo S256x256 t broadcasts_S1x256_S256x256))

/-- The running denominator (eight rows) after one more chunk of 512 weights. -/
def ad (a : FVec Ideal S8x256 .f32) (p : FVec Ideal S512x256 .f32) : FVec Ideal S8x256 .f32 :=
  addf a (multiReduction .add [0] S8x256 (shapeCast S64x8x256 p shapeCasts_S512x256_S64x8x256) 0x00000000#32
    reduces_S64x8x256_S8x256 (.inl rfl) rfl)

/-- The running denominator after the context chunk. -/
def ad0 (p : FVec Ideal S256x256 .f32) : FVec Ideal S8x256 .f32 :=
  addf (broadcast S8x256 (Scalar.ofBits .f32 0x00000000#32)) (multiReduction .add [0] S8x256
    (shapeCast S32x8x256 p shapeCasts_S256x256_S32x8x256) 0x00000000#32 reduces_S32x8x256_S8x256 (.inl rfl) rfl)

/-- The weighted values over the denominator, queries first. -/
def quot (l : FVec Ideal S8x256 .f32) (vc : FVec Ideal S128x256 .bf16) (pc : FVec Ideal S256x256 .bf16)
    (vx : FVec Ideal S128x4096 .bf16) (px : FVec Ideal S4096x256 .bf16) : FVec Ideal S256x128 .f32 :=
  transpose S256x128 [1, 0] (divf
    (addf (matmul dot_S128x256_S256x256_S128x256_1_0_0_1_n_n none vc pc (constant S128x256 .f32 0x00000000#32))
      (matmul dot_S128x4096_S4096x256_S128x256_1_0_0_1_n_n none vx px (constant S128x256 .f32 0x00000000#32)))
    (broadcastTo S128x256 (shapeCast S1x256 (multiReduction .add [0] S256 l 0x00000000#32 reduces_S8x256_S256 (.inl rfl) rfl)
      shapeCasts_S256_S1x256) broadcasts_S1x256_S128x256)) transposes_S128x256_p1_0_S256x128

/-- The bits of the reductions' start are minus infinity. -/
theorem negInf : Ideal.ofBits .f32 0xFF800000#32 = (⊥ : EReal) := by
  simp [Ideal.ofBits, Ideal.ieee]

theorem up_at (a : FVec Ideal S8x256 .f32) (s : FVec Ideal S512x256 .f32) (j : Fin 8) (q : Fin 256) :
    up a s (ix2 j q) = max (a (ix2 j q)) (Finset.fold max (⊥ : EReal)
      (fun x : Fin 64 => s (ix2 ⟨x.val * 8 + j.val, by omega⟩ q)) Finset.univ) := by
  pointwise [up]
  simp only [negInf]

theorem up0_at (s : FVec Ideal S256x256 .f32) (j : Fin 8) (q : Fin 256) :
    up0 s (ix2 j q) = max (⊥ : EReal) (Finset.fold max (⊥ : EReal)
      (fun x : Fin 32 => s (ix2 ⟨x.val * 8 + j.val, by omega⟩ q)) Finset.univ) := by
  pointwise [up0]
  simp only [negInf]

theorem last_at (a : FVec Ideal S8x256 .f32) (q : Fin 256) :
    last a (ix2 0 q) = Finset.fold max (⊥ : EReal) (fun x : Fin 8 => a (ix2 x q)) Finset.univ := by
  pointwise [last]
  simp only [negInf]

theorem ex_at (t : FVec Ideal S1x256 .f32) (s : FVec Ideal S512x256 .f32) (k : Fin 512) (q : Fin 256) :
    ex t s (ix2 k q) = Ideal.exp2 (s (ix2 k q) - t (ix2 0 q)) := by
  pointwise [ex]
  rfl

theorem ex0_at (t : FVec Ideal S1x256 .f32) (s : FVec Ideal S256x256 .f32) (k : Fin 256) (q : Fin 256) :
    ex0 t s (ix2 k q) = Ideal.exp2 (s (ix2 k q) - t (ix2 0 q)) := by
  pointwise [ex0]
  rfl

theorem ad_at (a : FVec Ideal S8x256 .f32) (s : FVec Ideal S512x256 .f32) (j : Fin 8) (q : Fin 256) :
    ad a s (ix2 j q) = a (ix2 j q) + ∑ x : Fin 64, s (ix2 ⟨x.val * 8 + j.val, by omega⟩ q) := by
  pointwise [ad]

theorem ad0_at (s : FVec Ideal S256x256 .f32) (j : Fin 8) (q : Fin 256) :
    ad0 s (ix2 j q) = ∑ x : Fin 32, s (ix2 ⟨x.val * 8 + j.val, by omega⟩ q) := by
  pointwise [ad0]

theorem quot_at (l : FVec Ideal S8x256 .f32) (vc : FVec Ideal S128x256 .bf16) (pc : FVec Ideal S256x256 .bf16)
    (vx : FVec Ideal S128x4096 .bf16) (px : FVec Ideal S4096x256 .bf16) (q : Fin 256) (e : Fin 128) :
    quot l vc pc vx px (ix2 q e) = Ideal.div
      ((∑ x : Fin 256, vc (ix2 e x) * pc (ix2 x q)) + ∑ x : Fin 4096, vx (ix2 e x) * px (ix2 x q))
      (∑ x : Fin 8, l (ix2 x q)) := by
  pointwise [quot]

/-! ## Rows in eight groups -/

/-- A row among `n * 8` is a group and a place in it. -/
theorem forall_groups {n N : ℕ} (h : n * 8 = N) (P : Fin N → Prop) :
    (∀ (j : Fin 8) (x : Fin n), P ⟨x.val * 8 + j.val, by omega⟩) ↔ ∀ k, P k := by
  refine ⟨fun H k => ?_, fun H j x => H _⟩
  have e := H ⟨k.val % 8, by omega⟩ ⟨k.val / 8, by omega⟩
  have e' : (⟨k.val / 8 * 8 + k.val % 8, by omega⟩ : Fin N) = k := Fin.ext (by simp; omega)
  exact e' ▸ e

/-- A sum over the places of every group is the sum over all rows. -/
theorem sum_groups {n N : ℕ} (h : n * 8 = N) (f : Fin N → EReal) :
    (∑ j : Fin 8, ∑ x : Fin n, f ⟨x.val * 8 + j.val, by omega⟩) = ∑ k, f k := by
  subst h
  rw [Finset.sum_comm, ← Finset.sum_product' (s := Finset.univ) (t := Finset.univ)
    (f := fun (x : Fin n) (j : Fin 8) => f ⟨x.val * 8 + j.val, by omega⟩), Finset.univ_product_univ]
  refine Fintype.sum_equiv finProdFinEquiv _ _ fun p => congrArg f (Fin.ext ?_)
  simp [finProdFinEquiv]; omega

/-- The running maximum is bounded by `b` in every group. -/
def Le (a : FVec Ideal S8x256 .f32) (q : Fin 256) (b : EReal) : Prop := ∀ j : Fin 8, a (ix2 j q) ≤ b

theorem le_up (a : FVec Ideal S8x256 .f32) (s : FVec Ideal S512x256 .f32) (q : Fin 256) (b : EReal) :
    Le (up a s) q b ↔ Le a q b ∧ ∀ k : Fin 512, s (ix2 k q) ≤ b := by
  rw [← forall_groups (n := 64) rfl (fun k => s (ix2 k q) ≤ b)]
  simp [Le, up_at, Finset.fold_max_le, forall_and]

theorem le_up0 (s : FVec Ideal S256x256 .f32) (q : Fin 256) (b : EReal) :
    Le (up0 s) q b ↔ ∀ k : Fin 256, s (ix2 k q) ≤ b := by
  rw [← forall_groups (n := 32) rfl (fun k => s (ix2 k q) ≤ b)]
  simp [Le, up0_at, Finset.fold_max_le]

theorem last_le (a : FVec Ideal S8x256 .f32) (q : Fin 256) (b : EReal) : last a (ix2 0 q) ≤ b ↔ Le a q b := by
  simp [Le, last_at, Finset.fold_max_le]

/-- The running denominator summed over its groups. -/
def tot (a : FVec Ideal S8x256 .f32) (q : Fin 256) : EReal := ∑ j : Fin 8, a (ix2 j q)

theorem tot_ad (a : FVec Ideal S8x256 .f32) (s : FVec Ideal S512x256 .f32) (q : Fin 256) :
    tot (ad a s) q = tot a q + ∑ k : Fin 512, s (ix2 k q) := by
  rw [← sum_groups (n := 64) rfl (fun k => s (ix2 k q))]
  simp only [tot, ad_at, Finset.sum_add_distrib]

theorem tot_ad0 (s : FVec Ideal S256x256 .f32) (q : Fin 256) :
    tot (ad0 s) q = ∑ k : Fin 256, s (ix2 k q) := by
  rw [← sum_groups (n := 32) rfl (fun k => s (ix2 k q))]
  simp only [tot, ad0_at]

/-! ## The nine chunks -/

/-- The scores of a unit: the context chunk and eight chunks of 512 keys. -/
structure Chunks where
  /-- the context keys -/
  c : FVec Ideal S256x256 .f32
  /-- the image keys -/
  x : Fin 8 → FVec Ideal S512x256 .f32

/-- The chunks hold the scores `S` of the 4352 keys in order. -/
structure Chunks.Holds (u : Chunks) (S : Fin 4352 → Fin 256 → EReal) : Prop where
  c : ∀ (k : Fin 256) (q : Fin 256), u.c (ix2 k q) = S ⟨k.val, by omega⟩ q
  x : ∀ (i : Fin 8) (k : Fin 512) (q : Fin 256), u.x i (ix2 k q) = S ⟨256 + (i.val * 512 + k.val), by omega⟩ q

/-- The maximum of a unit's scores. -/
def Chunks.top (u : Chunks) : FVec Ideal S1x256 .f32 :=
  last (up (up (up (up (up (up (up (up (up0 u.c) (u.x 0)) (u.x 1)) (u.x 2)) (u.x 3)) (u.x 4)) (u.x 5)) (u.x 6)) (u.x 7))

/-- The denominator of a unit, in eight groups. -/
def Chunks.den (u : Chunks) : FVec Ideal S8x256 .f32 :=
  ad (ad (ad (ad (ad (ad (ad (ad (ad0 (ex0 u.top u.c)) (ex u.top (u.x 0))) (ex u.top (u.x 1))) (ex u.top (u.x 2)))
    (ex u.top (u.x 3))) (ex u.top (u.x 4))) (ex u.top (u.x 5))) (ex u.top (u.x 6))) (ex u.top (u.x 7))

/-- A row among the 4096 image keys is a chunk and a row of it. -/
theorem forall_chunks (P : Fin 4352 → Prop) : (∀ k, P k) ↔ (∀ k : Fin 256, P ⟨k.val, by omega⟩)
    ∧ ∀ (i : Fin 8) (k : Fin 512), P ⟨256 + (i.val * 512 + k.val), by omega⟩ := by
  refine ⟨fun H => ⟨fun k => H _, fun i k => H _⟩, fun H k => ?_⟩
  by_cases hk : k.val < 256
  · exact H.1 ⟨k.val, hk⟩
  · have e := H.2 ⟨(k.val - 256) / 512, by omega⟩ ⟨(k.val - 256) % 512, by omega⟩
    have e' : (⟨256 + ((k.val - 256) / 512 * 512 + (k.val - 256) % 512), by omega⟩ : Fin 4352) = k :=
      Fin.ext (by simp; omega)
    exact e' ▸ e

/-- A sum over all keys is the sum over the context keys and over the image keys. -/
theorem sum_keys (f : Fin 4352 → EReal) : ∑ k, f k
    = (∑ k : Fin 256, f ⟨k.val, by omega⟩) + ∑ k : Fin 4096, f ⟨256 + k.val, by omega⟩ :=
  Fin.sum_univ_add (a := 256) (b := 4096) f

/-- A sum over the image keys by chunks. -/
theorem sum_chunks (f : Fin 4096 → EReal) :
    ∑ k, f k = ∑ i : Fin 8, ∑ k : Fin 512, f ⟨i.val * 512 + k.val, by omega⟩ := by
  rw [← Finset.sum_product' (s := Finset.univ) (t := Finset.univ)
    (f := fun (i : Fin 8) (k : Fin 512) => f ⟨i.val * 512 + k.val, by omega⟩), Finset.univ_product_univ]
  refine (Fintype.sum_equiv (finProdFinEquiv (m := 8) (n := 512)) _ _ fun p => congrArg f (Fin.ext ?_)).symm
  simp [finProdFinEquiv]; omega

section
variable {u : Chunks} {S : Fin 4352 → Fin 256 → EReal}

/-- The unit's maximum is the maximum of its scores. -/
theorem Chunks.Holds.top_eq (h : u.Holds S) (q : Fin 256) :
    u.top (ix2 0 q) = Finset.fold max (⊥ : EReal) (fun k => S k q) Finset.univ := by
  refine eq_of_forall_ge_iff fun b => ?_
  rw [Finset.fold_max_le, Chunks.top, last_le]
  have e := forall_chunks (fun k => S k q ≤ b)
  simp only [le_up, le_up0, h.c, h.x, Finset.mem_univ, true_imp_iff, bot_le, true_and, e]
  have e8 (P : Fin 8 → Prop) : (∀ i, P i) ↔ P 0 ∧ P 1 ∧ P 2 ∧ P 3 ∧ P 4 ∧ P 5 ∧ P 6 ∧ P 7 := by
    simp only [Fin.forall_fin_succ, IsEmpty.forall_iff, and_true]; rfl
  rw [e8]
  simp only [and_assoc]

/-- The unit's denominator is the sum of its weights. -/
theorem Chunks.Holds.den_eq (h : u.Holds S) (q : Fin 256) :
    ∑ j : Fin 8, u.den (ix2 j q) = ∑ k, Ideal.exp2 (S k q - u.top (ix2 0 q)) := by
  show tot u.den q = _
  rw [sum_keys, sum_chunks]
  simp only [Chunks.den, tot_ad, tot_ad0, ex_at, ex0_at, h.c, h.x, Fin.sum_univ_eight]
  simp only [add_assoc]

/-- The unit's output: the values weighted by the exponentials, over the sum of the exponentials. -/
theorem Chunks.Holds.quot_eq (h : u.Holds S) (vc : FVec Ideal S128x256 .bf16) (pc : FVec Ideal S256x256 .bf16)
    (vx : FVec Ideal S128x4096 .bf16) (px : FVec Ideal S4096x256 .bf16) (W : Fin 4352 → Fin 128 → EReal)
    (hpc : ∀ (k : Fin 256) (q : Fin 256), pc (ix2 k q) = Ideal.exp2 (S ⟨k.val, by omega⟩ q - u.top (ix2 0 q)))
    (hpx : ∀ (k : Fin 4096) (q : Fin 256), px (ix2 k q) = Ideal.exp2 (S ⟨256 + k.val, by omega⟩ q - u.top (ix2 0 q)))
    (hvc : ∀ (e : Fin 128) (k : Fin 256), vc (ix2 e k) = W ⟨k.val, by omega⟩ e)
    (hvx : ∀ (e : Fin 128) (k : Fin 4096), vx (ix2 e k) = W ⟨256 + k.val, by omega⟩ e) (q : Fin 256) (e : Fin 128) :
    quot u.den vc pc vx px (ix2 q e)
      = Ideal.div (∑ k, W k e * Ideal.exp2 (S k q - u.top (ix2 0 q))) (∑ k, Ideal.exp2 (S k q - u.top (ix2 0 q))) := by
  rw [quot_at, h.den_eq, sum_keys (fun k => W k e * _)]
  simp only [hpc, hpx, hvc, hvx]

end

end Cert.Unit
end
-- ==== Proof.Softmax.lean ====
module

public import Idealize.ShloMosaic.Lib.Pipeline.ValueKit

/-! # A softmax-weighted sum, written twice

Once with powers of two and one division at the end, once with the natural exponential of the scores times `log 2` and
a division of every weight. With finite scores the two are one number; with infinite scores they may differ, but not any more
after the norm that follows a difference of two of them. -/

@[expose] public section

noncomputable section

open Idealize.ShloMosaic
open scoped BigOperators

namespace Cert.Softmax

variable {n : ℕ}

/-- The largest score. -/
def top (S : Fin n → EReal) : EReal := Finset.fold max (⊥ : EReal) S Finset.univ

/-- The sum weighted by powers of two, over the sum of the powers. -/
def avg (S W : Fin n → EReal) : EReal :=
  Ideal.div (∑ k, W k * Ideal.exp2 (S k - top S)) (∑ k, Ideal.exp2 (S k - top S))

/-- The sum weighted by the softmax of the scores times `L`. -/
def soft (L : EReal) (S W : Fin n → EReal) : EReal :=
  ∑ k, W k * Ideal.div (Ideal.exp (S k * L - top fun j => S j * L)) (∑ k, Ideal.exp (S k * L - top fun j => S j * L))

/-- A score that no other exceeds is the largest. -/
theorem top_eq (S : Fin n → EReal) (j : Fin n) (h : ∀ k, S k ≤ S j) : top S = S j :=
  le_antisymm (Finset.fold_max_le _ |>.mpr ⟨bot_le, fun k _ => h k⟩)
    (Finset.le_fold_max _ |>.mpr (.inr ⟨j, Finset.mem_univ _, le_rfl⟩))

/-- A finite number that is not negative multiplies a sum term by term. -/
theorem sum_mul_coe (f : Fin n → EReal) (c : ℝ) (hc : 0 ≤ c) : (∑ k, f k) * (c : EReal) = ∑ k, f k * (c : EReal) := by
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hc) (EReal.coe_ne_top _) _ _

/-- The logarithm of two. -/
theorem log_two : Ideal.log (Ideal.ofBits .f32 0x40000000#32) = (Real.log 2 : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

/-- The two forms agree if the largest score is finite; the other scores need not be. -/
theorem avg_eq_of_top (S W : Fin n → EReal) (j : Fin n) (r : ℝ) (hr : S j = r) (hj : ∀ k, S k ≤ S j) :
    avg S W = soft (Ideal.log (Ideal.ofBits .f32 0x40000000#32)) S W := by
  have l2 : (0 : ℝ) < Real.log 2 := Real.log_pos (by norm_num)
  have t1 : top S = r := (top_eq S j hj).trans hr
  have t2 : top (fun k => S k * (Real.log 2 : EReal)) = ((r * Real.log 2 : ℝ) : EReal) := by
    refine (top_eq _ j fun k => ?_).trans (by rw [hr, EReal.coe_mul])
    exact mul_le_mul_of_nonneg_right (hj k) (by exact_mod_cast l2.le)
  have w (k : Fin n) : ∃ x : ℝ, 0 ≤ x ∧ (k = j → 0 < x) ∧ Ideal.exp2 (S k - r) = x
      ∧ Ideal.exp (S k * (Real.log 2 : EReal) - ((r * Real.log 2 : ℝ) : EReal)) = x := by
    have hk := hj k
    generalize hx : S k = x at hk
    rw [hr] at hk
    induction x with
    | bot =>
      refine ⟨0, le_rfl, fun e => ?_, by rw [EReal.bot_sub]; rfl, ?_⟩
      · subst e
        rw [hr] at hx
        exact absurd hx (EReal.coe_ne_bot _)
      · rw [EReal.bot_mul_coe_of_pos l2, EReal.bot_sub]
        rfl
    | top => exact absurd (top_le_iff.mp hk) (EReal.coe_ne_top _)
    | coe s =>
      refine ⟨Real.exp (Real.log 2 * (s - r)), (Real.exp_pos _).le, fun _ => Real.exp_pos _, ?_, ?_⟩
      · rw [← EReal.coe_sub, Ideal.exp2_coe]
        exact congrArg _ (Real.rpow_def_of_pos (by norm_num) _)
      · rw [← EReal.coe_mul, ← EReal.coe_sub, Ideal.exp_coe]
        congr 2
        ring
  choose x x0 xj e1 e2 using w
  have d : (∑ k, (x k : EReal)) = ((∑ k, x k : ℝ) : EReal) :=
    (map_sum (⟨⟨((↑) : ℝ → EReal), EReal.coe_zero⟩, EReal.coe_add⟩ : ℝ →+ EReal) _ _).symm
  have p : (0 : ℝ) < ∑ k, x k :=
    Finset.sum_pos' (fun k _ => x0 k) ⟨j, Finset.mem_univ _, xj j rfl⟩
  unfold avg soft
  simp only [log_two, t1, t2, e1, e2, d, Ideal.div_coe p.ne', sum_mul_coe _ _ (one_div_pos.mpr p).le, mul_assoc]

/-- With finite scores the two forms agree. -/
theorem avg_eq [Nonempty (Fin n)] (S W : Fin n → EReal) (h : ∀ k, ∃ r : ℝ, S k = r) :
    avg S W = soft (Ideal.log (Ideal.ofBits .f32 0x40000000#32)) S W := by
  obtain ⟨j, hj⟩ := Finite.exists_max S
  obtain ⟨r, hr⟩ := h j
  exact avg_eq_of_top S W j r hr hj

/-- Whatever the scores: the two forms agree for all values, or every weight is zero, and then one form is the quotient
0 / 0 and the other the sum of the values times that quotient. -/
theorem avg_cases [Nonempty (Fin n)] (S : Fin n → EReal) :
    (∀ W, avg S W = soft (Ideal.log (Ideal.ofBits .f32 0x40000000#32)) S W)
      ∨ ∀ W, avg S W = ⊥ ∧ soft (Ideal.log (Ideal.ofBits .f32 0x40000000#32)) S W = ∑ k, W k * (⊥ : EReal) := by
  obtain ⟨j, hj⟩ := Finite.exists_max S
  have l2 : (0 : ℝ) < Real.log 2 := Real.log_pos (by norm_num)
  have t1 : top S = S j := top_eq S j hj
  have t2 : top (fun k => S k * (Real.log 2 : EReal)) = S j * (Real.log 2 : EReal) :=
    top_eq _ j fun k => mul_le_mul_of_nonneg_right (hj k) (by exact_mod_cast l2.le)
  have z : Ideal.div 0 0 = (⊥ : EReal) := by simp [Ideal.div]
  have z1 : Ideal.exp2 (⊥ : EReal) = 0 := rfl
  have z2 : Ideal.exp (⊥ : EReal) = 0 := rfl
  have bad (h1 : ∀ k, S k - S j = ⊥) (h2 : ∀ k, S k * (Real.log 2 : EReal) - S j * (Real.log 2 : EReal) = ⊥) (W : Fin n → EReal) :
      avg S W = ⊥ ∧ soft (Ideal.log (Ideal.ofBits .f32 0x40000000#32)) S W = ∑ k, W k * (⊥ : EReal) := by
    unfold avg soft
    simp only [log_two, t1, t2, h1, h2, z1, z2, mul_zero, Finset.sum_const_zero, z, and_self]
  generalize hr : S j = r at hj bad
  induction r with
  | bot =>
    refine Or.inr (bad (fun k => ?_) fun k => ?_)
    all_goals rw [le_bot_iff.mp (hj k)]
    · rfl
    · rw [EReal.bot_mul_coe_of_pos l2]
      rfl
  | top =>
    refine Or.inr (bad (fun k => EReal.sub_top _) fun k => ?_)
    rw [EReal.top_mul_coe_of_pos l2, EReal.sub_top]
  | coe r => exact Or.inl fun W => avg_eq_of_top S W j r hr (by rw [hr]; exact hj)

/-! ## Infinite entries and the root-mean-square norm -/

/-- An entry is infinite. -/
def Inf (x : EReal) : Prop := x = ⊤ ∨ x = ⊥

theorem inf_sub (x y : EReal) (h : Inf x) : Inf (x - y) := by
  rcases h with rfl | rfl
  · induction y with
    | bot => exact Or.inl rfl
    | top => exact Or.inr rfl
    | coe r => exact Or.inl (EReal.top_sub_coe r)
  · exact Or.inr (EReal.bot_sub _)

theorem sub_inf (x y : EReal) (h : Inf y) : Inf (x - y) := by
  rcases h with rfl | rfl
  · exact Or.inr (EReal.sub_top _)
  · induction x with
    | bot => exact Or.inr rfl
    | top => exact Or.inl rfl
    | coe r => exact Or.inl rfl

theorem mul_inf (l y : EReal) (hl : l ≠ 0) (h : Inf y) : Inf (l * y) := by
  rcases lt_or_gt_of_ne hl with hn | hp
  · rcases h with rfl | rfl
    · exact Or.inr (EReal.mul_top_of_neg hn)
    · exact Or.inl (EReal.mul_bot_of_neg hn)
  · rcases h with rfl | rfl
    · exact Or.inl (EReal.mul_top_of_pos hp)
    · exact Or.inr (EReal.mul_bot_of_pos hp)

/-- The sum of the values times -∞ is infinite unless every value is zero. -/
theorem sum_bot (W : Fin n → EReal) : (∀ k, W k = 0) ∨ Inf (∑ k, W k * (⊥ : EReal)) := by
  by_cases hp : ∃ k, 0 < W k
  · obtain ⟨k, hk⟩ := hp
    refine Or.inr (Or.inr ?_)
    rw [← Finset.add_sum_erase _ _ (Finset.mem_univ k), EReal.mul_bot_of_pos hk, EReal.bot_add]
  · by_cases hn : ∃ k, W k < 0
    · obtain ⟨k, hk⟩ := hn
      refine Or.inr (Or.inl (top_le_iff.mp ?_))
      rw [← EReal.mul_bot_of_neg hk]
      refine Finset.single_le_sum (f := fun k => W k * (⊥ : EReal)) (fun i _ => ?_) (Finset.mem_univ k)
      rcases (not_lt.mp fun h => hp ⟨i, h⟩).lt_or_eq with h | h
      · exact (EReal.mul_bot_of_neg h).symm ▸ le_top
      · show 0 ≤ W i * (⊥ : EReal)
        rw [h, zero_mul]
    · exact Or.inl fun k => le_antisymm (not_lt.mp fun h => hp ⟨k, h⟩) (not_lt.mp fun h => hn ⟨k, h⟩)

variable {p : ℕ}

/-- An entry over the root of the mean square of its row. -/
def norm (d : Fin p → EReal) (e : Fin p) : EReal :=
  d e * Ideal.rsqrt (Ideal.div (∑ e, d e * d e) (Ideal.ofBits .f32 0x43000000#32) + Ideal.ofBits .f32 0x358637BD#32)

/-- A row with an infinite entry is normalised to zero. -/
theorem norm_inf (d : Fin p → EReal) (i e : Fin p) (h : Inf (d i)) : norm d e = 0 := by
  have c : Ideal.ofBits .f32 0x43000000#32 = ((128 : ℝ) : EReal) := by
    simp [Ideal.ofBits, Ideal.ieee]
    rw [← EReal.coe_mul]
    norm_num
  have ε : ∃ r : ℝ, Ideal.ofBits .f32 0x358637BD#32 = (r : EReal) := by
    simp only [Ideal.ofBits, Ideal.ieee]
    exact ⟨_, rfl⟩
  obtain ⟨r, hr⟩ := ε
  have sq (x : EReal) : 0 ≤ x * x := by
    rcases le_total 0 x with h | h
    · exact mul_nonneg h h
    · have h' : (0 : EReal) ≤ -x := EReal.neg_nonneg.mpr h
      exact (mul_nonneg h' h').trans_eq (neg_mul_neg x x)
  have s : (∑ e, d e * d e) = ⊤ := by
    refine top_le_iff.mp (le_trans ?_ (Finset.single_le_sum (f := fun e => d e * d e) (fun e _ => sq (d e)) (Finset.mem_univ i)))
    rcases h with h | h
    · rw [h]
      exact le_rfl
    · rw [h]
      exact le_rfl
  unfold norm
  rw [s, c, Ideal.div_coe (by norm_num), EReal.top_mul_coe_of_pos (by norm_num), hr, EReal.top_add_coe]
  exact mul_zero _

/-- A row of zeros is normalised to zero. -/
theorem norm_zero (d : Fin p → EReal) (e : Fin p) (h : d e = 0) : norm d e = 0 := by
  rw [norm, h, zero_mul]

/-- The norm of the difference of two weighted sums, the second times `l`, is the same in both forms, whatever the scores,
the values and `l`: where the forms differ, one row has an infinite entry and the other has one too or is zero. -/
theorem norm_diff [Nonempty (Fin n)] (S0 S1 : Fin n → EReal) (W : Fin p → Fin n → EReal) (l : EReal) (e : Fin p) :
    norm (fun e => soft (Ideal.log (Ideal.ofBits .f32 0x40000000#32)) S0 (W e)
      - l * soft (Ideal.log (Ideal.ofBits .f32 0x40000000#32)) S1 (W e)) e
      = norm (fun e => avg S0 (W e) - l * avg S1 (W e)) e := by
  have zero (S : Fin n → EReal) (V : Fin n → EReal) (h : ∀ k, V k = 0) :
      soft (Ideal.log (Ideal.ofBits .f32 0x40000000#32)) S V = 0 := by
    unfold soft
    simp only [h, zero_mul, Finset.sum_const_zero]
  have flat (h : ∀ e k, W e k = 0) : norm (fun e => soft (Ideal.log (Ideal.ofBits .f32 0x40000000#32)) S0 (W e)
      - l * soft (Ideal.log (Ideal.ofBits .f32 0x40000000#32)) S1 (W e)) e = 0 := by
    refine norm_zero _ _ ?_
    simp only [zero _ _ (h e), mul_zero, sub_zero]
  have some_ne (h : ¬ ∀ e k, W e k = 0) : ∃ i, Inf (∑ k, W i k * (⊥ : EReal)) := by
    obtain ⟨i, hi⟩ := not_forall.mp h
    exact ⟨i, (sum_bot (W i)).resolve_left hi⟩
  rcases avg_cases S0 with h0 | h0
  · rcases avg_cases S1 with h1 | h1
    · simp only [h0, h1]
    · by_cases hl : l = 0
      · simp only [hl, zero_mul, h0]
      rw [norm_inf (fun e => avg S0 (W e) - l * avg S1 (W e)) e e
        (sub_inf _ _ (mul_inf _ _ hl (Or.inr (h1 _).1)))]
      by_cases hw : ∀ e k, W e k = 0
      · exact flat hw
      · obtain ⟨i, hi⟩ := some_ne hw
        exact norm_inf _ i e (sub_inf _ _ (mul_inf _ _ hl (by rw [(h1 _).2]; exact hi)))
  · rw [norm_inf (fun e => avg S0 (W e) - l * avg S1 (W e)) e e (inf_sub _ _ (Or.inr (h0 _).1))]
    by_cases hw : ∀ e k, W e k = 0
    · exact flat hw
    · obtain ⟨i, hi⟩ := some_ne hw
      exact norm_inf _ i e (inf_sub _ _ (by rw [(h0 _).2]; exact hi))

/-- A finite sum of products of finite numbers is finite. -/
theorem real_sum {ι : Type} [Fintype ι] (a b : ι → EReal) (ha : ∀ k, ∃ r : ℝ, a k = r) (hb : ∀ k, ∃ r : ℝ, b k = r) :
    ∃ r : ℝ, ∑ k, a k * b k = r := by
  choose x hx using ha
  choose y hy using hb
  refine ⟨∑ k, x k * y k, ?_⟩
  simp only [hx, hy, ← EReal.coe_mul]
  exact (map_sum (⟨⟨((↑) : ℝ → EReal), EReal.coe_zero⟩, EReal.coe_add⟩ : ℝ →+ EReal) _ _).symm

/-- An entry whose absolute value is below infinity is a real number. -/
theorem real_of_abs (x : EReal) (h : Ideal.cmp .olt (max x (-x)) (Ideal.ofBits .f32 0x7F800000#32) = 1#1) :
    ∃ r : ℝ, x = r := by
  have e : Ideal.ofBits .f32 0x7F800000#32 = (⊤ : EReal) := by simp [Ideal.ofBits, Ideal.ieee]
  rw [e] at h
  have h' : max x (-x) < ⊤ := by
    by_contra hn
    rw [show Ideal.cmp .olt (max x (-x)) ⊤ = BitVec.ofBool (decide (max x (-x) < ⊤)) from rfl, decide_eq_false hn] at h
    exact absurd h (by decide)
  induction x with
  | bot => simp at h'
  | top => simp at h'
  | coe r => exact ⟨r, rfl⟩

end Cert.Softmax
end
-- ==== Proof.UnitOut.lean ====
module

public import proofs.«01_k».proof.Proof.Unit
public import proofs.«01_k».proof.Proof.Softmax
public import Idealize.ShloMosaic.Lib.Pipeline.Value

/-! # The output of one unit of attention

The weights of the 4096 image keys are stored in eight chunks and read back as one array. -/

@[expose] public section

set_option maxRecDepth 16384

noncomputable section

open Idealize.ShloMosaic Idealize.ShloMosaic.TcCoe Idealize.SL.Sem
open Idealize.ShloMosaic.Pipeline (Dat)
open scoped BigOperators

namespace Cert.Unit

open Cert.KernelIdeal Cert.KernelIdeal.Gen

/-- Eight chunks of 512 rows, one below the other. -/
def stack (w : Fin 8 → FVec Ideal S512x256 .bf16) : FVec Ideal S4096x256 .bf16 :=
  fun y => w ⟨(y 0).val / 512, by idx_bounds; omega⟩ (ix2 ⟨(y 0).val % 512, by omega⟩ (y 1))

/-- The context chunk above the eight chunks. -/
def stored (a : FVec Ideal S256x256 .bf16) (w : Fin 8 → FVec Ideal S512x256 .bf16) : FVec Ideal S4352x256 .bf16 :=
  fun y => if h : (y 0).val < 256 then a (ix2 ⟨(y 0).val, h⟩ (y 1))
    else w ⟨((y 0).val - 256) / 512, by idx_bounds; omega⟩ (ix2 ⟨((y 0).val - 256) % 512, by omega⟩ (y 1))

theorem stored_chunk (a : FVec Ideal S256x256 .bf16) (w : Fin 8 → FVec Ideal S512x256 .bf16) (i : Fin 8) (n : ℕ)
    (hn : n = 256 + 512 * i.val) (inb) (x : S512x256.Idx) :
    w i x = stored a w ((Rect.unit (s := S4352x256) ![n, 0] ![512, 256] inb).emb x) := by
  have e0 : ((Rect.unit (s := S4352x256) ![n, 0] ![512, 256] inb).emb x 0).val = n + (x 0).val :=
    Rect.idx_unit_val _ _ _ _ _
  have e1 : ((Rect.unit (s := S4352x256) ![n, 0] ![512, 256] inb).emb x 1).val = 0 + (x 1).val :=
    Rect.idx_unit_val _ _ _ _ _
  have b : (x 0).val < 512 := (x 0).isLt
  unfold stored
  rw [dif_neg (by omega)]
  refine congr (congrArg w (Fin.ext ?_)) ?_
  · show i.val = _ / 512
    omega
  · refine funext fun j => ?_
    match j with
    | 0 => exact Fin.ext (by show (x 0).val = _ % 512; omega)
    | 1 => exact Fin.ext (e1.trans (Nat.zero_add _)).symm

theorem stored_context (a : FVec Ideal S256x256 .bf16) (w : Fin 8 → FVec Ideal S512x256 .bf16) (inb) (x : S256x256.Idx) :
    a x = stored a w ((Rect.unit (s := S4352x256) ![0, 0] ![256, 256] inb).emb x) := by
  have e0 : ((Rect.unit (s := S4352x256) ![0, 0] ![256, 256] inb).emb x 0).val = 0 + (x 0).val :=
    Rect.idx_unit_val _ _ _ _ _
  have e1 : ((Rect.unit (s := S4352x256) ![0, 0] ![256, 256] inb).emb x 1).val = 0 + (x 1).val :=
    Rect.idx_unit_val _ _ _ _ _
  have b : (x 0).val < 256 := (x 0).isLt
  unfold stored
  rw [dif_pos (by omega)]
  refine congrArg a (funext fun j => ?_)
  match j with
  | 0 => exact Fin.ext (e0.trans (Nat.zero_add _)).symm
  | 1 => exact Fin.ext (e1.trans (Nat.zero_add _)).symm

/-- A row from 256 on lies in the chunk's rectangle that holds it. -/
theorem mem_chunk (i : Fin 8) (n : ℕ) (hn : n = 256 + 512 * i.val) (inb) (y : S4352x256.Idx)
    (h : ((y 0).val - 256) / 512 = i.val) (h' : 256 ≤ (y 0).val) :
    y ∈ (Rect.unit (s := S4352x256) ![n, 0] ![512, 256] inb).set := by
  have b1 : (y 1).val < 256 := (y 1).isLt
  refine Rect.mem_set_unit.mpr fun j => ?_
  match j with
  | 0 => exact ⟨by show n ≤ _; omega, by show _ < n + 512; omega⟩
  | 1 => exact ⟨by show 0 ≤ _; omega, by show _ < 0 + 256; omega⟩

/-- The rows from 256 on of a buffer into which the nine chunks were written are the eight chunks. -/
theorem read_stack {sig : RefSig} {κ : Kind} {sp : Space} (v : View sig κ sp S4352x256 .bf16)
    (a : FVec Ideal S256x256 .bf16) (w0 w1 w2 w3 w4 w5 w6 w7 : FVec Ideal S512x256 .bf16)
    (h7 h6 h5 h4 h3 h2 h1 h0 h hr) :
    v.readCov (Val := Elt Ideal) [⟨Rect.unit ![3840, 0] ![512, 256] h7, w7⟩, ⟨Rect.unit ![3328, 0] ![512, 256] h6, w6⟩,
      ⟨Rect.unit ![2816, 0] ![512, 256] h5, w5⟩, ⟨Rect.unit ![2304, 0] ![512, 256] h4, w4⟩,
      ⟨Rect.unit ![1792, 0] ![512, 256] h3, w3⟩, ⟨Rect.unit ![1280, 0] ![512, 256] h2, w2⟩,
      ⟨Rect.unit ![768, 0] ![512, 256] h1, w1⟩, ⟨Rect.unit ![256, 0] ![512, 256] h0, w0⟩,
      ⟨Rect.unit ![0, 0] ![256, 256] h, a⟩] (Rect.unit ![256, 0] ![4096, 256] hr).toLoadRect
      = stack ![w0, w1, w2, w3, w4, w5, w6, w7] := by
  rw [View.readCov_eq_canon']
  funext j
  refine (View.canon_apply_of_pieces (stored a ![w0, w1, w2, w3, w4, w5, w6, w7]) _ ?_ _ ?_).trans ?_
  · simp only [List.mem_cons, List.mem_nil_iff, or_false, forall_eq_or_imp, forall_eq]
    exact ⟨fun x => stored_chunk a ![w0, w1, w2, w3, w4, w5, w6, w7] 7 _ rfl _ x,
      fun x => stored_chunk a ![w0, w1, w2, w3, w4, w5, w6, w7] 6 _ rfl _ x,
      fun x => stored_chunk a ![w0, w1, w2, w3, w4, w5, w6, w7] 5 _ rfl _ x,
      fun x => stored_chunk a ![w0, w1, w2, w3, w4, w5, w6, w7] 4 _ rfl _ x,
      fun x => stored_chunk a ![w0, w1, w2, w3, w4, w5, w6, w7] 3 _ rfl _ x,
      fun x => stored_chunk a ![w0, w1, w2, w3, w4, w5, w6, w7] 2 _ rfl _ x,
      fun x => stored_chunk a ![w0, w1, w2, w3, w4, w5, w6, w7] 1 _ rfl _ x,
      fun x => stored_chunk a ![w0, w1, w2, w3, w4, w5, w6, w7] 0 _ rfl _ x,
      fun x => stored_context a ![w0, w1, w2, w3, w4, w5, w6, w7] _ x⟩
  · have e0 : ((Rect.unit (s := S4352x256) ![256, 0] ![4096, 256] hr).idx j 0).val = 256 + (j 0).val :=
      Rect.idx_unit_val _ _ _ _ _
    have b : (j 0).val < 4096 := (j 0).isLt
    simp only [List.mem_cons, List.mem_nil_iff, or_false, exists_eq_or_imp, exists_eq_left]
    have c : (j 0).val / 512 = 7 ∨ (j 0).val / 512 = 6 ∨ (j 0).val / 512 = 5 ∨ (j 0).val / 512 = 4
      ∨ (j 0).val / 512 = 3 ∨ (j 0).val / 512 = 2 ∨ (j 0).val / 512 = 1 ∨ (j 0).val / 512 = 0 := by omega
    refine c.imp (fun q => mem_chunk 7 _ rfl _ _ ?_ ?_) (Or.imp (fun q => mem_chunk 6 _ rfl _ _ ?_ ?_)
      (Or.imp (fun q => mem_chunk 5 _ rfl _ _ ?_ ?_) (Or.imp (fun q => mem_chunk 4 _ rfl _ _ ?_ ?_)
      (Or.imp (fun q => mem_chunk 3 _ rfl _ _ ?_ ?_) (Or.imp (fun q => mem_chunk 2 _ rfl _ _ ?_ ?_)
      (Or.imp (fun q => mem_chunk 1 _ rfl _ _ ?_ ?_) (fun q => Or.inl (mem_chunk 0 _ rfl _ _ ?_ ?_))))))))
    all_goals
      rw [e0]
      first | omega | (refine Eq.trans ?_ q; omega)
  · have e0 : ((Rect.unit (s := S4352x256) ![256, 0] ![4096, 256] hr).idx j 0).val = 256 + (j 0).val :=
      Rect.idx_unit_val _ _ _ _ _
    have e1 : ((Rect.unit (s := S4352x256) ![256, 0] ![4096, 256] hr).idx j 1).val = 0 + (j 1).val :=
      Rect.idx_unit_val _ _ _ _ _
    show stored _ _ ((Rect.unit (s := S4352x256) ![256, 0] ![4096, 256] hr).idx j) = stack _ j
    unfold stored stack
    rw [dif_neg (by omega)]
    refine congr (congrArg _ (Fin.ext ?_)) (congrArg₂ ix2 (Fin.ext ?_) (Fin.ext ?_))
    · show _ / 512 = _ / 512
      omega
    · show _ % 512 = _ % 512
      omega
    · show _ = (j 1).val
      omega

/-- A unit's output from its scores and its values. -/
def Chunks.out (u : Chunks) (vc : FVec Ideal S128x256 .bf16) (vx : FVec Ideal S128x4096 .bf16) : FVec Ideal S256x128 .f32 :=
  quot u.den vc (truncf .bf16 (ex0 u.top u.c) bitsLt_bf16_f32) vx
    (stack ![truncf .bf16 (ex u.top (u.x 0)) bitsLt_bf16_f32, truncf .bf16 (ex u.top (u.x 1)) bitsLt_bf16_f32,
      truncf .bf16 (ex u.top (u.x 2)) bitsLt_bf16_f32, truncf .bf16 (ex u.top (u.x 3)) bitsLt_bf16_f32,
      truncf .bf16 (ex u.top (u.x 4)) bitsLt_bf16_f32, truncf .bf16 (ex u.top (u.x 5)) bitsLt_bf16_f32,
      truncf .bf16 (ex u.top (u.x 6)) bitsLt_bf16_f32, truncf .bf16 (ex u.top (u.x 7)) bitsLt_bf16_f32])

/-- The unit's output is the weighted average of its values. -/
theorem Chunks.Holds.out_at {u : Chunks} {S : Fin 4352 → Fin 256 → EReal} (h : u.Holds S) (vc : FVec Ideal S128x256 .bf16)
    (vx : FVec Ideal S128x4096 .bf16) (W : Fin 4352 → Fin 128 → EReal)
    (hvc : ∀ (e : Fin 128) (k : Fin 256), vc (ix2 e k) = W ⟨k.val, by omega⟩ e)
    (hvx : ∀ (e : Fin 128) (k : Fin 4096), vx (ix2 e k) = W ⟨256 + k.val, by omega⟩ e) (q : Fin 256) (e : Fin 128) :
    u.out vc vx (ix2 q e) = Softmax.avg (fun k => S k q) (fun k => W k e) := by
  have ht : u.top (ix2 0 q) = Softmax.top (fun k => S k q) := h.top_eq q
  rw [Chunks.out, h.quot_eq vc _ vx _ W ?_ ?_ hvc hvx q e, ht]
  · rfl
  · intro k q
    show ex0 u.top u.c (ix2 k q) = _
    rw [ex0_at, h.c]
  · intro k q
    have hx (i : Fin 8) (j : Fin 512) (e : i.val * 512 + j.val = k.val) :
        ex u.top (u.x i) (ix2 j q) = Ideal.exp2 (S ⟨256 + k.val, by omega⟩ q - u.top (ix2 0 q)) := by
      rw [ex_at, h.x]
      congr 3
      exact Fin.ext (by show 256 + (i.val * 512 + j.val) = 256 + k.val; omega)
    have hk : (⟨k.val / 512, by omega⟩ : Fin 8).val * 512 + (⟨k.val % 512, by omega⟩ : Fin 512).val = k.val :=
      Nat.div_add_mod' _ _
    refine Eq.trans ?_ (hx ⟨k.val / 512, by omega⟩ ⟨k.val % 512, by omega⟩ hk)
    show (![_, _, _, _, _, _, _, _] : Fin 8 → FVec Ideal S512x256 .bf16) ⟨k.val / 512, _⟩ (ix2 ⟨k.val % 512, _⟩ q) = _
    generalize (⟨k.val / 512, by omega⟩ : Fin 8) = i
    generalize (⟨k.val % 512, by omega⟩ : Fin 512) = j
    fin_cases i <;> rfl

end Cert.Unit
end
-- ==== Proof.Attn.lean ====
module

public import proofs.«01_k».proof.Proof.Gen.KernelIdeal.Frame
public import proofs.«01_k».proof.Proof.UnitOut
public import Idealize.ShloMosaic.Lib.Pipeline.Value
public import Idealize.ShloMosaic.Lib.Pipeline.ReadBack

/-! # The differential attention: what one grid point stores -/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen Cert.Unit

/-- The scores of 512 image keys for 256 queries. -/
def score (k : FVec Ideal S512x128 .bf16) (q : FVec Ideal S128x256 .bf16) : FVec Ideal S512x256 .f32 :=
  matmul dot_S512x128_S128x256_S512x256_1_0_0_1_n_n none k q (constant S512x256 .f32 0x00000000#32)

/-- The scores of the 256 context keys for 256 queries. -/
def score0 (k : FVec Ideal S256x128 .bf16) (q : FVec Ideal S128x256 .bf16) : FVec Ideal S256x256 .f32 :=
  matmul dot_S256x128_S128x256_S256x256_1_0_0_1_n_n none k q (constant S256x256 .f32 0x00000000#32)

/-- The scores of a unit from the keys and the masked queries. -/
def scores (kc : FVec Ideal S256x128 .bf16) (kx : FVec Ideal S4096x128 .bf16) (q : FVec Ideal S128x256 .bf16) : Chunks where
  c := score0 kc q
  x := ![score (View.ld (Val := Elt Ideal) (e' := .bf16) kx (Rect.unit ![0, 0] ![512, 128] inb_S4096x128_S512x128_0_0)) q,
    score (View.ld (Val := Elt Ideal) (e' := .bf16) kx (Rect.unit ![512, 0] ![512, 128] inb_S4096x128_S512x128_512_0)) q,
    score (View.ld (Val := Elt Ideal) (e' := .bf16) kx (Rect.unit ![1024, 0] ![512, 128] inb_S4096x128_S512x128_1024_0)) q,
    score (View.ld (Val := Elt Ideal) (e' := .bf16) kx (Rect.unit ![1536, 0] ![512, 128] inb_S4096x128_S512x128_1536_0)) q,
    score (View.ld (Val := Elt Ideal) (e' := .bf16) kx (Rect.unit ![2048, 0] ![512, 128] inb_S4096x128_S512x128_2048_0)) q,
    score (View.ld (Val := Elt Ideal) (e' := .bf16) kx (Rect.unit ![2560, 0] ![512, 128] inb_S4096x128_S512x128_2560_0)) q,
    score (View.ld (Val := Elt Ideal) (e' := .bf16) kx (Rect.unit ![3072, 0] ![512, 128] inb_S4096x128_S512x128_3072_0)) q,
    score (View.ld (Val := Elt Ideal) (e' := .bf16) kx (Rect.unit ![3584, 0] ![512, 128] inb_S4096x128_S512x128_3584_0)) q]

variable (m : (ℓ : Loc nD τ sig) → Buf (Elt Ideal) ℓ)

/-- The output of the unit with masked queries `q` at grid point `t`. -/
def unitOut (c : Dev nD) (t : Fin cfg0.N) (q : FVec Ideal S128x256 .bf16) : FVec Ideal S256x128 .f32 :=
  (scores (iblk m c 1 t) (iblk m c 3 t) q).out (iblk m c 2 t) (iblk m c 4 t)

/-- Two units' outputs, subtracted, normalised and scaled. -/
def half (c : Dev nD) (t : Fin cfg0.N) (q1 q2 : FVec Ideal S128x256 .bf16) : FVec Ideal S256x128 .bf16 :=
  k0_pay193 (unitOut m c t q1) (unitOut m c t q2) (iblk m c 9 t)
    (k0_pay191 (iblk m c 5 t) (iblk m c 6 t) (iblk m c 7 t) (iblk m c 8 t)) (Scalar.ofBits .f32 0x3E4CCCCD#32)

set_option maxHeartbeats 1600000 in
/-- One grid point stores two halves of 256 queries. -/
theorem opened (c : Dev nD) (t : Fin cfg0.N) : outsAt0 (F := Ideal) m c t = View.canon
    [⟨Rect.unit ![256, 0] ![256, 128] inb_S512x128_S256x128_256_0,
        half m c t (k0_pay6 (iblk m c 0 t)) (k0_pay8 (iblk m c 0 t))⟩,
      ⟨Rect.unit ![0, 0] ![256, 128] inb_S512x128_S256x128_0_0,
        half m c t (k0_pay5 (iblk m c 0 t)) (k0_pay7 (iblk m c 0 t))⟩] := by
  unfold outsAt0
  frame_open
  simp (disch := decide) only [↓ View.readCov_skip, ↓ View.readCov_cons_toLoadRect, ↓ View.readCov_fill]
  frame_out
  simp only [read_stack, shapeCast_self, half, unitOut, Chunks.out, Chunks.top, Chunks.den, scores, score, score0, quot, up, up0, last,
    ex, ex0, ad, ad0, Matrix.cons_val,
    k0_pay1, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95,
    k0_pay96, k0_pay97, k0_pay98, k0_pay99, k0_pay100, k0_pay101, k0_pay102, k0_pay103, k0_pay104, k0_pay105,
    k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135,
    k0_pay136, k0_pay137, k0_pay138, k0_pay139, k0_pay140, k0_pay141, k0_pay142, k0_pay143, k0_pay144, k0_pay145,
    k0_pay146, k0_pay147, k0_pay148, k0_pay149, k0_pay150, k0_pay151, k0_pay152, k0_pay153, k0_pay154, k0_pay155,
    k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175,
    k0_pay176, k0_pay177, k0_pay178, k0_pay179, k0_pay180, k0_pay181, k0_pay182, k0_pay183, k0_pay184, k0_pay185,
    k0_pay186, k0_pay187, k0_pay188, k0_pay189, k0_pay190, k0_pay192, k0_pay193, k0_pay194, k0_pay195]

end Cert.KernelIdeal.Attn
end
-- ==== Proof.AttnValue.lean ====
module

public import proofs.«01_k».proof.Proof.Attn
public import Idealize.ShloMosaic.Lib.StableHlo.Run

/-! # The differential attention: the result array -/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen Cert.Unit

/-! ## The mathematics -/

/-- Key `k` of batch `b` at feature `f`: the 256 context keys, then the 4096 image keys. -/
def key (kc : FVec Ideal S1024x512 .bf16) (kx : FVec Ideal S16384x512 .bf16) (b : Fin 4) (k : Fin 4352)
    (f : Fin 512) : EReal :=
  if h : k.val < 256 then kc (ix2 ⟨b.val * 256 + k.val, by omega⟩ f)
  else kx (ix2 ⟨b.val * 4096 + (k.val - 256), by omega⟩ f)

/-- Value `k` of batch `b` at feature `f`. -/
def value (vc : FVec Ideal S512x1024 .bf16) (vx : FVec Ideal S512x16384 .bf16) (b : Fin 4) (k : Fin 4352)
    (f : Fin 512) : EReal :=
  if h : k.val < 256 then vc (ix2 f ⟨b.val * 256 + k.val, by omega⟩)
  else vx (ix2 f ⟨b.val * 4096 + (k.val - 256), by omega⟩)

/-- The score of query `l` against key `k` in map `mp` of head `h`: 64 features each. -/
def logit (qx : FVec Ideal S512x16384 .bf16) (kc : FVec Ideal S1024x512 .bf16) (kx : FVec Ideal S16384x512 .bf16)
    (b h : Fin 4) (mp : Fin 2) (l : Fin 4096) (k : Fin 4352) : EReal :=
  ∑ f : Fin 64, key kc kx b k ⟨h.val * 128 + mp.val * 64 + f.val, by omega⟩
    * qx (ix2 ⟨h.val * 128 + mp.val * 64 + f.val, by omega⟩ ⟨b.val * 4096 + l.val, by omega⟩)

section
variable (qx : FVec Ideal S512x16384 .bf16) (kc : FVec Ideal S1024x512 .bf16) (vc : FVec Ideal S512x1024 .bf16)
  (kx : FVec Ideal S16384x512 .bf16) (vx : FVec Ideal S512x16384 .bf16) (lq1 lk1 lq2 lk2 : FVec Ideal S1x64 .f32)
  (g : FVec Ideal S1x128 .f32)

/-- The attention of map `mp`. -/
def attend (b h : Fin 4) (mp : Fin 2) (l : Fin 4096) (e : Fin 128) : EReal :=
  Softmax.avg (logit qx kc kx b h mp l) (fun k => value vc vx b k ⟨h.val * 128 + e.val, by omega⟩)

/-- The weight of the second map. -/
def lam : EReal :=
  Ideal.exp (∑ k : Fin 64, lq1 (ix2 0 k) * lk1 (ix2 0 k)) - Ideal.exp (∑ k : Fin 64, lq2 (ix2 0 k) * lk2 (ix2 0 k))
    + Ideal.ofBits .f32 0x3E4CCCCD#32

/-- The difference of the two maps. -/
def diff (b h : Fin 4) (l : Fin 4096) (e : Fin 128) : EReal :=
  attend qx kc vc kx vx b h 0 l e - lam lq1 lk1 lq2 lk2 * attend qx kc vc kx vx b h 1 l e

/-- The difference, RMS-normalised over the head's 128 features and scaled. -/
def specAt (b h : Fin 4) (l : Fin 4096) (e : Fin 128) : EReal :=
  diff qx kc vc kx vx lq1 lk1 lq2 lk2 b h l e
    * Ideal.rsqrt (Ideal.div (∑ e : Fin 128, diff qx kc vc kx vx lq1 lk1 lq2 lk2 b h l e
        * diff qx kc vc kx vx lq1 lk1 lq2 lk2 b h l e) (Ideal.ofBits .f32 0x43000000#32) + Ideal.ofBits .f32 0x358637BD#32)
    * g (ix2 0 e) * Ideal.ofBits .f32 0x3F4CCCCD#32

/-- The result array: one row per token, 128 features per head. -/
def spec : FVec Ideal S16384x512 .bf16 := fun i =>
  specAt qx kc vc kx vx lq1 lk1 lq2 lk2 g ⟨(i 0).val / 4096, by idx_bounds; omega⟩ ⟨(i 1).val / 128, by idx_bounds; omega⟩
    ⟨(i 0).val % 4096, by omega⟩ ⟨(i 1).val % 128, by omega⟩

end

/-! ## One unit -/

/-- The keys of a block pair at key `k`, feature `f`. -/
def bkey (kc : FVec Ideal S256x128 .bf16) (kx : FVec Ideal S4096x128 .bf16) (k : Fin 4352) (f : Fin 128) : EReal :=
  if h : k.val < 256 then kc (ix2 ⟨k.val, h⟩ f) else kx (ix2 ⟨k.val - 256, by omega⟩ f)

theorem score0_at (k : FVec Ideal S256x128 .bf16) (q : FVec Ideal S128x256 .bf16) (i : Fin 256) (j : Fin 256) :
    score0 k q (ix2 i j) = ∑ f : Fin 128, k (ix2 i f) * q (ix2 f j) := by
  pointwise [score0]

theorem score_at (kx : FVec Ideal S4096x128 .bf16) (q : FVec Ideal S128x256 .bf16) (n : ℕ) (inb) (i : Fin 512) (j : Fin 256)
    (r : Fin 4096) (hr : r.val = n + i.val) :
    score (View.ld (Val := Elt Ideal) (e' := .bf16) kx (Rect.unit (s := S4096x128) ![n, 0] ![512, 128] inb)) q (ix2 i j)
      = ∑ f : Fin 128, kx (ix2 r f) * q (ix2 f j) := by
  have e (k : FVec Ideal S512x128 .bf16) : score k q (ix2 i j) = ∑ f : Fin 128, k (ix2 i f) * q (ix2 f j) := by
    pointwise [score]
  refine (e _).trans (Finset.sum_congr rfl fun f _ => congrArg (· * _) ?_)
  refine View.ld_unit_apply_of (Val := Elt Ideal) (e := .bf16) kx _ _ inb _ _ fun a => ?_
  match a with
  | 0 => exact hr
  | 1 => exact (Nat.zero_add _).symm

/-- The scores of a unit: sums over the block's 128 features. -/
theorem holds (kc : FVec Ideal S256x128 .bf16) (kx : FVec Ideal S4096x128 .bf16) (q : FVec Ideal S128x256 .bf16) :
    (scores kc kx q).Holds fun k j => ∑ f : Fin 128, bkey kc kx k f * q (ix2 f j) where
  c k j := by
    refine (score0_at kc q k j).trans (Finset.sum_congr rfl fun f _ => congrArg (· * _) ?_)
    rw [bkey, dif_pos k.isLt]
  x i k j := by
    have e (f : Fin 128) : bkey kc kx ⟨256 + (i.val * 512 + k.val), by omega⟩ f
        = kx (ix2 ⟨i.val * 512 + k.val, by omega⟩ f) := by
      rw [bkey, dif_neg (by simp only []; omega)]
      congr 2
      exact Fin.ext (Nat.add_sub_cancel_left ..)
    simp only [e]
    fin_cases i
    all_goals exact score_at kx q _ _ k j _ (by first | rfl | exact Nat.add_comm _ _ | simp)

/-- A sum over the 128 features of a head in its two maps. -/
theorem sum_maps (F : Fin 128 → EReal) :
    ∑ f, F f = (∑ f : Fin 64, F ⟨f.val, by omega⟩) + ∑ f : Fin 64, F ⟨64 + f.val, by omega⟩ :=
  Fin.sum_univ_add (a := 64) (b := 64) F

theorem lt_bits : ∀ f : Fin 128, IntOp.cmpi .slt (BitVec.ofNat 32 f.val) 64#32 = if f.val < 64 then 1#1 else 0#1 := by
  decide +kernel

theorem ge_bits : ∀ f : Fin 128, IntOp.cmpi .sge (BitVec.ofNat 32 f.val) 64#32 = if f.val < 64 then 0#1 else 1#1 := by
  decide +kernel

/-- Queries whose second map is masked meet a key in the first map's features alone. -/
theorem sum_low (F : Fin 128 → EReal) (Q : Fin 128 → EReal) :
    (∑ f : Fin 128, Scalar.select (α := EReal) (IntOp.cmpi .slt (BitVec.ofNat 32 f.val) 64#32) (F f * Q f) 0)
      = ∑ f : Fin 64, F ⟨f.val, by omega⟩ * Q ⟨f.val, by omega⟩ := by
  rw [sum_maps]
  refine (congrArg₂ (· + ·) (Finset.sum_congr rfl fun f _ => ?_) (Finset.sum_eq_zero fun f _ => ?_)).trans (add_zero _)
  · rw [lt_bits, if_pos f.isLt]
    rfl
  · rw [lt_bits, if_neg (by simp only []; omega)]
    rfl

/-- Queries whose first map is masked meet a key in the second map's features alone. -/
theorem sum_high (F : Fin 128 → EReal) (Q : Fin 128 → EReal) :
    (∑ f : Fin 128, Scalar.select (α := EReal) (IntOp.cmpi .sge (BitVec.ofNat 32 f.val) 64#32) (F f * Q f) 0)
      = ∑ f : Fin 64, F ⟨64 + f.val, by omega⟩ * Q ⟨64 + f.val, by omega⟩ := by
  rw [sum_maps]
  refine (congrArg₂ (· + ·) (Finset.sum_eq_zero fun f _ => ?_) (Finset.sum_congr rfl fun f _ => ?_)).trans (zero_add _)
  · rw [ge_bits, if_pos f.isLt]
    rfl
  · rw [ge_bits, if_neg (by simp only []; omega)]
    rfl

variable (m : (ℓ : Loc nD τ sig) → Buf (Elt Ideal) ℓ)

/-- The block of each window at each of the 128 points: batch `t / 32`, head `t / 8 % 4`, query block `t % 8`. -/
theorem idx : ∀ t : Fin cfg0.N, win0_0.index t = ![t.val / 8 % 4, t.val / 32 * 8 + t.val % 8]
    ∧ win0_1.index t = ![t.val / 32, t.val / 8 % 4] ∧ win0_2.index t = ![t.val / 8 % 4, t.val / 32]
    ∧ win0_3.index t = ![t.val / 32, t.val / 8 % 4] ∧ win0_4.index t = ![t.val / 8 % 4, t.val / 32]
    ∧ win0_5.index t = ![0, 0] ∧ win0_6.index t = ![0, 0] ∧ win0_7.index t = ![0, 0] ∧ win0_8.index t = ![0, 0]
    ∧ win0_9.index t = ![0, 0] ∧ win0_10.index t = ![t.val / 32 * 8 + t.val % 8, t.val / 8 % 4] :=
  (by decide +kernel : ∀ t : Fin grid0.N, _)

/-- The batch of a grid point. -/
abbrev bOf (t : Fin cfg0.N) : Fin 4 := ⟨t.val / 32, by have := lt_of_lt_of_eq t.isLt N_0; omega⟩

/-- The head of a grid point. -/
abbrev hOf (t : Fin cfg0.N) : Fin 4 := ⟨t.val / 8 % 4, by omega⟩

theorem q_at (c : Dev nD) (t : Fin cfg0.N) (f : Fin 128) (j : Fin 512) : iblk m c 0 t (ix2 f j)
    = m ((c : Thread nD τ).loc main_arg0) (ix2 ⟨(hOf t).val * 128 + f.val, by omega⟩
      ⟨(bOf t).val * 4096 + (t.val % 8 * 512 + j.val), by omega⟩) := by
  blk_point [iblk, V, idx t]

theorem kc_at (c : Dev nD) (t : Fin cfg0.N) (k : Fin 256) (f : Fin 128) : iblk m c 1 t (ix2 k f)
    = m ((c : Thread nD τ).loc main_arg1) (ix2 ⟨(bOf t).val * 256 + k.val, by omega⟩
      ⟨(hOf t).val * 128 + f.val, by omega⟩) := by
  blk_point [iblk, V, idx t]

theorem vc_at (c : Dev nD) (t : Fin cfg0.N) (e : Fin 128) (k : Fin 256) : iblk m c 2 t (ix2 e k)
    = m ((c : Thread nD τ).loc main_arg2) (ix2 ⟨(hOf t).val * 128 + e.val, by omega⟩
      ⟨(bOf t).val * 256 + k.val, by omega⟩) := by
  blk_point [iblk, V, idx t]

theorem kx_at (c : Dev nD) (t : Fin cfg0.N) (k : Fin 4096) (f : Fin 128) : iblk m c 3 t (ix2 k f)
    = m ((c : Thread nD τ).loc main_arg3) (ix2 ⟨(bOf t).val * 4096 + k.val, by omega⟩
      ⟨(hOf t).val * 128 + f.val, by omega⟩) := by
  blk_point [iblk, V, idx t]

theorem vx_at (c : Dev nD) (t : Fin cfg0.N) (e : Fin 128) (k : Fin 4096) : iblk m c 4 t (ix2 e k)
    = m ((c : Thread nD τ).loc main_arg4) (ix2 ⟨(hOf t).val * 128 + e.val, by omega⟩
      ⟨(bOf t).val * 4096 + k.val, by omega⟩) := by
  blk_point [iblk, V, idx t]

/-- The keys of the blocks are the batch's keys at the head's features. -/
theorem bkey_at (c : Dev nD) (t : Fin cfg0.N) (k : Fin 4352) (f : Fin 128) :
    bkey (iblk m c 1 t) (iblk m c 3 t) k f = key (m ((c : Thread nD τ).loc main_arg1)) (m ((c : Thread nD τ).loc main_arg3))
      (bOf t) k ⟨(hOf t).val * 128 + f.val, by omega⟩ := by
  unfold bkey key
  split
  · exact kc_at m c t _ _
  · exact kx_at m c t _ _

/-- A unit whose masked queries leave map `mp` at the block's columns from `off` on. -/
theorem unit_at (c : Dev nD) (t : Fin cfg0.N) (q : FVec Ideal S128x256 .bf16) (mp : Fin 2) (off : ℕ) (ho : off + 256 ≤ 512)
    (hq : ∀ (F : Fin 128 → EReal) (j : Fin 256), ∑ f : Fin 128, F f * q (ix2 f j)
      = ∑ f : Fin 64, F ⟨mp.val * 64 + f.val, by omega⟩
        * iblk m c 0 t (ix2 ⟨mp.val * 64 + f.val, by omega⟩ ⟨off + j.val, by omega⟩)) (j : Fin 256) (e : Fin 128) :
    unitOut m c t q (ix2 j e) = attend (m ((c : Thread nD τ).loc main_arg0)) (m ((c : Thread nD τ).loc main_arg1))
      (m ((c : Thread nD τ).loc main_arg2)) (m ((c : Thread nD τ).loc main_arg3)) (m ((c : Thread nD τ).loc main_arg4))
      (bOf t) (hOf t) mp ⟨t.val % 8 * 512 + (off + j.val), by omega⟩ e := by
  refine ((holds (iblk m c 1 t) (iblk m c 3 t) q).out_at (iblk m c 2 t) (iblk m c 4 t)
    (fun k e => value (m ((c : Thread nD τ).loc main_arg2)) (m ((c : Thread nD τ).loc main_arg4)) (bOf t) k
      ⟨(hOf t).val * 128 + e.val, by omega⟩) ?_ ?_ j e).trans ?_
  · intro e k
    rw [value, dif_pos k.isLt]
    exact vc_at m c t e k
  · intro e k
    rw [value, dif_neg (by simp only []; omega)]
    refine (vx_at m c t e k).trans (congrArg _ (congrArg₂ ix2 rfl (Fin.ext ?_)))
    show _ + k.val = _ + (256 + k.val - 256)
    omega
  · refine congrArg₂ Softmax.avg (funext fun k => ?_) rfl
    rw [hq]
    refine Finset.sum_congr rfl fun f _ => ?_
    rw [bkey_at, q_at]
    refine congrArg₂ (· * ·) (congrArg _ (Fin.ext ?_)) (congrArg _ (congrArg₂ ix2 (Fin.ext ?_) rfl)) <;>
      (show _ + (_ + _) = _ + _ + _; omega)

theorem unit0_at (c : Dev nD) (t : Fin cfg0.N) (j : Fin 256) (e : Fin 128) :
    unitOut m c t (k0_pay5 (iblk m c 0 t)) (ix2 j e) = attend (m ((c : Thread nD τ).loc main_arg0))
      (m ((c : Thread nD τ).loc main_arg1)) (m ((c : Thread nD τ).loc main_arg2)) (m ((c : Thread nD τ).loc main_arg3))
      (m ((c : Thread nD τ).loc main_arg4)) (bOf t) (hOf t) 0 ⟨t.val % 8 * 512 + (0 + j.val), by omega⟩ e := by
  refine unit_at m c t _ 0 0 (by omega) (fun F j => ?_) j e
  generalize iblk m c 0 t = q
  pointwise [k0_pay5, k0_pay3, k0_pay2]
  refine (sum_low F fun f => q (ix2 f ⟨j.val, by omega⟩)).trans (Finset.sum_congr rfl fun f _ => ?_)
  refine congrArg₂ (· * ·) (congrArg F (Fin.ext ?_)) (congrArg q (congrArg₂ ix2 (Fin.ext ?_) (Fin.ext ?_))) <;>
    simp

theorem unit1_at (c : Dev nD) (t : Fin cfg0.N) (j : Fin 256) (e : Fin 128) :
    unitOut m c t (k0_pay6 (iblk m c 0 t)) (ix2 j e) = attend (m ((c : Thread nD τ).loc main_arg0))
      (m ((c : Thread nD τ).loc main_arg1)) (m ((c : Thread nD τ).loc main_arg2)) (m ((c : Thread nD τ).loc main_arg3))
      (m ((c : Thread nD τ).loc main_arg4)) (bOf t) (hOf t) 0 ⟨t.val % 8 * 512 + (256 + j.val), by omega⟩ e := by
  refine unit_at m c t _ 0 256 (by omega) (fun F j => ?_) j e
  generalize iblk m c 0 t = q
  pointwise [k0_pay6, k0_pay3, k0_pay2]
  refine (sum_low F fun f => q (ix2 f ⟨256 + j.val, by omega⟩)).trans (Finset.sum_congr rfl fun f _ => ?_)
  refine congrArg₂ (· * ·) (congrArg F (Fin.ext ?_)) (congrArg q (congrArg₂ ix2 (Fin.ext ?_) (Fin.ext ?_))) <;>
    simp

theorem unit2_at (c : Dev nD) (t : Fin cfg0.N) (j : Fin 256) (e : Fin 128) :
    unitOut m c t (k0_pay7 (iblk m c 0 t)) (ix2 j e) = attend (m ((c : Thread nD τ).loc main_arg0))
      (m ((c : Thread nD τ).loc main_arg1)) (m ((c : Thread nD τ).loc main_arg2)) (m ((c : Thread nD τ).loc main_arg3))
      (m ((c : Thread nD τ).loc main_arg4)) (bOf t) (hOf t) 1 ⟨t.val % 8 * 512 + (0 + j.val), by omega⟩ e := by
  refine unit_at m c t _ 1 0 (by omega) (fun F j => ?_) j e
  generalize iblk m c 0 t = q
  pointwise [k0_pay7, k0_pay4, k0_pay2]
  refine (sum_high F fun f => q (ix2 f ⟨j.val, by omega⟩)).trans (Finset.sum_congr rfl fun f _ => ?_)
  refine congrArg₂ (· * ·) (congrArg F (Fin.ext ?_)) (congrArg q (congrArg₂ ix2 (Fin.ext ?_) (Fin.ext ?_))) <;>
    simp

theorem unit3_at (c : Dev nD) (t : Fin cfg0.N) (j : Fin 256) (e : Fin 128) :
    unitOut m c t (k0_pay8 (iblk m c 0 t)) (ix2 j e) = attend (m ((c : Thread nD τ).loc main_arg0))
      (m ((c : Thread nD τ).loc main_arg1)) (m ((c : Thread nD τ).loc main_arg2)) (m ((c : Thread nD τ).loc main_arg3))
      (m ((c : Thread nD τ).loc main_arg4)) (bOf t) (hOf t) 1 ⟨t.val % 8 * 512 + (256 + j.val), by omega⟩ e := by
  refine unit_at m c t _ 1 256 (by omega) (fun F j => ?_) j e
  generalize iblk m c 0 t = q
  pointwise [k0_pay8, k0_pay4, k0_pay2]
  refine (sum_high F fun f => q (ix2 f ⟨256 + j.val, by omega⟩)).trans (Finset.sum_congr rfl fun f _ => ?_)
  refine congrArg₂ (· * ·) (congrArg F (Fin.ext ?_)) (congrArg q (congrArg₂ ix2 (Fin.ext ?_) (Fin.ext ?_))) <;>
    simp

/-! ## The stored halves and the array -/

/-- What a half stores, from its two units. -/
theorem half_at (c : Dev nD) (t : Fin cfg0.N) (q1 q2 : FVec Ideal S128x256 .bf16) (l : Fin 256 → Fin 4096)
    (h1 : ∀ j e, unitOut m c t q1 (ix2 j e) = attend (m ((c : Thread nD τ).loc main_arg0))
      (m ((c : Thread nD τ).loc main_arg1)) (m ((c : Thread nD τ).loc main_arg2)) (m ((c : Thread nD τ).loc main_arg3))
      (m ((c : Thread nD τ).loc main_arg4)) (bOf t) (hOf t) 0 (l j) e)
    (h2 : ∀ j e, unitOut m c t q2 (ix2 j e) = attend (m ((c : Thread nD τ).loc main_arg0))
      (m ((c : Thread nD τ).loc main_arg1)) (m ((c : Thread nD τ).loc main_arg2)) (m ((c : Thread nD τ).loc main_arg3))
      (m ((c : Thread nD τ).loc main_arg4)) (bOf t) (hOf t) 1 (l j) e) (j : Fin 256) (e : Fin 128) :
    half m c t q1 q2 (ix2 j e) = specAt (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (bOf t) (hOf t) (l j) e := by
  unfold half
  generalize unitOut m c t q1 = u1 at h1 ⊢
  generalize unitOut m c t q2 = u2 at h2 ⊢
  pointwise [k0_pay193, k0_pay192, k0_pay191, specAt, diff, lam]
  simp only [h1, h2]
  blk_point [iblk, V, idx t]

theorem row_emb (o : ℕ) (inb) (x : S256x128.Idx) :
    ((Rect.unit (s := S512x128) ![o, 0] ![256, 128] inb).emb x 0).val = o + (x 0).val :=
  Rect.idx_unit_val _ _ _ _ _

theorem col_emb (o : ℕ) (inb) (x : S256x128.Idx) :
    ((Rect.unit (s := S512x128) ![o, 0] ![256, 128] inb).emb x 1).val = 0 + (x 1).val :=
  Rect.idx_unit_val _ _ _ _ _

/-- What a grid point stores, at a row and a feature of its block. -/
theorem out_at (c : Dev nD) (t : Fin cfg0.N) (r : Fin 512) (e : Fin 128) :
    outsAt0 (F := Ideal) m c t (ix2 r e) = specAt (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (bOf t) (hOf t) ⟨t.val % 8 * 512 + r.val, by omega⟩ e := by
  rw [opened]
  refine (View.canon_apply_of_pieces (Val := Elt Ideal) (e := .bf16) (fun y : S512x128.Idx => specAt
    (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (bOf t) (hOf t) ⟨t.val % 8 * 512 + (y 0).val, by idx_bounds; omega⟩ (y 1)) _ ?_ _ ?_).trans rfl
  · simp only [List.mem_cons, List.mem_nil_iff, or_false, forall_eq_or_imp, forall_eq]
    refine ⟨fun x => ?_, fun x => ?_⟩
    · rw [eq_ix2 x]
      refine (half_at m c t _ _ (fun j => ⟨t.val % 8 * 512 + (256 + j.val), by omega⟩) (unit1_at m c t) (unit3_at m c t)
        (x 0) (x 1)).trans ?_
      refine congrArg₂ (specAt _ _ _ _ _ _ _ _ _ _ (bOf t) (hOf t)) (Fin.ext ?_) (Fin.ext ?_)
      · exact congrArg (t.val % 8 * 512 + ·) (row_emb _ _ _).symm
      · exact (Nat.zero_add _).symm.trans (col_emb _ _ _).symm
    · rw [eq_ix2 x]
      refine (half_at m c t _ _ (fun j => ⟨t.val % 8 * 512 + (0 + j.val), by omega⟩) (unit0_at m c t) (unit2_at m c t)
        (x 0) (x 1)).trans ?_
      refine congrArg₂ (specAt _ _ _ _ _ _ _ _ _ _ (bOf t) (hOf t)) (Fin.ext ?_) (Fin.ext ?_)
      · exact congrArg (t.val % 8 * 512 + ·) (row_emb _ _ _).symm
      · exact (Nat.zero_add _).symm.trans (col_emb _ _ _).symm
  · simp only [List.mem_cons, List.mem_nil_iff, or_false, exists_eq_or_imp, exists_eq_left]
    by_cases h : 256 ≤ r.val
    · refine Or.inl (Rect.mem_set_unit.mpr fun j => ?_)
      match j with
      | 0 => exact ⟨h, by show r.val < 256 + 256; omega⟩
      | 1 => exact ⟨Nat.zero_le _, by show e.val < 0 + 128; omega⟩
    · refine Or.inr (Rect.mem_set_unit.mpr fun j => ?_)
      match j with
      | 0 => exact ⟨Nat.zero_le _, by show r.val < 0 + 256; omega⟩
      | 1 => exact ⟨Nat.zero_le _, by show e.val < 0 + 128; omega⟩

/-- The result array after the run is `spec` of the arguments. -/
theorem final (c : Dev nD) : (dats m 0 c).arrAt 10 (cfgs 0).N
    = spec (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  refine (dats m 0 c).arrAt_eq_of_covers 10 _ (by decide +kernel) fun t hf y => ?_
  have e := (idx t).2.2.2.2.2.2.2.2.2.2
  have b0 : (y 0).val < 512 := (y 0).isLt
  have b1 : (y 1).val < 128 := (y 1).isLt
  have e0 : ((((cfg0.win 10).blk t).view.emb y) 0).val = (t.val / 32 * 8 + t.val % 8) * 512 + (y 0).val := by
    blk_simp [e]
    try exact congrArg (· + (y 0).val) (Nat.mul_comm _ _)
  have e1 : ((((cfg0.win 10).blk t).view.emb y) 1).val = t.val / 8 % 4 * 128 + (y 1).val := by
    blk_simp [e]
    try exact congrArg (· + (y 1).val) (Nat.mul_comm _ _)
  blk_simp
  rw [after0_10]
  refine (congrArg (outsAt0 (F := Ideal) m c t) (eq_ix2 y)).trans ((out_at m c t (y 0) (y 1)).trans ?_)
  unfold spec
  congr 1
  · exact Fin.ext (by show t.val / 32 = _ / 4096; rw [e0]; omega)
  · exact Fin.ext (by show t.val / 8 % 4 = _ / 128; rw [e1]; omega)
  · exact Fin.ext (by show t.val % 8 * 512 + (y 0).val = _ % 4096; rw [e0]; omega)
  · exact Fin.ext (by show (y 1).val = _ % 128; rw [e1]; omega)

end Cert.KernelIdeal.Attn
end
-- ==== Proof.AttnRef.lean ====
module

public import proofs.«01_k».proof.Proof.AttnValue
public import proofs.«01_k».proof.Proof.Gen.ReferenceIdeal.Read

/-! # The differential attention: the reference -/

@[expose] public section

set_option maxRecDepth 16384

noncomputable section

open Idealize.ShloMosaic Idealize.ShloMosaic.TcCoe Idealize.SL.Sem
open scoped BigOperators

namespace Cert.KernelIdeal.Attn

open Cert.KernelIdeal Cert.KernelIdeal.Gen
open Cert.ReferenceIdeal.Read

variable (qx : FVec Ideal S512x16384 .bf16) (kc : FVec Ideal S1024x512 .bf16) (vc : FVec Ideal S512x1024 .bf16)
  (kx : FVec Ideal S16384x512 .bf16) (vx : FVec Ideal S512x16384 .bf16) (lq1 lk1 lq2 lk2 : FVec Ideal S1x64 .f32)
  (g : FVec Ideal S1x128 .f32)

/-- The reference's queries. -/
theorem ref_q (b h : Fin 4) (mp : Fin 2) (l : Fin 4096) (f : Fin 64) :
    val_main_v2 (F := Ideal) qx (ix5 b l h mp f)
      = qx (ix2 ⟨h.val * 128 + mp.val * 64 + f.val, by omega⟩ ⟨b.val * 4096 + l.val, by omega⟩) := by
  pointwise [val_main_v2, val_main_v1, val_main_v0]

/-- The reference's keys. -/
theorem ref_k (b h : Fin 4) (mp : Fin 2) (k : Fin 4352) (f : Fin 64) :
    val_main_v7 (F := Ideal) kc kx (ix5 b k h mp f)
      = key kc kx b k ⟨h.val * 128 + mp.val * 64 + f.val, by omega⟩ := by
  pointwise [val_main_v7, val_main_v6, val_main_v5, val_main_v4, val_main_v3, key]

/-- The reference's values. -/
theorem ref_v (b h : Fin 4) (k : Fin 4352) (e : Fin 128) :
    val_main_v14 (F := Ideal) vc vx (ix4 b k h e) = value vc vx b k ⟨h.val * 128 + e.val, by omega⟩ := by
  pointwise [val_main_v14, val_main_v13, val_main_v12, val_main_v11, val_main_v10, val_main_v9, val_main_v8, value]

/-- The reference's scores. -/
theorem ref_s (b h : Fin 4) (mp : Fin 2) (l : Fin 4096) (k : Fin 4352) :
    val_main_v15 (F := Ideal) qx kc kx (ix5 b h mp l k) = logit qx kc kx b h mp l k := by
  pointwise [val_main_v15]
  simp only [ref_q, ref_k, logit]
  exact Finset.sum_congr rfl fun f _ => mul_comm _ _

/-- The reference's attention. -/
theorem ref_o (b h : Fin 4) (mp : Fin 2) (l : Fin 4096) (e : Fin 128) :
    val_main_v29 (F := Ideal) qx kc vc kx vx (ix5 b l h mp e)
      = Softmax.soft (Ideal.log (Ideal.ofBits .f32 0x40000000#32)) (logit qx kc kx b h mp l)
        (fun k => value vc vx b k ⟨h.val * 128 + e.val, by omega⟩) := by
  pointwise [val_main_v29, val_main_v28, val_main_v27, val_main_v26, val_main_v25, val_main_v24, val_main_v23,
    val_main_v22, val_main_v21, val_main_v20, val_main_v19, val_main_v18, val_main_v17, val_main_v16, val_main_cst,
    val_main_cst_0, val_main_cst_1]
  simp only [ref_v, ref_s, Unit.negInf]
  rfl

/-- The difference of the two maps in the reference. -/
def refDiff (b h : Fin 4) (l : Fin 4096) (e : Fin 128) : EReal :=
  Softmax.soft (Ideal.log (Ideal.ofBits .f32 0x40000000#32)) (logit qx kc kx b h 0 l)
      (fun k => value vc vx b k ⟨h.val * 128 + e.val, by omega⟩)
    - lam lq1 lk1 lq2 lk2 * Softmax.soft (Ideal.log (Ideal.ofBits .f32 0x40000000#32)) (logit qx kc kx b h 1 l)
      (fun k => value vc vx b k ⟨h.val * 128 + e.val, by omega⟩)

/-- Normalised, it is the kernel's. -/
theorem ref_norm (b h : Fin 4) (l : Fin 4096) (e : Fin 128) :
    Softmax.norm (refDiff qx kc vc kx vx lq1 lk1 lq2 lk2 b h l) e = Softmax.norm (diff qx kc vc kx vx lq1 lk1 lq2 lk2 b h l) e :=
  Softmax.norm_diff (logit qx kc kx b h 0 l) (logit qx kc kx b h 1 l)
    (fun (e : Fin 128) k => value vc vx b k ⟨h.val * 128 + e.val, by omega⟩) (lam lq1 lk1 lq2 lk2) e

/-- The reference's difference array. -/
theorem ref_d (b h : Fin 4) (l : Fin 4096) (e : Fin 128) :
    val_main_v44 (F := Ideal) qx kc vc kx vx lq1 lk1 lq2 lk2 (ix4 b l h e)
      = refDiff qx kc vc kx vx lq1 lk1 lq2 lk2 b h l e := by
  pointwise [val_main_v44, val_main_v43, val_main_v42, val_main_v41, val_main_v40, val_main_v39, val_main_v38,
    val_main_v37, val_main_v36, val_main_v35, val_main_v34, val_main_v33, val_main_v32, val_main_v31, val_main_v30,
    val_main_cst_2, val_main_cst_3, val_main_cst_4, refDiff, lam]
  simp only [ref_o, Fin.sum_univ_one]

/-- The reference's normalised array. -/
theorem ref_n (b h : Fin 4) (l : Fin 4096) (e : Fin 128) :
    val_main_v55 (F := Ideal) qx kc vc kx vx lq1 lk1 lq2 lk2 (ix4 b l h e)
      = Softmax.norm (diff qx kc vc kx vx lq1 lk1 lq2 lk2 b h l) e := by
  rw [← ref_norm]
  pointwise [val_main_v55, val_main_v54, val_main_v53, val_main_v52, val_main_v51, val_main_v50, val_main_v49,
    val_main_v48, val_main_v47, val_main_v46, val_main_cst_5, val_main_cst_6, val_main_cst_7]
  simp only [ref_d, Softmax.norm]

/-- The reference computes `spec`. -/
theorem ref_eq : val_main_v62 (F := Ideal) qx kc vc kx vx lq1 lk1 lq2 lk2 g = spec qx kc vc kx vx lq1 lk1 lq2 lk2 g := by
  funext i
  pointwise [val_main_v62, val_main_v61, val_main_v60, val_main_v59, val_main_v58, val_main_v57, val_main_v56,
    val_main_v45, val_main_cst_8, spec, specAt]
  simp only [ref_n, Softmax.norm]

end Cert.KernelIdeal.Attn
end
-- ==== Proof.Attn5.lean ====
module

public import proofs.«01_k».proof.Proof.Gen.Kernel5Ideal.Frame
public import proofs.«01_k».proof.Proof.UnitOut
public import Idealize.ShloMosaic.Lib.Pipeline.Value
public import Idealize.ShloMosaic.Lib.Pipeline.ReadBack

/-! # The latent attention: what one grid point stores -/

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Mla

open Cert.Kernel5Ideal Cert.Kernel5Ideal.Gen Cert.Unit

/-- The scores of 512 image keys for 256 queries. -/
def score (k : FVec Ideal S512x256 .bf16) (q : FVec Ideal S256x256 .bf16) : FVec Ideal S512x256 .f32 :=
  matmul dot_S512x256_S256x256_S512x256_1_0_0_1_n_n none k q (constant S512x256 .f32 0x00000000#32)

/-- The scores of the 256 context keys for 256 queries. -/
def score0 (k : FVec Ideal S256x256 .bf16) (q : FVec Ideal S256x256 .bf16) : FVec Ideal S256x256 .f32 :=
  matmul dot_S256x256_S256x256_S256x256_1_0_0_1_n_n none k q (constant S256x256 .f32 0x00000000#32)

/-- The scores of a unit from the keys and its queries. -/
def scores (kc : FVec Ideal S256x256 .bf16) (kx : FVec Ideal S4096x256 .bf16) (q : FVec Ideal S256x256 .bf16) : Chunks where
  c := score0 kc q
  x := ![score (View.ld (Val := Elt Ideal) (e' := .bf16) kx (Rect.unit ![0, 0] ![512, 256] inb_S4096x256_S512x256_0_0)) q,
    score (View.ld (Val := Elt Ideal) (e' := .bf16) kx (Rect.unit ![512, 0] ![512, 256] inb_S4096x256_S512x256_512_0)) q,
    score (View.ld (Val := Elt Ideal) (e' := .bf16) kx (Rect.unit ![1024, 0] ![512, 256] inb_S4096x256_S512x256_1024_0)) q,
    score (View.ld (Val := Elt Ideal) (e' := .bf16) kx (Rect.unit ![1536, 0] ![512, 256] inb_S4096x256_S512x256_1536_0)) q,
    score (View.ld (Val := Elt Ideal) (e' := .bf16) kx (Rect.unit ![2048, 0] ![512, 256] inb_S4096x256_S512x256_2048_0)) q,
    score (View.ld (Val := Elt Ideal) (e' := .bf16) kx (Rect.unit ![2560, 0] ![512, 256] inb_S4096x256_S512x256_2560_0)) q,
    score (View.ld (Val := Elt Ideal) (e' := .bf16) kx (Rect.unit ![3072, 0] ![512, 256] inb_S4096x256_S512x256_3072_0)) q,
    score (View.ld (Val := Elt Ideal) (e' := .bf16) kx (Rect.unit ![3584, 0] ![512, 256] inb_S4096x256_S512x256_3584_0)) q]

variable (m : (ℓ : Loc nD τ sig) → Buf (Elt Ideal) ℓ)

/-- The output of the unit with queries `q` at grid point `t`. -/
def unitOut (c : Dev nD) (t : Fin cfg0.N) (q : FVec Ideal S256x256 .bf16) : FVec Ideal S256x128 .f32 :=
  (scores (iblk m c 1 t) (iblk m c 3 t) q).out (iblk m c 2 t) (iblk m c 4 t)

/-- The same, as stored. -/
def quarter (c : Dev nD) (t : Fin cfg0.N) (q : FVec Ideal S256x256 .bf16) : FVec Ideal S256x128 .bf16 :=
  truncf .bf16 (unitOut m c t q) bitsLt_bf16_f32

set_option maxHeartbeats 1600000 in
/-- One grid point stores four quarters of 256 queries. -/
theorem opened (c : Dev nD) (t : Fin cfg0.N) : outsAt0 (F := Ideal) m c t = View.canon
    [⟨Rect.unit ![768, 0] ![256, 128] inb_S1024x128_S256x128_768_0, quarter m c t (k0_pay4 (iblk m c 0 t))⟩,
      ⟨Rect.unit ![512, 0] ![256, 128] inb_S1024x128_S256x128_512_0, quarter m c t (k0_pay3 (iblk m c 0 t))⟩,
      ⟨Rect.unit ![256, 0] ![256, 128] inb_S1024x128_S256x128_256_0, quarter m c t (k0_pay2 (iblk m c 0 t))⟩,
      ⟨Rect.unit ![0, 0] ![256, 128] inb_S1024x128_S256x128_0_0, quarter m c t (k0_pay1 (iblk m c 0 t))⟩] := by
  unfold outsAt0
  frame_open
  simp (disch := decide) only [↓ View.readCov_skip, ↓ View.readCov_cons_toLoadRect, ↓ View.readCov_fill]
  frame_out
  simp only [read_stack, shapeCast_self, quarter, unitOut, Chunks.out, Chunks.top, Chunks.den, scores, score, score0, quot, up, up0,
    last, ex, ex0, ad, ad0, Matrix.cons_val,
    k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162,
    k0_pay163, k0_pay164, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182,
    k0_pay183, k0_pay184, k0_pay185, k0_pay186, k0_pay187, k0_pay188, k0_pay189]
  rfl

end Cert.Kernel5Ideal.Mla
end
-- ==== Proof.Attn5Value.lean ====
module

public import proofs.«01_k».proof.Proof.Attn5
public import Idealize.ShloMosaic.Lib.StableHlo.Run

/-! # The latent attention: the result array -/

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Mla

open Cert.Kernel5Ideal Cert.Kernel5Ideal.Gen Cert.Unit

/-! ## The mathematics -/

/-- Key `k` of batch `b` at feature `f`: the 256 context keys, then the 4096 image keys. -/
def key (kc : FVec Ideal S1024x1024 .bf16) (kx : FVec Ideal S16384x1024 .bf16) (b : Fin 4) (k : Fin 4352)
    (f : Fin 1024) : EReal :=
  if h : k.val < 256 then kc (ix2 ⟨b.val * 256 + k.val, by omega⟩ f)
  else kx (ix2 ⟨b.val * 4096 + (k.val - 256), by omega⟩ f)

/-- Value `k` of batch `b` at feature `f`. -/
def value (vc : FVec Ideal S512x1024 .bf16) (vx : FVec Ideal S512x16384 .bf16) (b : Fin 4) (k : Fin 4352)
    (f : Fin 512) : EReal :=
  if h : k.val < 256 then vc (ix2 f ⟨b.val * 256 + k.val, by omega⟩)
  else vx (ix2 f ⟨b.val * 4096 + (k.val - 256), by omega⟩)

/-- The score of query `l` against key `k` in head `h`: 256 features. -/
def logit (qx : FVec Ideal S1024x16384 .bf16) (kc : FVec Ideal S1024x1024 .bf16) (kx : FVec Ideal S16384x1024 .bf16)
    (b h : Fin 4) (l : Fin 4096) (k : Fin 4352) : EReal :=
  ∑ f : Fin 256, key kc kx b k ⟨h.val * 256 + f.val, by omega⟩
    * qx (ix2 ⟨h.val * 256 + f.val, by omega⟩ ⟨b.val * 4096 + l.val, by omega⟩)

section
variable (qx : FVec Ideal S1024x16384 .bf16) (kc : FVec Ideal S1024x1024 .bf16) (vc : FVec Ideal S512x1024 .bf16)
  (kx : FVec Ideal S16384x1024 .bf16) (vx : FVec Ideal S512x16384 .bf16)

/-- The attention of head `h`. -/
def attend (b h : Fin 4) (l : Fin 4096) (e : Fin 128) : EReal :=
  Softmax.avg (logit qx kc kx b h l) (fun k => value vc vx b k ⟨h.val * 128 + e.val, by omega⟩)

/-- The result array: one row per token, 128 features per head. -/
def spec : FVec Ideal S16384x512 .bf16 := fun i =>
  attend qx kc vc kx vx ⟨(i 0).val / 4096, by idx_bounds; omega⟩ ⟨(i 1).val / 128, by idx_bounds; omega⟩
    ⟨(i 0).val % 4096, by omega⟩ ⟨(i 1).val % 128, by omega⟩

end

/-! ## One unit -/

/-- The keys of a block pair at key `k`, feature `f`. -/
def bkey (kc : FVec Ideal S256x256 .bf16) (kx : FVec Ideal S4096x256 .bf16) (k : Fin 4352) (f : Fin 256) : EReal :=
  if h : k.val < 256 then kc (ix2 ⟨k.val, h⟩ f) else kx (ix2 ⟨k.val - 256, by omega⟩ f)

theorem score0_at (k : FVec Ideal S256x256 .bf16) (q : FVec Ideal S256x256 .bf16) (i : Fin 256) (j : Fin 256) :
    score0 k q (ix2 i j) = ∑ f : Fin 256, k (ix2 i f) * q (ix2 f j) := by
  pointwise [score0]

theorem score_at (kx : FVec Ideal S4096x256 .bf16) (q : FVec Ideal S256x256 .bf16) (n : ℕ) (inb) (i : Fin 512) (j : Fin 256)
    (r : Fin 4096) (hr : r.val = n + i.val) :
    score (View.ld (Val := Elt Ideal) (e' := .bf16) kx (Rect.unit (s := S4096x256) ![n, 0] ![512, 256] inb)) q (ix2 i j)
      = ∑ f : Fin 256, kx (ix2 r f) * q (ix2 f j) := by
  have e (k : FVec Ideal S512x256 .bf16) : score k q (ix2 i j) = ∑ f : Fin 256, k (ix2 i f) * q (ix2 f j) := by
    pointwise [score]
  refine (e _).trans (Finset.sum_congr rfl fun f _ => congrArg (· * _) ?_)
  refine View.ld_unit_apply_of (Val := Elt Ideal) (e := .bf16) kx _ _ inb _ _ fun a => ?_
  match a with
  | 0 => exact hr
  | 1 => exact (Nat.zero_add _).symm

/-- The scores of a unit: sums over the block's 256 features. -/
theorem holds (kc : FVec Ideal S256x256 .bf16) (kx : FVec Ideal S4096x256 .bf16) (q : FVec Ideal S256x256 .bf16) :
    (scores kc kx q).Holds fun k j => ∑ f : Fin 256, bkey kc kx k f * q (ix2 f j) where
  c k j := by
    refine (score0_at kc q k j).trans (Finset.sum_congr rfl fun f _ => congrArg (· * _) ?_)
    rw [bkey, dif_pos k.isLt]
  x i k j := by
    have e (f : Fin 256) : bkey kc kx ⟨256 + (i.val * 512 + k.val), by omega⟩ f
        = kx (ix2 ⟨i.val * 512 + k.val, by omega⟩ f) := by
      rw [bkey, dif_neg (by simp only []; omega)]
      congr 2
      exact Fin.ext (Nat.add_sub_cancel_left ..)
    simp only [e]
    fin_cases i
    all_goals exact score_at kx q _ _ k j _ (by first | rfl | exact Nat.add_comm _ _ | simp)

variable (m : (ℓ : Loc nD τ sig) → Buf (Elt Ideal) ℓ)

/-- The block of each window at each of the 64 points: batch `t / 16`, head `t / 4 % 4`, query block `t % 4`. -/
theorem idx : ∀ t : Fin cfg0.N, win0_0.index t = ![t.val / 4 % 4, t.val / 16 * 4 + t.val % 4]
    ∧ win0_1.index t = ![t.val / 16, t.val / 4 % 4] ∧ win0_2.index t = ![t.val / 4 % 4, t.val / 16]
    ∧ win0_3.index t = ![t.val / 16, t.val / 4 % 4] ∧ win0_4.index t = ![t.val / 4 % 4, t.val / 16]
    ∧ win0_5.index t = ![t.val / 16 * 4 + t.val % 4, t.val / 4 % 4] :=
  (by decide +kernel : ∀ t : Fin grid0.N, _)

/-- The batch of a grid point. -/
abbrev bOf (t : Fin cfg0.N) : Fin 4 := ⟨t.val / 16, by have := lt_of_lt_of_eq t.isLt N_0; omega⟩

/-- The head of a grid point. -/
abbrev hOf (t : Fin cfg0.N) : Fin 4 := ⟨t.val / 4 % 4, by omega⟩

theorem q_at (c : Dev nD) (t : Fin cfg0.N) (f : Fin 256) (j : Fin 1024) : iblk m c 0 t (ix2 f j)
    = m ((c : Thread nD τ).loc main_arg0) (ix2 ⟨(hOf t).val * 256 + f.val, by omega⟩
      ⟨(bOf t).val * 4096 + (t.val % 4 * 1024 + j.val), by omega⟩) := by
  blk_point [iblk, V, idx t]

theorem kc_at (c : Dev nD) (t : Fin cfg0.N) (k : Fin 256) (f : Fin 256) : iblk m c 1 t (ix2 k f)
    = m ((c : Thread nD τ).loc main_arg1) (ix2 ⟨(bOf t).val * 256 + k.val, by omega⟩
      ⟨(hOf t).val * 256 + f.val, by omega⟩) := by
  blk_point [iblk, V, idx t]

theorem vc_at (c : Dev nD) (t : Fin cfg0.N) (e : Fin 128) (k : Fin 256) : iblk m c 2 t (ix2 e k)
    = m ((c : Thread nD τ).loc main_arg2) (ix2 ⟨(hOf t).val * 128 + e.val, by omega⟩
      ⟨(bOf t).val * 256 + k.val, by omega⟩) := by
  blk_point [iblk, V, idx t]

theorem kx_at (c : Dev nD) (t : Fin cfg0.N) (k : Fin 4096) (f : Fin 256) : iblk m c 3 t (ix2 k f)
    = m ((c : Thread nD τ).loc main_arg3) (ix2 ⟨(bOf t).val * 4096 + k.val, by omega⟩
      ⟨(hOf t).val * 256 + f.val, by omega⟩) := by
  blk_point [iblk, V, idx t]

theorem vx_at (c : Dev nD) (t : Fin cfg0.N) (e : Fin 128) (k : Fin 4096) : iblk m c 4 t (ix2 e k)
    = m ((c : Thread nD τ).loc main_arg4) (ix2 ⟨(hOf t).val * 128 + e.val, by omega⟩
      ⟨(bOf t).val * 4096 + k.val, by omega⟩) := by
  blk_point [iblk, V, idx t]

/-- The keys of the blocks are the batch's keys at the head's features. -/
theorem bkey_at (c : Dev nD) (t : Fin cfg0.N) (k : Fin 4352) (f : Fin 256) :
    bkey (iblk m c 1 t) (iblk m c 3 t) k f = key (m ((c : Thread nD τ).loc main_arg1)) (m ((c : Thread nD τ).loc main_arg3))
      (bOf t) k ⟨(hOf t).val * 256 + f.val, by omega⟩ := by
  unfold bkey key
  split
  · exact kc_at m c t _ _
  · exact kx_at m c t _ _

/-- A stored quarter: the attention of the block's queries from `off` on. -/
theorem quarter_at (c : Dev nD) (t : Fin cfg0.N) (q : FVec Ideal S256x256 .bf16) (off : ℕ) (ho : off + 256 ≤ 1024)
    (hq : ∀ (f : Fin 256) (j : Fin 256), q (ix2 f j) = iblk m c 0 t (ix2 f ⟨off + j.val, by omega⟩)) (j : Fin 256) (e : Fin 128) :
    quarter m c t q (ix2 j e) = attend (m ((c : Thread nD τ).loc main_arg0)) (m ((c : Thread nD τ).loc main_arg1))
      (m ((c : Thread nD τ).loc main_arg2)) (m ((c : Thread nD τ).loc main_arg3)) (m ((c : Thread nD τ).loc main_arg4))
      (bOf t) (hOf t) ⟨t.val % 4 * 1024 + (off + j.val), by omega⟩ e := by
  refine ((holds (iblk m c 1 t) (iblk m c 3 t) q).out_at (iblk m c 2 t) (iblk m c 4 t)
    (fun k e => value (m ((c : Thread nD τ).loc main_arg2)) (m ((c : Thread nD τ).loc main_arg4)) (bOf t) k
      ⟨(hOf t).val * 128 + e.val, by omega⟩) ?_ ?_ j e).trans ?_
  · intro e k
    rw [value, dif_pos k.isLt]
    exact vc_at m c t e k
  · intro e k
    rw [value, dif_neg (by simp only []; omega)]
    refine (vx_at m c t e k).trans (congrArg _ (congrArg₂ ix2 rfl (Fin.ext ?_)))
    show _ + k.val = _ + (256 + k.val - 256)
    omega
  · refine congrArg₂ Softmax.avg (funext fun k => Finset.sum_congr rfl fun f _ => ?_) rfl
    rw [hq, bkey_at, q_at]

theorem quarter0_at (c : Dev nD) (t : Fin cfg0.N) (j : Fin 256) (e : Fin 128) :
    quarter m c t (k0_pay1 (iblk m c 0 t)) (ix2 j e) = attend (m ((c : Thread nD τ).loc main_arg0)) (m ((c : Thread nD τ).loc main_arg1))
      (m ((c : Thread nD τ).loc main_arg2)) (m ((c : Thread nD τ).loc main_arg3)) (m ((c : Thread nD τ).loc main_arg4))
      (bOf t) (hOf t) ⟨t.val % 4 * 1024 + (0 + j.val), by omega⟩ e := by
  refine quarter_at m c t _ 0 (by omega) (fun f j => ?_) j e
  generalize iblk m c 0 t = q
  pointwise [k0_pay1]

theorem quarter1_at (c : Dev nD) (t : Fin cfg0.N) (j : Fin 256) (e : Fin 128) :
    quarter m c t (k0_pay2 (iblk m c 0 t)) (ix2 j e) = attend (m ((c : Thread nD τ).loc main_arg0)) (m ((c : Thread nD τ).loc main_arg1))
      (m ((c : Thread nD τ).loc main_arg2)) (m ((c : Thread nD τ).loc main_arg3)) (m ((c : Thread nD τ).loc main_arg4))
      (bOf t) (hOf t) ⟨t.val % 4 * 1024 + (256 + j.val), by omega⟩ e := by
  refine quarter_at m c t _ 256 (by omega) (fun f j => ?_) j e
  generalize iblk m c 0 t = q
  pointwise [k0_pay2]

theorem quarter2_at (c : Dev nD) (t : Fin cfg0.N) (j : Fin 256) (e : Fin 128) :
    quarter m c t (k0_pay3 (iblk m c 0 t)) (ix2 j e) = attend (m ((c : Thread nD τ).loc main_arg0)) (m ((c : Thread nD τ).loc main_arg1))
      (m ((c : Thread nD τ).loc main_arg2)) (m ((c : Thread nD τ).loc main_arg3)) (m ((c : Thread nD τ).loc main_arg4))
      (bOf t) (hOf t) ⟨t.val % 4 * 1024 + (512 + j.val), by omega⟩ e := by
  refine quarter_at m c t _ 512 (by omega) (fun f j => ?_) j e
  generalize iblk m c 0 t = q
  pointwise [k0_pay3]

theorem quarter3_at (c : Dev nD) (t : Fin cfg0.N) (j : Fin 256) (e : Fin 128) :
    quarter m c t (k0_pay4 (iblk m c 0 t)) (ix2 j e) = attend (m ((c : Thread nD τ).loc main_arg0)) (m ((c : Thread nD τ).loc main_arg1))
      (m ((c : Thread nD τ).loc main_arg2)) (m ((c : Thread nD τ).loc main_arg3)) (m ((c : Thread nD τ).loc main_arg4))
      (bOf t) (hOf t) ⟨t.val % 4 * 1024 + (768 + j.val), by omega⟩ e := by
  refine quarter_at m c t _ 768 (by omega) (fun f j => ?_) j e
  generalize iblk m c 0 t = q
  pointwise [k0_pay4]

/-! ## The array -/

theorem row_emb (o : ℕ) (inb) (x : S256x128.Idx) :
    ((Rect.unit (s := S1024x128) ![o, 0] ![256, 128] inb).emb x 0).val = o + (x 0).val :=
  Rect.idx_unit_val _ _ _ _ _

theorem col_emb (o : ℕ) (inb) (x : S256x128.Idx) :
    ((Rect.unit (s := S1024x128) ![o, 0] ![256, 128] inb).emb x 1).val = 0 + (x 1).val :=
  Rect.idx_unit_val _ _ _ _ _

/-- A row and feature lie in the quarter that starts at most 255 rows above. -/
theorem mem_quarter (o : ℕ) (inb) (r : Fin 1024) (e : Fin 128) (h : o ≤ r.val) (h' : r.val < o + 256) :
    ix2 r e ∈ (Rect.unit (s := S1024x128) ![o, 0] ![256, 128] inb).set := by
  refine Rect.mem_set_unit.mpr fun j => ?_
  match j with
  | 0 => exact ⟨h, h'⟩
  | 1 => exact ⟨Nat.zero_le _, by show e.val < 0 + 128; omega⟩

/-- What a grid point stores, at a row and a feature of its block. -/
theorem out_at (c : Dev nD) (t : Fin cfg0.N) (r : Fin 1024) (e : Fin 128) :
    outsAt0 (F := Ideal) m c t (ix2 r e) = attend (m ((c : Thread nD τ).loc main_arg0)) (m ((c : Thread nD τ).loc main_arg1))
      (m ((c : Thread nD τ).loc main_arg2)) (m ((c : Thread nD τ).loc main_arg3)) (m ((c : Thread nD τ).loc main_arg4))
      (bOf t) (hOf t) ⟨t.val % 4 * 1024 + r.val, by omega⟩ e := by
  rw [opened]
  refine (View.canon_apply_of_pieces (Val := Elt Ideal) (e := .bf16) (fun y : S1024x128.Idx => attend
    (m ((c : Thread nD τ).loc main_arg0)) (m ((c : Thread nD τ).loc main_arg1))
      (m ((c : Thread nD τ).loc main_arg2)) (m ((c : Thread nD τ).loc main_arg3)) (m ((c : Thread nD τ).loc main_arg4))
    (bOf t) (hOf t) ⟨t.val % 4 * 1024 + (y 0).val, by idx_bounds; omega⟩ (y 1)) _ ?_ _ ?_).trans rfl
  · simp only [List.mem_cons, List.mem_nil_iff, or_false, forall_eq_or_imp, forall_eq]
    refine ⟨fun x => ?_, fun x => ?_, fun x => ?_, fun x => ?_⟩
    · rw [eq_ix2 x]
      refine (quarter3_at m c t (x 0) (x 1)).trans (congrArg₂ (attend _ _ _ _ _ (bOf t) (hOf t)) (Fin.ext ?_) (Fin.ext ?_))
      · exact congrArg (t.val % 4 * 1024 + ·) (row_emb _ _ _).symm
      · exact (Nat.zero_add _).symm.trans (col_emb _ _ _).symm
    · rw [eq_ix2 x]
      refine (quarter2_at m c t (x 0) (x 1)).trans (congrArg₂ (attend _ _ _ _ _ (bOf t) (hOf t)) (Fin.ext ?_) (Fin.ext ?_))
      · exact congrArg (t.val % 4 * 1024 + ·) (row_emb _ _ _).symm
      · exact (Nat.zero_add _).symm.trans (col_emb _ _ _).symm
    · rw [eq_ix2 x]
      refine (quarter1_at m c t (x 0) (x 1)).trans (congrArg₂ (attend _ _ _ _ _ (bOf t) (hOf t)) (Fin.ext ?_) (Fin.ext ?_))
      · exact congrArg (t.val % 4 * 1024 + ·) (row_emb _ _ _).symm
      · exact (Nat.zero_add _).symm.trans (col_emb _ _ _).symm
    · rw [eq_ix2 x]
      refine (quarter0_at m c t (x 0) (x 1)).trans (congrArg₂ (attend _ _ _ _ _ (bOf t) (hOf t)) (Fin.ext ?_) (Fin.ext ?_))
      · exact congrArg (t.val % 4 * 1024 + ·) (row_emb _ _ _).symm
      · exact (Nat.zero_add _).symm.trans (col_emb _ _ _).symm
  · simp only [List.mem_cons, List.mem_nil_iff, or_false, exists_eq_or_imp, exists_eq_left]
    have hr := r.isLt
    by_cases h3 : 768 ≤ r.val
    · exact Or.inl (mem_quarter 768 _ r e h3 (by omega))
    by_cases h2 : 512 ≤ r.val
    · exact Or.inr (Or.inl (mem_quarter 512 _ r e h2 (by omega)))
    by_cases h1 : 256 ≤ r.val
    · exact Or.inr (Or.inr (Or.inl (mem_quarter 256 _ r e h1 (by omega))))
    · exact Or.inr (Or.inr (Or.inr (mem_quarter 0 _ r e (Nat.zero_le _) (by omega))))

/-- The result array after the run is `spec` of the arguments. -/
theorem final (c : Dev nD) : (dats m 0 c).arrAt 5 (cfgs 0).N
    = spec (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have e := (idx t).2.2.2.2.2
  have b0 : (y 0).val < 1024 := (y 0).isLt
  have b1 : (y 1).val < 128 := (y 1).isLt
  have e0 : ((((cfg0.win 5).blk t).view.emb y) 0).val = (t.val / 16 * 4 + t.val % 4) * 1024 + (y 0).val := by
    blk_simp [e]
    try exact congrArg (· + (y 0).val) (Nat.mul_comm _ _)
  have e1 : ((((cfg0.win 5).blk t).view.emb y) 1).val = t.val / 4 % 4 * 128 + (y 1).val := by
    blk_simp [e]
    try exact congrArg (· + (y 1).val) (Nat.mul_comm _ _)
  blk_simp
  rw [after0_5]
  refine (congrArg (outsAt0 (F := Ideal) m c t) (eq_ix2 y)).trans ((out_at m c t (y 0) (y 1)).trans ?_)
  unfold spec
  congr 1
  · exact Fin.ext (by show t.val / 16 = _ / 4096; rw [e0]; omega)
  · exact Fin.ext (by show t.val / 4 % 4 = _ / 128; rw [e1]; omega)
  · exact Fin.ext (by show t.val % 4 * 1024 + (y 0).val = _ % 4096; rw [e0]; omega)
  · exact Fin.ext (by show (y 1).val = _ % 128; rw [e1]; omega)

end Cert.Kernel5Ideal.Mla
end
-- ==== Proof.Attn5Ref.lean ====
module

public import proofs.«01_k».proof.Proof.Attn5Value
public import proofs.«01_k».proof.Proof.Gen.Reference5Ideal.Read

/-! # The latent attention: the reference -/

@[expose] public section

set_option maxRecDepth 16384

noncomputable section

open Idealize.ShloMosaic Idealize.ShloMosaic.TcCoe Idealize.SL.Sem
open scoped BigOperators

namespace Cert.Kernel5Ideal.Mla

open Cert.Kernel5Ideal Cert.Kernel5Ideal.Gen
open Cert.Reference5Ideal.Read

variable (qx : FVec Ideal S1024x16384 .bf16) (kc : FVec Ideal S1024x1024 .bf16) (vc : FVec Ideal S512x1024 .bf16)
  (kx : FVec Ideal S16384x1024 .bf16) (vx : FVec Ideal S512x16384 .bf16)

/-- The reference's queries. -/
theorem ref_q (b h : Fin 4) (l : Fin 4096) (f : Fin 256) : val_main_v2 (F := Ideal) qx (ix4 b l h f)
    = qx (ix2 ⟨h.val * 256 + f.val, by omega⟩ ⟨b.val * 4096 + l.val, by omega⟩) := by
  pointwise [val_main_v2, val_main_v1, val_main_v0]

/-- The reference's keys. -/
theorem ref_k (b h : Fin 4) (k : Fin 4352) (f : Fin 256) :
    val_main_v7 (F := Ideal) kc kx (ix4 b k h f) = key kc kx b k ⟨h.val * 256 + f.val, by omega⟩ := by
  pointwise [val_main_v7, val_main_v6, val_main_v5, val_main_v4, val_main_v3, key]

/-- The reference's values. -/
theorem ref_v (b h : Fin 4) (k : Fin 4352) (e : Fin 128) :
    val_main_v14 (F := Ideal) vc vx (ix4 b k h e) = value vc vx b k ⟨h.val * 128 + e.val, by omega⟩ := by
  pointwise [val_main_v14, val_main_v13, val_main_v12, val_main_v11, val_main_v10, val_main_v9, val_main_v8, value]

/-- The reference's scores. -/
theorem ref_s (b h : Fin 4) (l : Fin 4096) (k : Fin 4352) :
    val_main_v15 (F := Ideal) qx kc kx (ix4 b h l k) = logit qx kc kx b h l k := by
  pointwise [val_main_v15]
  simp only [ref_q, ref_k, logit]
  exact Finset.sum_congr rfl fun f _ => mul_comm _ _

/-- The reference's attention. -/
theorem ref_o (b h : Fin 4) (l : Fin 4096) (e : Fin 128) :
    val_main_v29 (F := Ideal) qx kc vc kx vx (ix4 b l h e)
      = Softmax.soft (Ideal.log (Ideal.ofBits .f32 0x40000000#32)) (logit qx kc kx b h l)
        (fun k => value vc vx b k ⟨h.val * 128 + e.val, by omega⟩) := by
  pointwise [val_main_v29, val_main_v28, val_main_v27, val_main_v26, val_main_v25, val_main_v24, val_main_v23,
    val_main_v22, val_main_v21, val_main_v20, val_main_v19, val_main_v18, val_main_v17, val_main_v16, val_main_cst,
    val_main_cst_0, val_main_cst_1]
  simp only [ref_v, ref_s, Unit.negInf]
  rfl

/-- With finite queries and keys every score is finite. -/
theorem logit_real (hq : ∀ i, ∃ r : ℝ, qx i = r) (hc : ∀ i, ∃ r : ℝ, kc i = r) (hx : ∀ i, ∃ r : ℝ, kx i = r)
    (b h : Fin 4) (l : Fin 4096) (k : Fin 4352) : ∃ r : ℝ, logit qx kc kx b h l k = r := by
  refine Softmax.real_sum _ _ (fun f => ?_) fun f => hq _
  unfold key
  split
  · exact hc _
  · exact hx _

/-- With finite queries and keys the reference's attention is the kernel's. -/
theorem ref_attend (hq : ∀ i, ∃ r : ℝ, qx i = r) (hc : ∀ i, ∃ r : ℝ, kc i = r) (hx : ∀ i, ∃ r : ℝ, kx i = r)
    (b h : Fin 4) (l : Fin 4096) (e : Fin 128) :
    val_main_v29 (F := Ideal) qx kc vc kx vx (ix4 b l h e) = attend qx kc vc kx vx b h l e :=
  (ref_o qx kc vc kx vx b h l e).trans (Softmax.avg_eq _ _ (logit_real qx kc kx hq hc hx b h l)).symm

/-- With finite queries and keys the reference computes `spec`. -/
theorem ref_eq (hq : ∀ i, ∃ r : ℝ, qx i = r) (hc : ∀ i, ∃ r : ℝ, kc i = r) (hx : ∀ i, ∃ r : ℝ, kx i = r) :
    val_main_v31 (F := Ideal) qx kc vc kx vx = spec qx kc vc kx vx := by
  funext i
  pointwise [val_main_v31, val_main_v30, spec]
  simp only [ref_attend qx kc vc kx vx hq hc hx]

end Cert.Kernel5Ideal.Mla
end
-- ==== Proof.FfnLoops.lean ====
module

public import proofs.«01_k».proof.Proof.Gen.Kernel2Ideal.Frame
public import Idealize.ShloMosaic.Lib.Pipeline.ValueKit
public import Idealize.ShloMosaic.Lib.Pipeline.Value

/-! # The two row loops of the feed-forward call -/

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

section

variable (𝒱 : Variants) (c : Dev nD) (bd : Option 𝒱.V) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x1x1x2048 .f32) (harg4 : arg4.IsWhole)
  (arg5 : Memref sig .tc .vmem S1x1x1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x1x1x2048 .f32) (harg10 : arg10.IsWhole)
  (arg11 : Memref sig .tc .vmem S512x2048 .f32) (harg11 : arg11.IsWhole)
  (arg12 : Memref sig .tc .vmem S512x2048 .bf16) (harg12 : arg12.IsWhole)
  (arg13 : Memref sig .tc .vmem S512x2048 .f32) (harg13 : arg13.IsWhole)
  (k0_h1 : k0_cond1 i = 1#1)
  (v25 : Vec Ideal S1x2048 .f32)
  (v26 : Vec Ideal S1x1x1x2048 .f32)
  (v28 : Vec Ideal S1x1x1x2048 .f32)
  (X_arg2 : BufTy.Contents (Elt Ideal) arg2.view.ty)

/-- One trip stores sixteen normalised and modulated rows. -/
theorem trip1_eq (k : Fin k0_t1_loop.trips) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13
      k0_h1 v25 v26 v28 X_arg2 k).1
      = [⟨(Rect.unit (s := S512x2048) (k0_off1 k) S16x2048.size (k0_off1_inb i k k0_h1)), k0_pay1 v25 v26 v28 (View.readAt (Elt Ideal) arg2.view (Rect.unit (s := S512x2048) (k0_off1 k) S16x2048.size (k0_off1_inb i k k0_h1)).toLoadRect X_arg2)⟩] := by
  unfold trip_k0_t1
  rfl

/-- The pieces before trip `n` are those of the trips below `n`. -/
theorem mem_pb1 (pc) : ∀ n ≤ k0_t1_loop.trips,
    (pc ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13
      k0_h1 v25 v26 v28 X_arg2 n
      ↔ ∃ k : Fin k0_t1_loop.trips, k.val < n
        ∧ pc = ⟨(Rect.unit (s := S512x2048) (k0_off1 k) S16x2048.size (k0_off1_inb i k k0_h1)), k0_pay1 v25 v26 v28 (View.readAt (Elt Ideal) arg2.view (Rect.unit (s := S512x2048) (k0_off1 k) S16x2048.size (k0_off1_inb i k k0_h1)).toLoadRect X_arg2)⟩)
  | 0, _ => by simp [pb_k0_t1]
  | n + 1, hn => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13
      k0_h1 v25 v26 v28 X_arg2 ⟨n, hn⟩
    rw [e, List.mem_append, mem_pb1 pc n (by omega)]
    rw [tripL_k0_t1, trip1_eq, List.mem_singleton]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with hk | hk
      · exact .inr ⟨k, hk, h⟩
      · left; subst hk; exact h

/-- What the loop leaves: where every trip stores a piece of `G`, the pieces read back are `G`. -/
theorem canon_pb1 (G : S512x2048.Idx → Elt Ideal .bf16)
    (hG : ∀ (k : Fin k0_t1_loop.trips) x, k0_pay1 v25 v26 v28 (View.readAt (Elt Ideal) arg2.view (Rect.unit (s := S512x2048) (k0_off1 k) S16x2048.size (k0_off1_inb i k k0_h1)).toLoadRect X_arg2) x
      = G ((Rect.unit (s := S512x2048) (k0_off1 k) S16x2048.size (k0_off1_inb i k k0_h1)).emb x)) (y) :
    View.canon (Val := Elt Ideal) (pb_k0_t1 (F := Ideal) 𝒱 c bd i arg2 harg2 arg3 harg3 arg4 harg4 arg5 harg5 arg6 harg6 arg7 harg7 arg8 harg8 arg9 harg9 arg10 harg10 arg11 harg11 arg12 harg12 arg13 harg13
      k0_h1 v25 v26 v28 X_arg2 k0_t1_loop.trips) y = G y := by
  have hT : k0_t1_loop.trips = 32 := by decide +kernel
  refine View.canon_apply_of_pieces G _ (fun p hp x => ?_) y ?_
  · obtain ⟨k, -, rfl⟩ := (mem_pb1 𝒱 c bd i arg2 harg2 arg3 harg3 arg4 harg4 arg5 harg5 arg6 harg6 arg7 harg7 arg8 harg8 arg9 harg9 arg10 harg10 arg11 harg11 arg12 harg12 arg13 harg13
      k0_h1 v25 v26 v28 X_arg2 p _ le_rfl).mp hp
    exact hG k x
  · have h0 : (y 0).val < 512 := (y 0).isLt
    have h1 : (y 1).val < 2048 := (y 1).isLt
    refine ⟨_, (mem_pb1 𝒱 c bd i arg2 harg2 arg3 harg3 arg4 harg4 arg5 harg5 arg6 harg6 arg7 harg7 arg8 harg8 arg9 harg9 arg10 harg10 arg11 harg11 arg12 harg12 arg13 harg13
      k0_h1 v25 v26 v28 X_arg2 _ _ le_rfl).mpr ⟨⟨(y 0).val / 16, by omega⟩, by dsimp only; omega, rfl⟩, ?_⟩
    rw [Rect.mem_set_unit, k0_off1_eq]
    intro a
    fin_cases a
    · show 16 * ((y 0).val / 16) ≤ (y 0).val ∧ (y 0).val < 16 * ((y 0).val / 16) + 16
      omega
    · show 0 ≤ (y 1).val ∧ (y 1).val < 0 + 2048
      omega

end

section

variable (𝒱 : Variants) (c : Dev nD) (bd : Option 𝒱.V) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x1x1x2048 .f32) (harg4 : arg4.IsWhole)
  (arg5 : Memref sig .tc .vmem S1x1x1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x1x1x2048 .f32) (harg10 : arg10.IsWhole)
  (arg11 : Memref sig .tc .vmem S512x2048 .f32) (harg11 : arg11.IsWhole)
  (arg12 : Memref sig .tc .vmem S512x2048 .bf16) (harg12 : arg12.IsWhole)
  (arg13 : Memref sig .tc .vmem S512x2048 .f32) (harg13 : arg13.IsWhole)
  (k0_h2 : k0_cond2 i = 1#1)
  (v25 : Vec Ideal S1x2048 .f32)
  (v26 : Vec Ideal S1x1x1x2048 .f32)
  (X_arg2 : BufTy.Contents (Elt Ideal) arg2.view.ty)
  (X_arg13 : BufTy.Contents (Elt Ideal) arg13.view.ty)

/-- One trip stores eight rows of the result. -/
theorem trip2_eq (k : Fin k0_t2_loop.trips) :
    (trip_k0_t2 (F := Ideal) 𝒱 c bd i arg2 harg2 arg3 harg3 arg4 harg4 arg5 harg5 arg6 harg6 arg7 harg7 arg8 harg8 arg9 harg9 arg10 harg10 arg11 harg11 arg12 harg12 arg13 harg13
      k0_h2 v25 v26 X_arg2 X_arg13 k).1
      = [⟨(Rect.unit (s := S512x2048) (k0_off2 k) S8x2048.size (k0_off2_inb i k k0_h2)), k0_pay4 v25 v26 (View.readAt (Elt Ideal) arg13.view (Rect.unit (s := S512x2048) (k0_off2 k) S8x2048.size (k0_off2_inb i k k0_h2)).toLoadRect X_arg13) (View.readAt (Elt Ideal) arg2.view (Rect.unit (s := S512x2048) (k0_off2 k) S8x2048.size (k0_off2_inb i k k0_h2)).toLoadRect X_arg2)⟩] := by
  unfold trip_k0_t2
  rfl

/-- The pieces before trip `n` are those of the trips below `n`. -/
theorem mem_pb2 (pc) : ∀ n ≤ k0_t2_loop.trips,
    (pc ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13
      k0_h2 v25 v26 X_arg2 X_arg13 n
      ↔ ∃ k : Fin k0_t2_loop.trips, k.val < n
        ∧ pc = ⟨(Rect.unit (s := S512x2048) (k0_off2 k) S8x2048.size (k0_off2_inb i k k0_h2)), k0_pay4 v25 v26 (View.readAt (Elt Ideal) arg13.view (Rect.unit (s := S512x2048) (k0_off2 k) S8x2048.size (k0_off2_inb i k k0_h2)).toLoadRect X_arg13) (View.readAt (Elt Ideal) arg2.view (Rect.unit (s := S512x2048) (k0_off2 k) S8x2048.size (k0_off2_inb i k k0_h2)).toLoadRect X_arg2)⟩)
  | 0, _ => by simp [pb_k0_t2]
  | n + 1, hn => by
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13
      k0_h2 v25 v26 X_arg2 X_arg13 ⟨n, hn⟩
    rw [e, List.mem_append, mem_pb2 pc n (by omega)]
    rw [tripL_k0_t2, trip2_eq, List.mem_singleton]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with hk | hk
      · exact .inr ⟨k, hk, h⟩
      · left; subst hk; exact h

/-- What the loop leaves: where every trip stores a piece of `G`, the pieces read back are `G`. -/
theorem canon_pb2 (G : S512x2048.Idx → Elt Ideal .f32)
    (hG : ∀ (k : Fin k0_t2_loop.trips) x, k0_pay4 v25 v26 (View.readAt (Elt Ideal) arg13.view (Rect.unit (s := S512x2048) (k0_off2 k) S8x2048.size (k0_off2_inb i k k0_h2)).toLoadRect X_arg13) (View.readAt (Elt Ideal) arg2.view (Rect.unit (s := S512x2048) (k0_off2 k) S8x2048.size (k0_off2_inb i k k0_h2)).toLoadRect X_arg2) x
      = G ((Rect.unit (s := S512x2048) (k0_off2 k) S8x2048.size (k0_off2_inb i k k0_h2)).emb x)) (y) :
    View.canon (Val := Elt Ideal) (pb_k0_t2 (F := Ideal) 𝒱 c bd i arg2 harg2 arg3 harg3 arg4 harg4 arg5 harg5 arg6 harg6 arg7 harg7 arg8 harg8 arg9 harg9 arg10 harg10 arg11 harg11 arg12 harg12 arg13 harg13
      k0_h2 v25 v26 X_arg2 X_arg13 k0_t2_loop.trips) y = G y := by
  have hT : k0_t2_loop.trips = 64 := by decide +kernel
  refine View.canon_apply_of_pieces G _ (fun p hp x => ?_) y ?_
  · obtain ⟨k, -, rfl⟩ := (mem_pb2 𝒱 c bd i arg2 harg2 arg3 harg3 arg4 harg4 arg5 harg5 arg6 harg6 arg7 harg7 arg8 harg8 arg9 harg9 arg10 harg10 arg11 harg11 arg12 harg12 arg13 harg13
      k0_h2 v25 v26 X_arg2 X_arg13 p _ le_rfl).mp hp
    exact hG k x
  · have h0 : (y 0).val < 512 := (y 0).isLt
    have h1 : (y 1).val < 2048 := (y 1).isLt
    refine ⟨_, (mem_pb2 𝒱 c bd i arg2 harg2 arg3 harg3 arg4 harg4 arg5 harg5 arg6 harg6 arg7 harg7 arg8 harg8 arg9 harg9 arg10 harg10 arg11 harg11 arg12 harg12 arg13 harg13
      k0_h2 v25 v26 X_arg2 X_arg13 _ _ le_rfl).mpr ⟨⟨(y 0).val / 8, by omega⟩, by dsimp only; omega, rfl⟩, ?_⟩
    rw [Rect.mem_set_unit, k0_off2_eq]
    intro a
    fin_cases a
    · show 8 * ((y 0).val / 8) ≤ (y 0).val ∧ (y 0).val < 8 * ((y 0).val / 8) + 8
      omega
    · show 0 ≤ (y 1).val ∧ (y 1).val < 0 + 2048
      omega

end

end Cert.Kernel2Ideal.Ffn
end
-- ==== Proof.Ffn.lean ====
module

public import proofs.«01_k».proof.Proof.FfnLoops
public import Idealize.ShloMosaic.Lib.Pipeline.ValueKit.Held
public import Idealize.ShloMosaic.Lib.Pipeline.ReadBack

/-! # The feed-forward call: what its result array holds -/

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen

section spec

variable (x : FVec Ideal S16384x2048 .f32) (gp gq : FVec Ideal S1x2048 .f32) (mods : FVec Ideal S4x8x1x12288 .f32)
  (wi : FVec Ideal S4x2048x11264 .bf16) (wo : FVec Ideal S4x5632x2048 .bf16)

/-- The normalised and modulated input at row `r`, feature `k`. -/
def hid (r : Fin 16384) (k : Fin 2048) : EReal :=
  x (ix2 r k) * Ideal.rsqrt (Ideal.div (∑ d : Fin 2048, x (ix2 r d) * x (ix2 r d)) (Ideal.ofBits .f32 0x45000000#32)
      + Ideal.ofBits .f32 0x358637BD#32) * gp (ix2 0 k)
    * (Ideal.ofBits .f32 0x3F800000#32 + mods (ix4 0 ⟨r.val / 4096, by omega⟩ 0 ⟨8192 + k.val, by omega⟩))
    + mods (ix4 0 ⟨r.val / 4096, by omega⟩ 0 ⟨6144 + k.val, by omega⟩)

/-- A column of the first product. -/
def up (r : Fin 16384) (f : Fin 11264) : EReal := ∑ k : Fin 2048, hid x gp mods r k * wi (ix3 0 k f)

/-- The gated activation at row `r`, hidden feature `f`. -/
def act (r : Fin 16384) (f : Fin 5632) : EReal :=
  up x gp mods wi r ⟨f.val, by omega⟩ * Ideal.logistic (up x gp mods wi r ⟨f.val, by omega⟩)
    * up x gp mods wi r ⟨5632 + f.val, by omega⟩

/-- The second product at row `r`, feature `d`. -/
def down (r : Fin 16384) (d : Fin 2048) : EReal := ∑ f : Fin 5632, act x gp mods wi r f * wo (ix3 0 f d)

/-- What the call leaves at row `r`, feature `d`. -/
def specAt (r : Fin 16384) (d : Fin 2048) : EReal :=
  x (ix2 r d) + mods (ix4 0 ⟨r.val / 4096, by omega⟩ 0 ⟨10240 + d.val, by omega⟩)
    * (down x gp mods wi wo r d
      * Ideal.rsqrt (Ideal.div (∑ k : Fin 2048, down x gp mods wi wo r k * down x gp mods wi wo r k)
          (Ideal.ofBits .f32 0x45000000#32) + Ideal.ofBits .f32 0x358637BD#32) * gq (ix2 0 d))

/-- The result array. -/
def spec : FVec Ideal S16384x2048 .f32 := fun i => specAt x gp gq mods wi wo (i 0) (i 1)

end spec

variable (m : (ℓ : Loc nD τ sig) → Buf (Elt Ideal) ℓ)

/-- The block of each window at each of the 352 points: 32 blocks of 512 rows, eleven steps of 512 hidden features each. -/
theorem idx : ∀ t : Fin cfg0.N, win0_0.index t = ![t.val / 11, 0]
    ∧ win0_1.index t = ![0, 0]
    ∧ win0_2.index t = ![0, t.val / 11 / 8, 0, 3]
    ∧ win0_3.index t = ![0, t.val / 11 / 8, 0, 4]
    ∧ win0_4.index t = ![0, 0, t.val % 11]
    ∧ win0_5.index t = ![0, 0, (t.val % 11) + 11]
    ∧ win0_6.index t = ![0, t.val % 11, 0]
    ∧ win0_7.index t = ![0, 0]
    ∧ win0_8.index t = ![0, t.val / 11 / 8, 0, 5]
    ∧ win0_9.index t = ![t.val / 11, 0] :=
  (by decide +kernel : ∀ t : Fin grid0.N, _)

theorem lt_N (t : Fin cfg0.N) : t.val < 352 := lt_of_lt_of_eq t.isLt N_0

/-- The block of normalised rows at point `t`. -/
def hidAt (c : Dev nD) (t : Fin cfg0.N) (a : Fin 512) (k : Fin 2048) : EReal :=
  hid (m ((c : Thread nD τ).loc main_arg0)) (m ((c : Thread nD τ).loc main_arg1)) (m ((c : Thread nD τ).loc main_arg3))
    ⟨512 * (t.val / 11) + a.val, by have := lt_N t; omega⟩ k

/-- The same as a block. -/
def hidBlk (c : Dev nD) (t : Fin cfg0.N) : FVec Ideal S512x2048 .bf16 := fun y => hidAt m c t (y 0) (y 1)

/-- One trip of the first row loop stores rows of `hidBlk`. -/
theorem rows (c : Dev nD) (t : Fin cfg0.N) (k : ℕ) (hk : k < 32) (o : Fin 2 → ℕ) (ho : o = ![16 * k, 0]) (h) (x) :
    k0_pay1 (iblk m c 1 t) (iblk m c 2 t) (iblk m c 3 t)
      (View.ld (iblk m c 0 t) (Rect.unit (s := S512x2048) o S16x2048.size h)) x
    = hidBlk m c t ((Rect.unit (s := S512x2048) o S16x2048.size h).emb x) := by
  have ht := lt_N t
  subst ho
  pointwise [k0_pay1, hidBlk, hidAt, hid]
  blk_point [iblk, V, idx t]

/-- The first point of a row block leaves the normalised rows in the scratch. -/
theorem hid_loop (c : Dev nD) (t : Fin cfg0.N) (h0 : t.val % 11 = 0) (h1 : ¬t.val % 11 = 10) :
    (outsAt0 (F := Ideal) m c t.val t.isLt).2.1 = hidBlk m c t := by
  rw [outsAt0_A m c t h0 h1]
  dsimp only
  frame_open
  funext y
  rw [View.read_writes_junk_apply_eq_canon]
  refine canon_pb1 (G := hidBlk m c t) (hG := fun k x => ?_) (y := y) ..
  frame_out
  exact rows m c t k.val (Nat.lt_of_lt_of_le k.isLt k0_t1_abs.2.1) _ (k0_off1_eq k) _ x

/-- Points of the same row block see the same rows. -/
theorem hidBlk_congr (c : Dev nD) (t t' : Fin cfg0.N) (h : t.val / 11 = t'.val / 11) : hidBlk m c t = hidBlk m c t' := by
  funext y
  simp only [hidBlk, hidAt, h]

/-- Every point of a row block finds the normalised rows in the scratch. -/
theorem hid_held (c : Dev nD) (t : Fin cfg0.N) : (outsAt0 (F := Ideal) m c t.val t.isLt).2.1 = hidBlk m c t := by
  rw [Pipeline.eq_of_write_hold (fun n h => (outsAt0 (F := Ideal) m c n h).2.1) 11 (hidBlk m c)
    (fun t h => hid_loop m c t h (by omega)) (fun t h => ?_) t]
  · exact hidBlk_congr m c _ _ (by dsimp only; omega)
  · by_cases h1 : t.val % 11 = 10
    · rw [outsAt0_C m c t h h1]; rfl
    · rw [outsAt0_B m c t h h1]; rfl

/-- The part of the second product that point `t` adds: 512 hidden features. -/
def part (c : Dev nD) (t : Fin cfg0.N) (y : S512x2048.Idx) : EReal :=
  ∑ f : Fin 512, act (m ((c : Thread nD τ).loc main_arg0)) (m ((c : Thread nD τ).loc main_arg1))
      (m ((c : Thread nD τ).loc main_arg3)) (m ((c : Thread nD τ).loc main_arg4))
      ⟨512 * (t.val / 11) + (y 0).val, by have := lt_N t; have := (show (y 0).val < 512 from (y 0).isLt); omega⟩
      ⟨t.val % 11 * 512 + f.val, by omega⟩
    * m ((c : Thread nD τ).loc main_arg5) (ix3 0 ⟨t.val % 11 * 512 + f.val, by omega⟩ (y 1))

/-- What a point adds to the accumulator. -/
theorem step (c : Dev nD) (t : Fin cfg0.N) (a : FVec Ideal S512x2048 .f32) (y) :
    k0_pay3 (hidBlk m c t) (iblk m c 4 t) (iblk m c 5 t) a (iblk m c 6 t) y = a y + part m c t y := by
  have ht := lt_N t
  pointwise [k0_pay3, part, act, up, hidBlk, hidAt]
  blk_point [iblk, V, idx t]

/-- Reading the whole scratch back gives what its pieces hold. -/
theorem readCov_scratch (L) (G : FVec Ideal S512x2048 .bf16) (h : ∀ y, View.canon (Val := Elt Ideal) L y = G y) :
    (View.whole cc0_scratch0).readCov L (Rect.unit ![0, 0] ![512, 2048] inb_S512x2048_S512x2048_0_0).toLoadRect = G := by
  rw [View.readCov_eq_canon']
  funext j
  rw [h]
  refine congrArg G (funext fun a => Fin.ext ?_)
  fin_cases a
  · exact (Nat.zero_add _).trans (Nat.one_mul _)
  · exact (Nat.zero_add _).trans (Nat.one_mul _)

/-- The first point of a row block starts the accumulator. -/
theorem acc_A (c : Dev nD) (t : Fin cfg0.N) (h0 : t.val % 11 = 0) (y) :
    (outsAt0 (F := Ideal) m c t.val t.isLt).2.2 y = 0 + part m c t y := by
  rw [outsAt0_A m c t h0 (by omega)]
  dsimp only
  frame_open
  frame_out
  rw [readCov_scratch _ (hidBlk m c t) fun y => ?_, step]
  · congr 1
    pointwise [k0_pay2]
  · refine canon_pb1 (G := hidBlk m c t) (hG := fun k x => ?_) (y := y) ..
    frame_out
    exact rows m c t k.val (Nat.lt_of_lt_of_le k.isLt k0_t1_abs.2.1) _ (k0_off1_eq k) _ x

/-- Every other point adds to it. -/
theorem acc_BC (c : Dev nD) (t : Fin cfg0.N) (h0 : ¬t.val % 11 = 0) (y) :
    (outsAt0 (F := Ideal) m c t.val t.isLt).2.2 y
      = (outsAt0 (F := Ideal) m c (t.val - 1) (Nat.lt_of_le_of_lt (Nat.sub_le _ _) t.isLt)).2.2 y + part m c t y := by
  have e := hid_held m c ⟨t.val - 1, Nat.lt_of_le_of_lt (Nat.sub_le _ _) t.isLt⟩
  dsimp only at e
  rw [hidBlk_congr m c _ t (by dsimp only; omega)] at e
  by_cases h1 : t.val % 11 = 10
  · rw [outsAt0_C m c t h0 h1]
    dsimp only
    frame_open
    frame_out
    rw [read_unread_whole, read_unread_whole, e, step]
  · rw [outsAt0_B m c t h0 h1]
    dsimp only
    frame_open
    frame_out
    rw [read_unread_whole, read_unread_whole, e, step]

/-- The second product of the rows of point `t`'s block. -/
def downBlk (c : Dev nD) (t : Fin cfg0.N) : FVec Ideal S512x2048 .f32 := fun y =>
  down (m ((c : Thread nD τ).loc main_arg0)) (m ((c : Thread nD τ).loc main_arg1)) (m ((c : Thread nD τ).loc main_arg3))
    (m ((c : Thread nD τ).loc main_arg4)) (m ((c : Thread nD τ).loc main_arg5))
    ⟨512 * (t.val / 11) + (y 0).val, by have := lt_N t; have := (show (y 0).val < 512 from (y 0).isLt); omega⟩ (y 1)

/-- At the last point of a row block the accumulator holds the second product. -/
theorem acc_last (c : Dev nD) (t : Fin cfg0.N) (h : t.val % 11 = 10) :
    (outsAt0 (F := Ideal) m c t.val t.isLt).2.2 = downBlk m c t := by
  funext y
  rw [Pipeline.eq_sum_fin_of_reset_step_apply_of_flush (fun n h => (outsAt0 (F := Ideal) m c n h).2.2) 11
    (fun _ => 0) (part m c) (acc_A m c) (acc_BC m c) t h y, zero_add]
  refine Fin.sum_mul_add_congr fun s k hl => ?_
  have e1 : (11 * (t.val / 11) + s.val) / 11 = t.val / 11 := by omega
  have e2 : (11 * (t.val / 11) + s.val) % 11 = s.val := by omega
  simp only [e1, e2]

/-- The block of the result at point `t`. -/
def outBlk (c : Dev nD) (t : Fin cfg0.N) : FVec Ideal S512x2048 .f32 := fun y =>
  specAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨512 * (t.val / 11) + (y 0).val, by have := lt_N t; have := (show (y 0).val < 512 from (y 0).isLt); omega⟩ (y 1)

/-- One trip of the second row loop stores rows of the result. -/
theorem rows2 (c : Dev nD) (t : Fin cfg0.N) (k : ℕ) (hk : k < 64) (o : Fin 2 → ℕ) (ho : o = ![8 * k, 0]) (h) (x) :
    k0_pay4 (iblk m c 7 t) (iblk m c 8 t)
      (View.ld (downBlk m c t) (Rect.unit (s := S512x2048) o S8x2048.size h))
      (View.ld (iblk m c 0 t) (Rect.unit (s := S512x2048) o S8x2048.size h)) x
    = outBlk m c t ((Rect.unit (s := S512x2048) o S8x2048.size h).emb x) := by
  have ht := lt_N t
  subst ho
  pointwise [k0_pay4, outBlk, specAt, downBlk]
  blk_point [iblk, V, idx t]

/-- The last point of a row block stores the block of the result. -/
theorem out_last (c : Dev nD) (t : Fin cfg0.N) (h : t.val % 11 = 10) (y) :
    (outsAt0 (F := Ideal) m c t.val t.isLt).1 y = outBlk m c t y := by
  have h0 : ¬t.val % 11 = 0 := by omega
  have e := acc_last m c t h
  rw [outsAt0_C m c t h0 h] at e ⊢
  dsimp only at e ⊢
  frame_open
  frame_open at e
  rw [View.read_writes_junk_apply_eq_canon]
  refine canon_pb2 (G := outBlk m c t) (hG := fun k x => ?_) (y := y) ..
  frame_out at e
  frame_out
  rw [e]
  exact rows2 m c t k.val (Nat.lt_of_lt_of_le k.isLt k0_t2_abs.2.1) _ (k0_off2_eq k) _ x

/-- The result array after the run is `spec` of the arguments. -/
theorem final (c : Dev nD) : (dats m 0 c).arrAt 9 (cfgs 0).N
    = spec (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 9 _ (by decide +kernel) fun t hf y => ?_
  have h := (flush0_9 t).mp hf
  obtain ⟨-, -, -, -, -, -, -, -, -, e⟩ := idx t
  blk_simp
  rw [after0_9, out_last m c t h]
  refine congrArg₂ (specAt _ _ _ _ _ _) (Fin.ext ?_) (Fin.ext ?_)
  · blk_simp [e]
    exact congrArg (· + (y 0).val) (Nat.mul_comm _ _)
  · blk_simp [e]

end Cert.Kernel2Ideal.Ffn
end
-- ==== Proof.FfnRef.lean ====
module

public import proofs.«01_k».proof.Proof.Ffn
public import proofs.«01_k».proof.Proof.Gen.Reference2Ideal.Read
public import Idealize.ShloMosaic.Lib.StableHlo.Run

/-! # The feed-forward call: the reference computes the same array -/

@[expose] public section

set_option maxRecDepth 16384

noncomputable section

open Idealize.ShloMosaic Idealize.ShloMosaic.TcCoe Idealize.SL.Sem
open scoped BigOperators

namespace Cert.Kernel2Ideal.Ffn

open Cert.Kernel2Ideal Cert.Reference2Ideal.Read

variable (x : FVec Ideal S16384x2048 .f32) (gp gq : FVec Ideal S1x2048 .f32) (mods : FVec Ideal S4x8x1x12288 .f32)
  (wi : FVec Ideal S4x2048x11264 .bf16) (wo : FVec Ideal S4x5632x2048 .bf16)

/-- The reference's normalised and modulated input. -/
theorem ref_hid (b : Fin 4) (l : Fin 4096) (k : Fin 2048) :
    val_main_v26 (F := Ideal) x gp mods (ix3 b l k) = hid x gp mods ⟨b.val * 4096 + l.val, by omega⟩ k := by
  have e : (b.val * 4096 + l.val) / 4096 = b.val := by omega
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v3, val_main_v2, val_main_v1, val_main_v0, val_main_cst, val_main_cst_0, val_main_cst_1,
    val_main_cst_2, hid]
  simp only [e]

/-- The reference's first product. -/
theorem ref_up (b : Fin 4) (l : Fin 4096) (f : Fin 11264) :
    val_main_v30 (F := Ideal) x gp mods wi (ix3 b l f) = up x gp mods wi ⟨b.val * 4096 + l.val, by omega⟩ f := by
  pointwise [val_main_v30, val_main_v29, val_main_v28, val_main_v27, up]
  simp only [ref_hid]

/-- The reference's gated activation. -/
theorem ref_act (b : Fin 4) (l : Fin 4096) (f : Fin 5632) :
    val_main_v34 (F := Ideal) x gp mods wi (ix3 b l f) = act x gp mods wi ⟨b.val * 4096 + l.val, by omega⟩ f := by
  have e1 := ref_up x gp mods wi b l ⟨f.val, by omega⟩
  have e2 := ref_up x gp mods wi b l ⟨5632 + f.val, by omega⟩
  pointwise [val_main_v34, val_main_v33, val_main_v32, val_main_v31, val_main_call0_v5, val_main_call0_v4,
    val_main_call0_v3, val_main_call0_v2, val_main_call0_v1, val_main_call0_v0, val_main_call0_cst,
    val_main_call0_cst_0, act]
  simp only [e1, e2, Ideal.logistic]

/-- The reference's second product. -/
theorem ref_down (b : Fin 4) (l : Fin 4096) (d : Fin 2048) :
    val_main_v38 (F := Ideal) x gp mods wi wo (ix3 b l d) = down x gp mods wi wo ⟨b.val * 4096 + l.val, by omega⟩ d := by
  pointwise [val_main_v38, val_main_v37, val_main_v36, val_main_v35, down]
  simp only [ref_act]

/-- The reference computes `spec`. -/
theorem ref_eq : val_main_v56 (F := Ideal) x gp gq mods wi wo = spec x gp gq mods wi wo := by
  funext i
  have e (d : Fin 2048) : val_main_v38 (F := Ideal) x gp mods wi wo
      (ix3 ⟨(i 0).val / 4096, by idx_bounds; omega⟩ ⟨(i 0).val % 4096, by omega⟩ d) = down x gp mods wi wo (i 0) d := by
    rw [ref_down]
    congr 1
    exact Fin.ext (Nat.div_add_mod' _ _)
  have e1 := e (i 1)
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v6, val_main_v5, val_main_v4, val_main_v3, val_main_v2, val_main_v1, val_main_v0, val_main_cst_3, val_main_cst_4, val_main_cst_5, spec, specAt]
  simp only [e]
  refine congrArg₂ (· + ·) rfl (congrArg₂ (· * ·) rfl (congrArg₂ (· * ·) (congrArg₂ (· * ·) e1 rfl) rfl))

end Cert.Kernel2Ideal.Ffn
end
-- ==== Proof.InProjLoops.lean ====
module

public import proofs.«01_k».proof.Proof.Gen.Kernel3Ideal.Frame
public import Idealize.ShloMosaic.Lib.Pipeline.ValueKit
public import Idealize.ShloMosaic.Lib.Pipeline.Value

/-! # The row loop of the input projection -/

@[expose] public section

set_option maxRecDepth 16384

noncomputable section

open Idealize.ShloMosaic Idealize.ShloMosaic.TcCoe Idealize.SL.Sem

namespace Cert.Kernel3Ideal.InProj

open Cert.Kernel3Ideal Cert.Kernel3Ideal.Gen

section

variable (𝒱 : Variants) (c : Dev nD) (bd : Option 𝒱.V) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x1x1x2048 .f32) (harg4 : arg4.IsWhole)
  (arg5 : Memref sig .tc .vmem S1x1x1x2048 .f32) (harg5 : arg5.IsWhole)
  (arg6 : Memref sig .tc .vmem S1x2048x2048 .bf16) (harg6 : arg6.IsWhole)
  (arg7 : Memref sig .tc .vmem S1024x2048 .bf16) (harg7 : arg7.IsWhole)
  (arg8 : Memref sig .tc .vmem S1024x2048 .bf16) (harg8 : arg8.IsWhole)
  (k0_h1 : k0_cond1 i = 1#1)
  (v9 : Vec Ideal S1x2048 .f32)
  (v10 : Vec Ideal S1x1x1x2048 .f32)
  (v12 : Vec Ideal S1x1x1x2048 .f32)
  (X_arg2 : BufTy.Contents (Elt Ideal) arg2.view.ty)

/-- One trip stores sixteen normalised and modulated rows. -/
theorem trip1_eq (k : Fin k0_t1_loop.trips) :
    (trip_k0_t1 (F := Ideal) 𝒱 c bd i arg2 harg2 arg3 harg3 arg4 harg4 arg5 harg5 arg6 harg6 arg7 harg7 arg8 harg8
      k0_h1 v9 v10 v12 X_arg2 k).1
      = [⟨(Rect.unit (s := S1024x2048) (k0_off1 k) S16x2048.size (k0_off1_inb i k k0_h1)), k0_pay1 v9 v10 v12 (View.readAt (Elt Ideal) arg2.view (Rect.unit (s := S1024x2048) (k0_off1 k) S16x2048.size (k0_off1_inb i k k0_h1)).toLoadRect X_arg2)⟩] := by
  unfold trip_k0_t1
  rfl

/-- The pieces before trip `n` are those of the trips below `n`. -/
theorem mem_pb1 (pc) : ∀ n ≤ k0_t1_loop.trips,
    (pc ∈ pb_k0_t1 (F := Ideal) 𝒱 c bd i arg2 harg2 arg3 harg3 arg4 harg4 arg5 harg5 arg6 harg6 arg7 harg7 arg8 harg8
      k0_h1 v9 v10 v12 X_arg2 n
      ↔ ∃ k : Fin k0_t1_loop.trips, k.val < n
        ∧ pc = ⟨(Rect.unit (s := S1024x2048) (k0_off1 k) S16x2048.size (k0_off1_inb i k k0_h1)), k0_pay1 v9 v10 v12 (View.readAt (Elt Ideal) arg2.view (Rect.unit (s := S1024x2048) (k0_off1 k) S16x2048.size (k0_off1_inb i k k0_h1)).toLoadRect X_arg2)⟩)
  | 0, _ => by simp [pb_k0_t1]
  | n + 1, hn => by
    have e := pb_k0_t1_succ (F := Ideal) 𝒱 c bd i arg2 harg2 arg3 harg3 arg4 harg4 arg5 harg5 arg6 harg6 arg7 harg7 arg8 harg8
      k0_h1 v9 v10 v12 X_arg2 ⟨n, hn⟩
    rw [e, List.mem_append, mem_pb1 pc n (by omega)]
    rw [tripL_k0_t1, trip1_eq, List.mem_singleton]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with hk | hk
      · exact .inr ⟨k, hk, h⟩
      · left; subst hk; exact h

/-- What the loop leaves: where every trip stores a piece of `G`, the pieces read back are `G`. -/
theorem canon_pb1 (G : S1024x2048.Idx → Elt Ideal .bf16)
    (hG : ∀ (k : Fin k0_t1_loop.trips) x, k0_pay1 v9 v10 v12 (View.readAt (Elt Ideal) arg2.view (Rect.unit (s := S1024x2048) (k0_off1 k) S16x2048.size (k0_off1_inb i k k0_h1)).toLoadRect X_arg2) x
      = G ((Rect.unit (s := S1024x2048) (k0_off1 k) S16x2048.size (k0_off1_inb i k k0_h1)).emb x)) (y) :
    View.canon (Val := Elt Ideal) (pb_k0_t1 (F := Ideal) 𝒱 c bd i arg2 harg2 arg3 harg3 arg4 harg4 arg5 harg5 arg6 harg6 arg7 harg7 arg8 harg8
      k0_h1 v9 v10 v12 X_arg2 k0_t1_loop.trips) y = G y := by
  have hT : k0_t1_loop.trips = 64 := by decide +kernel
  refine View.canon_apply_of_pieces G _ (fun p hp x => ?_) y ?_
  · obtain ⟨k, -, rfl⟩ := (mem_pb1 𝒱 c bd i arg2 harg2 arg3 harg3 arg4 harg4 arg5 harg5 arg6 harg6 arg7 harg7 arg8 harg8
      k0_h1 v9 v10 v12 X_arg2 p _ le_rfl).mp hp
    exact hG k x
  · have h0 : (y 0).val < 1024 := (y 0).isLt
    have h1 : (y 1).val < 2048 := (y 1).isLt
    refine ⟨_, (mem_pb1 𝒱 c bd i arg2 harg2 arg3 harg3 arg4 harg4 arg5 harg5 arg6 harg6 arg7 harg7 arg8 harg8
      k0_h1 v9 v10 v12 X_arg2 _ _ le_rfl).mpr ⟨⟨(y 0).val / 16, by omega⟩, by dsimp only; omega, rfl⟩, ?_⟩
    rw [Rect.mem_set_unit, k0_off1_eq]
    intro a
    fin_cases a
    · show 16 * ((y 0).val / 16) ≤ (y 0).val ∧ (y 0).val < 16 * ((y 0).val / 16) + 16
      omega
    · show 0 ≤ (y 1).val ∧ (y 1).val < 0 + 2048
      omega

end

end Cert.Kernel3Ideal.InProj
end
-- ==== Proof.InProj.lean ====
module

public import proofs.«01_k».proof.Proof.InProjLoops
public import Idealize.ShloMosaic.Lib.Pipeline.ValueKit.Held
public import Idealize.ShloMosaic.Lib.Pipeline.ReadBack

/-! # The input projection: what the kernel's call leaves

A block of 1024 rows is normalised and modulated at its first column step, kept, and multiplied with one half of the
weight's columns at each of the two steps. -/

@[expose] public section

set_option maxRecDepth 16384

noncomputable section

open Idealize.ShloMosaic Idealize.ShloMosaic.TcCoe Idealize.SL.Sem
open scoped BigOperators

namespace Cert.Kernel3Ideal.InProj

open Cert.Kernel3Ideal Cert.Kernel3Ideal.Gen

section spec

variable (x : FVec Ideal S16384x2048 .f32) (g : FVec Ideal S1x2048 .f32) (mods : FVec Ideal S4x8x1x12288 .f32)
  (w : FVec Ideal S4x2048x4096 .bf16)

/-- The normalised and modulated input at row `r`, feature `k`. -/
def hid (r : Fin 16384) (k : Fin 2048) : EReal :=
  x (ix2 r k) * Ideal.rsqrt (Ideal.div (∑ d : Fin 2048, x (ix2 r d) * x (ix2 r d)) (Ideal.ofBits .f32 0x45000000#32)
      + Ideal.ofBits .f32 0x358637BD#32) * g (ix2 0 k)
    * (Ideal.ofBits .f32 0x3F800000#32 + mods (ix4 0 ⟨r.val / 4096, by omega⟩ 0 ⟨2048 + k.val, by omega⟩))
    + mods (ix4 0 ⟨r.val / 4096, by omega⟩ 0 ⟨k.val, by omega⟩)

/-- What the call leaves at row `r`, column `f`. -/
def specAt (r : Fin 16384) (f : Fin 4096) : EReal := ∑ k : Fin 2048, hid x g mods r k * w (ix3 0 k f)

/-- The result array. -/
def spec : FVec Ideal S16384x4096 .bf16 := fun i => specAt x g mods w (i 0) (i 1)

end spec

variable (m : (ℓ : Loc nD τ sig) → Buf (Elt Ideal) ℓ)

/-- The block of each window at each of the 32 points: 16 blocks of 1024 rows, two column steps each. -/
theorem idx : ∀ t : Fin cfg0.N, win0_0.index t = ![t.val / 2, 0]
    ∧ win0_1.index t = ![0, 0]
    ∧ win0_2.index t = ![0, t.val / 2 / 4, 0, 0]
    ∧ win0_3.index t = ![0, t.val / 2 / 4, 0, 1]
    ∧ win0_4.index t = ![0, 0, t.val % 2]
    ∧ win0_5.index t = ![t.val / 2, t.val % 2] :=
  (by decide +kernel : ∀ t : Fin grid0.N, _)

theorem lt_N (t : Fin cfg0.N) : t.val < 32 := lt_of_lt_of_eq t.isLt N_0

/-- The block of normalised rows at point `t`. -/
def hidAt (c : Dev nD) (t : Fin cfg0.N) (a : Fin 1024) (k : Fin 2048) : EReal :=
  hid (m ((c : Thread nD τ).loc main_arg0)) (m ((c : Thread nD τ).loc main_arg1)) (m ((c : Thread nD τ).loc main_arg2))
    ⟨1024 * (t.val / 2) + a.val, by have := lt_N t; omega⟩ k

/-- The same as a block. -/
def hidBlk (c : Dev nD) (t : Fin cfg0.N) : FVec Ideal S1024x2048 .bf16 := fun y => hidAt m c t (y 0) (y 1)

/-- One trip of the row loop stores rows of `hidBlk`. -/
theorem rows (c : Dev nD) (t : Fin cfg0.N) (k : ℕ) (hk : k < 64) (o : Fin 2 → ℕ) (ho : o = ![16 * k, 0]) (h) (x) :
    k0_pay1 (iblk m c 1 t) (iblk m c 2 t) (iblk m c 3 t)
      (View.ld (iblk m c 0 t) (Rect.unit (s := S1024x2048) o S16x2048.size h)) x
    = hidBlk m c t ((Rect.unit (s := S1024x2048) o S16x2048.size h).emb x) := by
  have ht := lt_N t
  subst ho
  pointwise [k0_pay1, hidBlk, hidAt, hid]
  blk_point [iblk, V, idx t]

/-- The first column step leaves the normalised rows in the scratch. -/
theorem hid_loop (c : Dev nD) (t : Fin cfg0.N) (h0 : t.val % 2 = 0) :
    (outsAt0 (F := Ideal) m c t.val t.isLt).2 = hidBlk m c t := by
  rw [outsAt0_A m c t h0]
  dsimp only
  frame_open
  funext y
  rw [View.read_writes_junk_apply_eq_canon]
  refine canon_pb1 (G := hidBlk m c t) (hG := fun k x => ?_) (y := y) ..
  frame_out
  exact rows m c t k.val (Nat.lt_of_lt_of_le k.isLt k0_t1_abs.2.1) _ (k0_off1_eq k) _ x

/-- Points of the same row block see the same rows. -/
theorem hidBlk_congr (c : Dev nD) (t t' : Fin cfg0.N) (h : t.val / 2 = t'.val / 2) : hidBlk m c t = hidBlk m c t' := by
  funext y
  simp only [hidBlk, hidAt, h]

/-- The block of the result at point `t`. -/
def outBlk (c : Dev nD) (t : Fin cfg0.N) : FVec Ideal S1024x2048 .bf16 := fun y =>
  specAt (m ((c : Thread nD τ).loc main_arg0)) (m ((c : Thread nD τ).loc main_arg1)) (m ((c : Thread nD τ).loc main_arg2))
    (m ((c : Thread nD τ).loc main_arg3))
    ⟨1024 * (t.val / 2) + (y 0).val, by have := lt_N t; have := (show (y 0).val < 1024 from (y 0).isLt); omega⟩
    ⟨t.val % 2 * 2048 + (y 1).val, by have := (show (y 1).val < 2048 from (y 1).isLt); omega⟩

/-- The product of the kept rows with the block of the weight. -/
theorem step (c : Dev nD) (t : Fin cfg0.N) (y) : k0_pay2 (hidBlk m c t) (iblk m c 4 t) y = outBlk m c t y := by
  have ht := lt_N t
  pointwise [k0_pay2, outBlk, specAt, hidBlk, hidAt]
  blk_point [iblk, V, idx t]

/-- Reading the whole scratch back gives what its pieces hold. -/
theorem readCov_scratch (L) (G : FVec Ideal S1024x2048 .bf16) (h : ∀ y, View.canon (Val := Elt Ideal) L y = G y) :
    (View.whole cc0_scratch0).readCov L (Rect.unit ![0, 0] ![1024, 2048] inb_S1024x2048_S1024x2048_0_0).toLoadRect = G := by
  rw [View.readCov_eq_canon']
  funext j
  rw [h]
  refine congrArg G (funext fun a => Fin.ext ?_)
  fin_cases a
  · exact (Nat.zero_add _).trans (Nat.one_mul _)
  · exact (Nat.zero_add _).trans (Nat.one_mul _)

/-- Every point stores its block of the result. -/
theorem out_eq (c : Dev nD) (t : Fin cfg0.N) (y) : (outsAt0 (F := Ideal) m c t.val t.isLt).1 y = outBlk m c t y := by
  by_cases h0 : t.val % 2 = 0
  · rw [outsAt0_A m c t h0]
    dsimp only
    frame_open
    frame_out
    rw [readCov_scratch _ (hidBlk m c t) fun y => ?_, step]
    refine canon_pb1 (G := hidBlk m c t) (hG := fun k x => ?_) (y := y) ..
    frame_out
    exact rows m c t k.val (Nat.lt_of_lt_of_le k.isLt k0_t1_abs.2.1) _ (k0_off1_eq k) _ x
  · have e := hid_loop m c ⟨t.val - 1, Nat.lt_of_le_of_lt (Nat.sub_le _ _) t.isLt⟩ (by dsimp only; omega)
    dsimp only at e
    rw [hidBlk_congr m c _ t (by dsimp only; omega)] at e
    rw [outsAt0_B m c t h0]
    dsimp only
    frame_open
    frame_out
    rw [read_unread_whole, e, step]

/-- The result array after the run is `spec` of the arguments. -/
theorem final (c : Dev nD) : (dats m 0 c).arrAt 5 (cfgs 0).N
    = spec (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  obtain ⟨-, -, -, -, -, e⟩ := idx t
  blk_simp
  rw [after0_5, out_eq m c t]
  refine congrArg₂ (specAt _ _ _ _) (Fin.ext ?_) (Fin.ext ?_)
  · blk_simp [e]
    exact congrArg (· + (y 0).val) (Nat.mul_comm _ _)
  · blk_simp [e]

end Cert.Kernel3Ideal.InProj
end
-- ==== Proof.InProjRef.lean ====
module

public import proofs.«01_k».proof.Proof.InProj
public import proofs.«01_k».proof.Proof.Gen.Reference3Ideal.Read
public import Idealize.ShloMosaic.Lib.StableHlo.Run

/-! # The input projection: the reference computes the same array -/

@[expose] public section

set_option maxRecDepth 16384

noncomputable section

open Idealize.ShloMosaic Idealize.ShloMosaic.TcCoe Idealize.SL.Sem
open scoped BigOperators

namespace Cert.Kernel3Ideal.InProj

open Cert.Kernel3Ideal Cert.Reference3Ideal.Read

variable (x : FVec Ideal S16384x2048 .f32) (g : FVec Ideal S1x2048 .f32) (mods : FVec Ideal S4x8x1x12288 .f32)
  (w : FVec Ideal S4x2048x4096 .bf16)

/-- The reference's normalised and modulated input. -/
theorem ref_hid (b : Fin 4) (l : Fin 4096) (k : Fin 2048) :
    val_main_v24 (F := Ideal) x g mods (ix3 b l k) = hid x g mods ⟨b.val * 4096 + l.val, by omega⟩ k := by
  have e : (b.val * 4096 + l.val) / 4096 = b.val := by omega
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hid]
  simp only [e]

/-- The reference computes `spec`. -/
theorem ref_eq : val_main_v30 (F := Ideal) x g mods w = spec x g mods w := by
  funext i
  have e (k : Fin 2048) : val_main_v24 (F := Ideal) x g mods
      (ix3 ⟨(i 0).val / 4096, by idx_bounds; omega⟩ ⟨(i 0).val % 4096, by omega⟩ k) = hid x g mods (i 0) k := by
    rw [ref_hid]
    congr 1
    exact Fin.ext (Nat.div_add_mod' _ _)
  pointwise [val_main_v30, val_main_v29, val_main_v28, val_main_v27, val_main_v26, val_main_v25, spec, specAt]
  simp only [e]

end Cert.Kernel3Ideal.InProj
end
-- ==== Proof.MixOut.lean ====
module

public import proofs.«01_k».proof.Proof.Gen.Kernel4Ideal.Frame
public import proofs.«01_k».proof.Proof.Gen.Reference4Ideal.Read
public import Idealize.ShloMosaic.Lib.Pipeline.ValueKit
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.MixOut

open Cert.Kernel4Ideal Cert.Kernel4Ideal.Gen

/-- Row `r` of the four concatenated streams times the output weight, at feature `d`: one sum per stream. -/
def mixed (y0 y1 y2 y3 : FVec Ideal S16384x512 .bf16) (w : FVec Ideal S4x2048x2048 .bf16)
    (r : Fin 16384) (d : Fin 2048) : EReal :=
  (((∑ k : Fin 512, y0 (ix2 r k) * w (ix3 0 ⟨k.val, by omega⟩ d))
    + ∑ k : Fin 512, y1 (ix2 r k) * w (ix3 0 ⟨512 + k.val, by omega⟩ d))
    + ∑ k : Fin 512, y2 (ix2 r k) * w (ix3 0 ⟨1024 + k.val, by omega⟩ d))
    + ∑ k : Fin 512, y3 (ix2 r k) * w (ix3 0 ⟨1536 + k.val, by omega⟩ d)

/-- What the call leaves at row `r`, feature `d`: the residual plus the gate of the row's batch times the
    RMS-normalised product. -/
def specAt (y0 y1 y2 y3 : FVec Ideal S16384x512 .bf16) (w : FVec Ideal S4x2048x2048 .bf16)
    (x : FVec Ideal S16384x2048 .f32) (g : FVec Ideal S1x2048 .f32) (mods : FVec Ideal S4x8x1x12288 .f32)
    (r : Fin 16384) (d : Fin 2048) : EReal :=
  x (ix2 r d) + mods (ix4 0 ⟨r.val / 4096, by omega⟩ 0 ⟨4096 + d.val, by omega⟩)
    * (mixed y0 y1 y2 y3 w r d
      * Ideal.rsqrt (Ideal.div (∑ k : Fin 2048, mixed y0 y1 y2 y3 w r k * mixed y0 y1 y2 y3 w r k)
          (Ideal.ofBits .f32 0x45000000#32) + Ideal.ofBits .f32 0x358637BD#32)
      * g (ix2 0 d))

/-- The result array. -/
def spec (y0 y1 y2 y3 : FVec Ideal S16384x512 .bf16) (w : FVec Ideal S4x2048x2048 .bf16)
    (x : FVec Ideal S16384x2048 .f32) (g : FVec Ideal S1x2048 .f32) (mods : FVec Ideal S4x8x1x12288 .f32) :
    FVec Ideal S16384x2048 .f32 := fun i => specAt y0 y1 y2 y3 w x g mods (i 0) (i 1)

/-- A sum over the 2048 concatenated features, cut into the four streams. -/
theorem sum_streams (f : Fin 2048 → EReal) : ∑ k, f k
    = (((∑ k : Fin 512, f ⟨k.val, by omega⟩) + ∑ k : Fin 512, f ⟨512 + k.val, by omega⟩)
      + ∑ k : Fin 512, f ⟨1024 + k.val, by omega⟩) + ∑ k : Fin 512, f ⟨1536 + k.val, by omega⟩ := by
  have e := Fin.sum_univ_add (a := 1536) (b := 512) (fun k => f k)
  have e' := Fin.sum_univ_add (a := 1024) (b := 512) (fun k => f ⟨k.val, by omega⟩)
  have e'' := Fin.sum_univ_add (a := 512) (b := 512) (fun k => f ⟨k.val, by omega⟩)
  exact e.trans (congrArg (· + _) (e'.trans (congrArg (· + _) e'')))

variable (m : (ℓ : Loc nD τ sig) → Buf (Elt Ideal) ℓ)

/-- The block of each window at each of the 32 points: 512 rows per point, 8 points per batch. -/
theorem idx : ∀ t : Fin cfg0.N, win0_0.index t = ![t.val, 0]
    ∧ win0_1.index t = ![t.val, 0] ∧ win0_2.index t = ![t.val, 0] ∧ win0_3.index t = ![t.val, 0]
    ∧ win0_4.index t = ![0, 0, 0] ∧ win0_5.index t = ![t.val, 0] ∧ win0_6.index t = ![0, 0]
    ∧ win0_7.index t = ![0, t.val / 8, 0, 2] ∧ win0_8.index t = ![t.val, 0] :=
  (by decide +kernel : ∀ t : Fin grid0.N, _)

/-- What one point stores is `spec` at the array index of the block index. -/
theorem point (c : Dev nD) (t : Fin cfg0.N) (y) :
    k0_pay1 (k0_pay2 (iblk m c 0 t) (View.ld (iblk m c 4 t) r0_1) (iblk m c 1 t) (View.ld (iblk m c 4 t) r0_2)
      (iblk m c 2 t) (View.ld (iblk m c 4 t) r0_3) (iblk m c 3 t) (View.ld (iblk m c 4 t) r0_4))
      (k0_pay3 (iblk m c 0 t) (View.ld (iblk m c 4 t) r0_1) (iblk m c 1 t) (View.ld (iblk m c 4 t) r0_2)
      (iblk m c 2 t) (View.ld (iblk m c 4 t) r0_3) (iblk m c 3 t) (View.ld (iblk m c 4 t) r0_4))
      (iblk m c 5 t) (k0_pay4 (iblk m c 7 t)) (iblk m c 6 t) y
    = spec (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7)) (((cfg0.win 8).blk t).view.emb y) := by
  pointwise [k0_pay1, k0_pay2, k0_pay3, k0_pay4, spec, specAt, mixed]
  blk_point [iblk, V, idx t]

/-- The result array after the run is `spec` of the arguments. -/
theorem final (c : Dev nD) : (dats m 0 c).arrAt 8 (cfgs 0).N
    = spec (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t hf y => ?_
  blk_simp; rw [after0_8]; frame_out
  exact point m c t y

/-! ## The reference -/

open Cert.Reference4Ideal.Read in
/-- The reference's product of the concatenated streams is the sum over the four streams. -/
theorem ref_mixed (y0 y1 y2 y3 : FVec Ideal S16384x512 .bf16) (w : FVec Ideal S4x2048x2048 .bf16)
    (b : Fin 4) (l : Fin 4096) (d : Fin 2048) :
    val_main_v14 (F := Ideal) y0 y1 y2 y3 w (ix3 b l d)
      = mixed y0 y1 y2 y3 w ⟨b.val * 4096 + l.val, by omega⟩ d := by
  pointwise [val_main_v14, val_main_v13, val_main_v12, val_main_v11, val_main_v10, val_main_v9, val_main_v8,
    val_main_v7, val_main_v6, val_main_v5, val_main_v4, val_main_v3, val_main_v2]
  rw [sum_streams]
  refine congrArg₂ (· + ·) (congrArg₂ (· + ·) (congrArg₂ (· + ·) ?_ ?_) ?_) ?_ <;>
    refine Finset.sum_congr rfl fun k _ => ?_
  · rw [dif_pos k.isLt]
  · rw [dif_neg (by simp only []; omega), dif_pos (by simp only []; omega)]
    congr 3 <;> exact Fin.ext (by simp only []; omega)
  · rw [dif_neg (by simp only []; omega), dif_neg (by simp only []; omega), dif_pos (by simp only []; omega)]
    congr 3 <;> exact Fin.ext (by simp only []; omega)
  · rw [dif_neg (by simp only []; omega), dif_neg (by simp only []; omega), dif_neg (by simp only []; omega)]
    congr 3 <;> exact Fin.ext (by simp only []; omega)

open Cert.Reference4Ideal.Read in
/-- The reference computes `spec`. -/
theorem ref_eq (y0 y1 y2 y3 : FVec Ideal S16384x512 .bf16) (w : FVec Ideal S4x2048x2048 .bf16)
    (x : FVec Ideal S16384x2048 .f32) (g : FVec Ideal S1x2048 .f32) (mods : FVec Ideal S4x8x1x12288 .f32) :
    val_main_v33 (F := Ideal) y0 y1 y2 y3 w x g mods = spec y0 y1 y2 y3 w x g mods := by
  funext i
  have e (d : Fin 2048) : val_main_v14 (F := Ideal) y0 y1 y2 y3 w
      (ix3 ⟨(i 0).val / 4096, by idx_bounds; omega⟩ ⟨(i 0).val % 4096, by omega⟩ d) = mixed y0 y1 y2 y3 w (i 0) d := by
    rw [ref_mixed]
    congr 1
    exact Fin.ext (Nat.div_add_mod' _ _)
  have e1 := e (i 1)
  pointwise [val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v1, val_main_v0, val_main_cst, val_main_cst_0,
    val_main_cst_1, spec, specAt]
  simp only [e]
  refine congrArg₂ (· + ·) rfl (congrArg₂ (· * ·) rfl (congrArg₂ (· * ·) (congrArg₂ (· * ·) e1 rfl) rfl))

end Cert.Kernel4Ideal.MixOut
end
-- ==== Proof.Glu.lean ====
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.Value
public import Idealize.ShloMosaic.Lib.StableHlo.Run

/-! # The S5 readout: skip connection, GELU and gated linear unit

One point takes 1024 rows: it adds the two directions' readouts and the skip term, applies GELU, and gates the result with
the sigmoid of its product with the gate weight. -/

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Glu

open Cert.Kernel6Ideal Cert.Kernel6Ideal.Gen

/-- GELU in its hyperbolic-tangent form. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The cube may be taken in either order. -/
theorem gelu_cube (x : EReal) : x * (Ideal.ofBits .f32 0x3F000000#32 * (1
    + Ideal.tanh (Ideal.ofBits .f32 0x3F4C422A#32 * (x + Ideal.ofBits .f32 0x3D372713#32 * (x * x * x))))) = gelu x := by
  have e : Ideal.ofBits .f32 0x3F800000#32 = 1 := by pointwise []
  rw [gelu, mul_comm (x * x) x, e]

/-- GELU of the skip term (the S5 input is section 3 of the projected row) plus the two directions' readouts. -/
def act (y : FVec Ideal S2x16384x512 .f32) (px : FVec Ideal S16384x4096 .bf16) (d : FVec Ideal S1x512 .f32)
    (r : Fin 16384) (f : Fin 512) : EReal :=
  gelu (d (ix2 0 f) * px (ix2 r ⟨1536 + f.val, by omega⟩) + y (ix3 0 r f) + y (ix3 1 r f))

/-- What the call leaves at row `r`, feature `f`. -/
def specAt (y : FVec Ideal S2x16384x512 .f32) (px : FVec Ideal S16384x4096 .bf16) (d : FVec Ideal S1x512 .f32)
    (w : FVec Ideal S512x512 .bf16) (r : Fin 16384) (f : Fin 512) : EReal :=
  act y px d r f * Ideal.logistic (∑ k : Fin 512, act y px d r k * w (ix2 k f))

/-- The result array. -/
def spec (y : FVec Ideal S2x16384x512 .f32) (px : FVec Ideal S16384x4096 .bf16) (d : FVec Ideal S1x512 .f32)
    (w : FVec Ideal S512x512 .bf16) : FVec Ideal S16384x512 .bf16 := fun i => specAt y px d w (i 0) (i 1)

variable (m : (ℓ : Loc nD τ sig) → Buf (Elt Ideal) ℓ)

/-- The block of each window at each of the 16 points. -/
theorem idx : ∀ t : Fin cfg0.N, win0_0.index t = ![0, t.val, 0] ∧ win0_1.index t = ![1, t.val, 0]
    ∧ win0_2.index t = ![t.val, 3] ∧ win0_3.index t = ![0, 0] ∧ win0_4.index t = ![0, 0]
    ∧ win0_5.index t = ![t.val, 0] :=
  (by decide +kernel : ∀ t : Fin grid0.N, _)

/-- What one point stores is `spec` at the array index of the block index. -/
theorem point (c : Dev nD) (t : Fin cfg0.N) (y) :
    k0_pay1 (iblk m c 3 t) (iblk m c 2 t) (iblk m c 0 t) (iblk m c 1 t) (iblk m c 4 t) y
    = spec (m ((c : Thread nD τ).loc main_arg0)) (m ((c : Thread nD τ).loc main_arg1))
      (m ((c : Thread nD τ).loc main_arg2)) (m ((c : Thread nD τ).loc main_arg3)) (((cfg0.win 5).blk t).view.emb y) := by
  pointwise [k0_pay1, spec, specAt, act, gelu]
  blk_point [iblk, V, idx t]

/-- The result array after the run is `spec` of the arguments. -/
theorem final (c : Dev nD) : (dats m 0 c).arrAt 5 (cfgs 0).N
    = spec (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp; rw [after0_5]; frame_out
  exact point m c t y

/-! ## The reference -/

open Cert.Reference6Ideal.Read

variable (y : FVec Ideal S2x16384x512 .f32) (px : FVec Ideal S16384x4096 .bf16) (d : FVec Ideal S1x512 .f32)
  (w : FVec Ideal S512x512 .bf16)

/-- The reference's GELU. -/
theorem ref_act (b : Fin 4) (l : Fin 4096) (f : Fin 512) :
    val_main_v26 (F := Ideal) y px d (ix3 b l f) = act y px d ⟨b.val * 4096 + l.val, by omega⟩ f := by
  pointwise [val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_v0, val_main_cst, val_main_cst_0, val_main_cst_1,
    val_main_cst_2, act]
  rw [gelu_cube]

/-- The reference computes `spec`. -/
theorem ref_eq : val_main_v37 (F := Ideal) y px d w = spec y px d w := by
  funext i
  have e (f : Fin 512) : val_main_v26 (F := Ideal) y px d
      (ix3 ⟨(i 0).val / 4096, by idx_bounds; omega⟩ ⟨(i 0).val % 4096, by omega⟩ f) = act y px d (i 0) f := by
    rw [ref_act]
    congr 1
    exact Fin.ext (Nat.div_add_mod' _ _)
  have e1 := e (i 1)
  pointwise [val_main_v37, val_main_v36, val_main_v35, val_main_v34, val_main_v33, val_main_v32, val_main_v31,
    val_main_v30, val_main_v29, val_main_v28, val_main_v27, val_main_cst_3, val_main_cst_4, spec, specAt]
  simp only [e, Ideal.logistic]
  exact congrArg (· * _) e1

end Cert.Kernel6Ideal.Glu
end
-- ==== Proof.MlaPrep.lean ====
module

public import proofs.«01_k».proof.Proof.Gen.Kernel7Ideal.Frame
public import Idealize.ShloMosaic.Lib.Pipeline.ValueKit
public import Idealize.ShloMosaic.Lib.Pipeline.Value
public import Idealize.ShloMosaic.Lib.StableHlo.Run
public import Idealize.ShloMosaic.Lib.KernelVsHost

/-! # The latent attention's preparation

One point takes 1024 rows of the projected array. It normalises the query and key-value latents, multiplies them with
their weights, turns the rotary features of the queries and of the one key that all heads share, scales the queries, and
lays queries, keys and values out for the attention. -/

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.MlaPrep

open Cert.Kernel7Ideal Cert.Kernel7Ideal.Gen

/-! ## What the call computes -/

section Spec

variable (px : FVec Ideal S16384x4096 .bf16) (gq : FVec Ideal S1x512 .f32) (gkv : FVec Ideal S1x256 .f32)
  (wq : FVec Ideal S512x1024 .bf16) (wkv : FVec Ideal S256x1024 .bf16) (cos sin : FVec Ideal S4096x32 .f32)

/-- The query latent (section 4 of the projected row), normalised. -/
def qn (r : Fin 16384) (k : Fin 512) : EReal :=
  px (ix2 r ⟨2048 + k.val, by omega⟩) * Ideal.rsqrt (Ideal.div (∑ j : Fin 512, px (ix2 r ⟨2048 + j.val, by omega⟩)
    * px (ix2 r ⟨2048 + j.val, by omega⟩)) (Ideal.ofBits .f32 0x44000000#32) + Ideal.ofBits .f32 0x358637BD#32)
    * gq (ix2 0 k)

/-- The queries before the rotation and the scale. -/
def qp (r : Fin 16384) (f : Fin 1024) : EReal := ∑ k : Fin 512, qn px gq r k * wq (ix2 k f)

/-- The key-value latent (the first quarter of section 5 and the next), normalised. -/
def kn (r : Fin 16384) (k : Fin 256) : EReal :=
  px (ix2 r ⟨2560 + k.val, by omega⟩) * Ideal.rsqrt (Ideal.div (∑ j : Fin 256, px (ix2 r ⟨2560 + j.val, by omega⟩)
    * px (ix2 r ⟨2560 + j.val, by omega⟩)) (Ideal.ofBits .f32 0x43800000#32) + Ideal.ofBits .f32 0x358637BD#32)
    * gkv (ix2 0 k)

/-- The keys (features 0 to 511) and the values (the rest), before the shared rotary key is put beside the keys. -/
def kvp (r : Fin 16384) (f : Fin 1024) : EReal := ∑ k : Fin 256, kn px gkv r k * wkv (ix2 k f)

/-- The feature a rotary feature turns with: the other half of its group of 64. -/
def mate (f : ℕ) : ℕ := if f % 64 < 32 then f + 32 else f - 32

theorem mate_lt {f : ℕ} (n : ℕ) (h : f < n * 64) : mate f < n * 64 := by
  unfold mate; split <;> omega

/-- Rotary feature `f`, with value `a`, mate's value `b`, at row `r`. -/
def turn (r : Fin 16384) (f : ℕ) (a b : EReal) : EReal :=
  if f % 64 < 32 then
    a * cos (ix2 ⟨r.val % 4096, by omega⟩ ⟨f % 32, by omega⟩) - b * sin (ix2 ⟨r.val % 4096, by omega⟩ ⟨f % 32, by omega⟩)
  else
    b * sin (ix2 ⟨r.val % 4096, by omega⟩ ⟨f % 32, by omega⟩) + a * cos (ix2 ⟨r.val % 4096, by omega⟩ ⟨f % 32, by omega⟩)

/-- The queries: of each head's 256 features the first 128 pass, the others turn, and all are scaled. -/
def queryAt (f : Fin 1024) (r : Fin 16384) : EReal :=
  (if f.val % 256 < 128 then qp px gq wq r f
    else turn cos sin r f (qp px gq wq r f) (qp px gq wq r ⟨mate f, mate_lt 16 f.isLt⟩)) * Ideal.ofBits .f32 0x3DD53B95#32

/-- The rotary key that the heads share, at lane `j` of 128. -/
def sharedAt (r : Fin 16384) (j : Fin 128) : EReal :=
  turn cos sin r j (px (ix2 r ⟨2816 + j.val, by omega⟩))
    (px (ix2 r ⟨2816 + mate j, by have := mate_lt 2 (f := j.val) (by omega); omega⟩))

/-- The keys: of each head's 256 features the first 128 are its own, the others the shared rotary key. -/
def keyAt (r : Fin 16384) (f : Fin 1024) : EReal :=
  if f.val % 256 < 128 then kvp px gkv wkv r ⟨f.val / 256 * 128 + f.val % 128, by omega⟩
  else sharedAt px cos sin r ⟨f.val % 128, by omega⟩

/-- The values. -/
def valueAt (f : Fin 512) (r : Fin 16384) : EReal := kvp px gkv wkv r ⟨512 + f.val, by omega⟩

/-- The first result: the queries, feature by row. -/
def specQ : FVec Ideal S1024x16384 .bf16 := fun i => queryAt px gq wq cos sin (i 0) (i 1)

/-- The second result: the keys, row by feature. -/
def specK : FVec Ideal S16384x1024 .bf16 := fun i => keyAt px gkv wkv cos sin (i 0) (i 1)

/-- The third result: the values, feature by row. -/
def specV : FVec Ideal S512x16384 .bf16 := fun i => valueAt px gkv wkv (i 0) (i 1)

end Spec

/-! ## The rotation of 128 lanes -/

/-- Whether a lane is in the first half of its group of 64, as the body computes it. -/
def lane : IVec S1024x128 1 :=
  have v76 : BitVec 32 := Scalar.select (Scalar.cmpi .eq 64#32 0#32) 1#32 64#32
  have v78 : IVec S1024x128 32 := remsi (iota .tc S1024x128 32 [1] iota_S1024x128_d1_w32) (broadcast S1024x128 v76)
  cmpi .slt (select (andi (xori (cmpi .slt v78 (broadcast S1024x128 0#32))
    (broadcastTo S1024x128 (broadcast S1024x128 (Scalar.cmpi .slt v76 0#32)) broadcasts_S1024x128_S1024x128))
    (cmpi .ne v78 (broadcast S1024x128 0#32))) (addi v78 (broadcast S1024x128 v76)) v78) (broadcast S1024x128 32#32)

theorem lane0 : ∀ j : Fin 128, lane (ix2 0 j) = if j.val % 64 < 32 then 1#1 else 0#1 := by decide +kernel

theorem lane_at (i : Fin 1024) (j : Fin 128) : lane (ix2 i j) = if j.val % 64 < 32 then 1#1 else 0#1 := by
  rw [← lane0]; rfl

/-- The rotation of a slab of 128 lanes with the tables `c` and `s`. -/
def rope (x c s : FVec Ideal S1024x128 .f32) : FVec Ideal S1024x128 .f32 :=
  addf (mulf x c) (mulf (select lane (dynamicRotate 1 96#32 none x rotates_S1024x128_d1)
    (dynamicRotate 1 32#32 none x rotates_S1024x128_d1)) s)

theorem rope_at (x c s : FVec Ideal S1024x128 .f32) (i : Fin 1024) (j : Fin 128) : rope x c s (ix2 i j)
    = x (ix2 i j) * c (ix2 i j) + x (ix2 i ⟨mate j, mate_lt 2 j.isLt⟩) * s (ix2 i j) := by
  have e : select lane (dynamicRotate 1 96#32 none x rotates_S1024x128_d1)
      (dynamicRotate 1 32#32 none x rotates_S1024x128_d1) (ix2 i j) = x (ix2 i ⟨mate j, mate_lt 2 j.isLt⟩) := by
    show (if lane (ix2 i j) = 1#1 then _ else _) = _
    rw [lane_at]
    by_cases h : j.val % 64 < 32
    · rw [if_pos h, if_pos rfl]
      refine dynamicRotate_apply 1 96#32 x _ _ _ fun b => ?_
      match b with
      | 0 => rfl
      | 1 =>
        show mate j = (j.val + 128 - 96 % 128) % 128
        rw [mate, if_pos h]; omega
    · rw [if_neg h, if_neg (by decide)]
      refine dynamicRotate_apply 1 32#32 x _ _ _ fun b => ?_
      match b with
      | 0 => rfl
      | 1 =>
        show mate j = (j.val + 128 - 32 % 128) % 128
        rw [mate, if_neg h]; omega
  exact congrArg (fun z : EReal => x (ix2 i j) * c (ix2 i j) + z * s (ix2 i j)) e

/-! ## The tables the host code prepares -/

/-- The cosines, repeated four times. -/
def tcos (x : FVec Ideal S4096x32 .f32) : FVec Ideal S4096x128 .f32 :=
  shapeCast S4096x128 (broadcastInDim S1x4096x4x32 ![0, 1, 2, 3] bcast_S1x4096x1x32_S1x4096x4x32_0_1_2_3
    (shapeCast S1x4096x1x32 x shapeCasts_S4096x32_S1x4096x1x32)) shapeCasts_S1x4096x4x32_S4096x128

/-- The sines, negated in the first half of each group of 64. -/
def tsin (x : FVec Ideal S4096x32 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, Host.negf x⟩, ⟨S4096x32, x⟩]
      concatenates_S4096x32_S4096x32_S4096x64_d1) shapeCasts_S4096x64_S1x4096x1x64)) shapeCasts_S1x4096x2x64_S4096x128

theorem tcos_at (x : FVec Ideal S4096x32 .f32) (l : Fin 4096) (j : Fin 128) :
    tcos x (ix2 l j) = x (ix2 l ⟨j.val % 32, by omega⟩) := by
  pointwise [tcos]

theorem tsin_at (x : FVec Ideal S4096x32 .f32) (l : Fin 4096) (j : Fin 128) :
    tsin x (ix2 l j) = if j.val % 64 < 32 then - x (ix2 l ⟨j.val % 32, by omega⟩) else x (ix2 l ⟨j.val % 32, by omega⟩) := by
  pointwise [tsin]
  by_cases h : j.val % 64 < 32
  · rw [dif_pos h, if_pos h]
    congr 3
    exact Fin.ext (by simp only []; omega)
  · rw [dif_neg h, if_neg h]
    congr 2
    exact Fin.ext (by simp only []; omega)

variable (m : (ℓ : Loc nD τ sig) → Buf (Elt Ideal) ℓ)

theorem V_cos (c : Dev nD) : V m c main_v2 = tcos (m ((c : Thread nD τ).loc main_arg5)) := by
  show StableHlo.after hostOps0 _ (Proc.devRef .tc main_v2) = _
  after_results
  rfl

theorem V_sin (c : Dev nD) : V m c main_v7 = tsin (m ((c : Thread nD τ).loc main_arg6)) := by
  show StableHlo.after hostOps0 _ (Proc.devRef .tc main_v7) = _
  after_results
  rfl

/-! ## One point's values -/

/-- The block of each window at each of the 16 points. -/
theorem idx : ∀ t : Fin cfg0.N, win0_0.index t = ![t.val, 4] ∧ win0_1.index t = ![t.val, 5]
    ∧ win0_2.index t = ![0, 0] ∧ win0_3.index t = ![0, 0] ∧ win0_4.index t = ![0, 0] ∧ win0_5.index t = ![0, 0]
    ∧ win0_6.index t = ![t.val % 4, 0] ∧ win0_7.index t = ![t.val % 4, 0]
    ∧ win0_8.index t = ![0, t.val] ∧ win0_9.index t = ![t.val, 0] ∧ win0_10.index t = ![0, t.val] :=
  (by decide +kernel : ∀ t : Fin grid0.N, _)

/-- The queries of a point's rows, before rotation and scale. -/
theorem query_block (c : Dev nD) (t : Fin cfg0.N) (i : Fin 1024) (f : Fin 1024) :
    k0_pay5 (iblk m c 0 t) (iblk m c 2 t) (iblk m c 4 t) (ix2 i f)
    = qp (m ((c : Thread nD τ).loc main_arg0)) (m ((c : Thread nD τ).loc main_arg1)) (m ((c : Thread nD τ).loc main_arg3))
      ⟨t.val * 1024 + i.val, by have : t.val < 16 := t.isLt; omega⟩ f := by
  pointwise [k0_pay5, qp, qn]
  blk_point [iblk, V, idx t]

/-- The keys and values of a point's rows. -/
theorem kv_block (c : Dev nD) (t : Fin cfg0.N) (i : Fin 1024) (f : Fin 1024) :
    k0_pay7 (k0_pay6 (View.ld (iblk m c 1 t) r0_4) (iblk m c 3 t)) (iblk m c 5 t) (ix2 i f)
    = kvp (m ((c : Thread nD τ).loc main_arg0)) (m ((c : Thread nD τ).loc main_arg2)) (m ((c : Thread nD τ).loc main_arg4))
      ⟨t.val * 1024 + i.val, by have : t.val < 16 := t.isLt; omega⟩ f := by
  pointwise [k0_pay6, k0_pay7, kvp, kn]
  blk_point [iblk, V, idx t]

/-- Row `i` of point `t`. -/
abbrev row (t : Fin cfg0.N) (i : Fin 1024) : Fin 16384 := ⟨t.val * 1024 + i.val, by have : t.val < 16 := t.isLt; omega⟩

theorem cos_block (c : Dev nD) (t : Fin cfg0.N) (i : Fin 1024) (j : Fin 128) : iblk m c 6 t (ix2 i j)
    = m ((c : Thread nD τ).loc main_arg5) (ix2 ⟨(row t i).val % 4096, by omega⟩ ⟨j.val % 32, by omega⟩) := by
  have e : iblk m c 6 t (ix2 i j) = V m c main_v2 (ix2 ⟨(row t i).val % 4096, by omega⟩ j) := by
    blk_point [iblk, idx t]
  rw [e, V_cos, tcos_at]

theorem sin_block (c : Dev nD) (t : Fin cfg0.N) (i : Fin 1024) (j : Fin 128) : iblk m c 7 t (ix2 i j)
    = if j.val % 64 < 32 then
        @Neg.neg EReal _ (m ((c : Thread nD τ).loc main_arg6) (ix2 ⟨(row t i).val % 4096, by omega⟩ ⟨j.val % 32, by omega⟩))
      else m ((c : Thread nD τ).loc main_arg6) (ix2 ⟨(row t i).val % 4096, by omega⟩ ⟨j.val % 32, by omega⟩) := by
  have e : iblk m c 7 t (ix2 i j) = V m c main_v7 (ix2 ⟨(row t i).val % 4096, by omega⟩ j) := by
    blk_point [iblk, idx t]
  rw [e, V_sin, tsin_at]

/-- The body's rotation is `turn`. -/
theorem rope_block (c : Dev nD) (t : Fin cfg0.N) (x : FVec Ideal S1024x128 .f32) (i : Fin 1024) (j : Fin 128) :
    rope x (iblk m c 6 t) (iblk m c 7 t) (ix2 i j)
    = turn (m ((c : Thread nD τ).loc main_arg5)) (m ((c : Thread nD τ).loc main_arg6)) (row t i) j (x (ix2 i j))
      (x (ix2 i ⟨mate j, mate_lt 2 j.isLt⟩)) := by
  rw [rope_at, cos_block, sin_block, turn]
  by_cases h : j.val % 64 < 32
  · rw [if_pos h, if_pos h, mul_neg, sub_eq_add_neg]
  · rw [if_neg h, if_neg h, add_comm]

/-- Turning depends on the feature only within its group of 64. -/
theorem turn_mod (cos sin : FVec Ideal S4096x32 .f32) (r : Fin 16384) (f g : ℕ) (a b : EReal) (h : f % 64 = g % 64) :
    turn cos sin r f a b = turn cos sin r g a b := by
  have e : (⟨f % 32, by omega⟩ : Fin 32) = ⟨g % 32, by omega⟩ := Fin.ext (by simp only []; omega)
  rw [turn, turn, h, e]

/-! ## What a point stores -/

/-- A stretch of the queries that passes: scaled and transposed. -/
theorem pass_piece (q : FVec Ideal S1024x1024 .f32) (n : ℕ) (hs : S1024x1024.Slices ![0, n] S1024x128) (a : Fin 128)
    (i : Fin 1024) (f : Fin 1024) (hf : f.val = n + a.val) :
    truncf .bf16 (transpose S128x1024 [1, 0] (mulf (extractStridedSlice S1024x128 ![0, n] q hs)
      (broadcast S1024x128 (Scalar.ofBits .f32 0x3DD53B95#32))) transposes_S1024x128_p1_0_S128x1024) bitsLt_bf16_f32 (ix2 a i)
    = q (ix2 i f) * Ideal.ofBits .f32 0x3DD53B95#32 := by
  pointwise []
  exact congrArg (fun z => q (ix2 i z) * _) (Fin.ext hf.symm)

/-- A stretch of the queries that turns: turned, scaled and transposed. -/
theorem turn_piece (q : FVec Ideal S1024x1024 .f32) (x c s : FVec Ideal S1024x128 .f32) (a : Fin 128) (i : Fin 1024) :
    truncf .bf16 (transpose S128x1024 [1, 0] (mulf (rope x c s)
      (broadcast S1024x128 (Scalar.ofBits .f32 0x3DD53B95#32))) transposes_S1024x128_p1_0_S128x1024) bitsLt_bf16_f32 (ix2 a i)
    = rope x c s (ix2 i a) * Ideal.ofBits .f32 0x3DD53B95#32 := by
  pointwise []

theorem slab (q : FVec Ideal S1024x1024 .f32) (n : ℕ) (hs : S1024x1024.Slices ![0, n] S1024x128) (a : Fin 128)
    (i : Fin 1024) (f : Fin 1024) (hf : f.val = n + a.val) : extractStridedSlice S1024x128 ![0, n] q hs (ix2 i a) = q (ix2 i f) := by
  refine extractStridedSlice_apply _ q hs _ _ fun b => ?_
  match b with
  | 0 => exact (Nat.zero_add _).symm
  | 1 => exact hf

/-- A stretch of the keys or values, transposed. -/
theorem flip_piece (q : FVec Ideal S1024x1024 .f32) (n : ℕ) (hs : S1024x1024.Slices ![0, n] S1024x128) (a : Fin 128)
    (i : Fin 1024) (f : Fin 1024) (hf : f.val = n + a.val) :
    truncf .bf16 (transpose S128x1024 [1, 0] (extractStridedSlice S1024x128 ![0, n] q hs)
      transposes_S1024x128_p1_0_S128x1024) bitsLt_bf16_f32 (ix2 a i) = q (ix2 i f) := by
  pointwise []
  exact congrArg (fun z => q (ix2 i z)) (Fin.ext hf.symm)

/-- A stretch of the keys, as it is. -/
theorem plain_piece (q : FVec Ideal S1024x1024 .f32) (n : ℕ) (hs : S1024x1024.Slices ![0, n] S1024x128) (x : S1024x128.Idx) :
    truncf .bf16 (extractStridedSlice S1024x128 ![0, n] q hs) bitsLt_bf16_f32 x
    = extractStridedSlice S1024x128 ![0, n] q hs (ix2 (x 0) (x 1)) := by
  rw [← eq_ix2 x]; rfl

section Point

variable (c : Dev nD) (t : Fin cfg0.N)

/-- The point's queries before rotation and scale, as the body names them. -/
abbrev bq : FVec Ideal S1024x1024 .f32 := k0_pay5 (iblk m c 0 t) (iblk m c 2 t) (iblk m c 4 t)

/-- The point's keys and values, as the body names them. -/
abbrev bkv : FVec Ideal S1024x1024 .f32 :=
  k0_pay7 (k0_pay6 (View.ld (iblk m c 1 t) r0_4) (iblk m c 3 t)) (iblk m c 5 t)

/-- The queries of the launch's arguments. -/
abbrev goalQ (f : Fin 1024) (r : Fin 16384) : EReal :=
  queryAt (m ((c : Thread nD τ).loc main_arg0)) (m ((c : Thread nD τ).loc main_arg1)) (m ((c : Thread nD τ).loc main_arg3))
    (m ((c : Thread nD τ).loc main_arg5)) (m ((c : Thread nD τ).loc main_arg6)) f r

theorem pass_goal (n : ℕ) (hn : n % 256 = 0) (hs : S1024x1024.Slices ![0, n] S1024x128) (a : Fin 128)
    (i : Fin 1024) (f : Fin 1024) (hf : f.val = n + a.val) :
    truncf .bf16 (transpose S128x1024 [1, 0] (mulf (extractStridedSlice S1024x128 ![0, n] (bq m c t) hs)
      (broadcast S1024x128 (Scalar.ofBits .f32 0x3DD53B95#32))) transposes_S1024x128_p1_0_S128x1024) bitsLt_bf16_f32 (ix2 a i)
    = goalQ m c f (row t i) := by
  rw [pass_piece _ n hs a i f hf, bq, query_block, goalQ, queryAt, if_pos (by omega)]

theorem turn_goal (n : ℕ) (hn : n % 256 = 128) (hs : S1024x1024.Slices ![0, n] S1024x128) (a : Fin 128)
    (i : Fin 1024) (f : Fin 1024) (hf : f.val = n + a.val) :
    truncf .bf16 (transpose S128x1024 [1, 0] (mulf (rope (extractStridedSlice S1024x128 ![0, n] (bq m c t) hs)
      (iblk m c 6 t) (iblk m c 7 t)) (broadcast S1024x128 (Scalar.ofBits .f32 0x3DD53B95#32)))
      transposes_S1024x128_p1_0_S128x1024) bitsLt_bf16_f32 (ix2 a i)
    = goalQ m c f (row t i) := by
  have hm : mate f.val = n + mate a.val := by unfold mate; split <;> split <;> omega
  rw [turn_piece (bq m c t), rope_block, slab _ n hs a i f hf,
    slab _ n hs ⟨mate a, mate_lt 2 a.isLt⟩ i ⟨mate f, mate_lt 16 f.isLt⟩ hm, bq, query_block, query_block, goalQ, queryAt,
    if_neg (by omega), turn_mod _ _ _ a f.val _ _ (by omega)]

/-- The first result's block, as the result's entries. -/
def blockQ : FVec Ideal S1024x1024 .bf16 := fun y => goalQ m c (y 0) (row t (y 1))

theorem pass_block (n : ℕ) (hn : n % 256 = 0) (hs : S1024x1024.Slices ![0, n] S1024x128) (inb) (x : S128x1024.Idx) :
    truncf .bf16 (transpose S128x1024 [1, 0] (mulf (extractStridedSlice S1024x128 ![0, n] (bq m c t) hs)
      (broadcast S1024x128 (Scalar.ofBits .f32 0x3DD53B95#32))) transposes_S1024x128_p1_0_S128x1024) bitsLt_bf16_f32 x
    = blockQ m c t ((Rect.unit (s := S1024x1024) ![n, 0] S128x1024.size inb).emb x) := by
  have h := pass_goal m c t n hn hs (x 0) (x 1) ((Rect.unit (s := S1024x1024) ![n, 0] S128x1024.size inb).emb x 0)
    (Rect.idx_unit_val _ _ inb x 0)
  have e : (Rect.unit (s := S1024x1024) ![n, 0] S128x1024.size inb).emb x 1 = x 1 :=
    Fin.ext ((Rect.idx_unit_val _ _ inb x 1).trans (Nat.zero_add _))
  rw [blockQ, e, ← h]
  congr 1
  funext b
  match b with
  | 0 => rfl
  | 1 => rfl

theorem turn_block (n : ℕ) (hn : n % 256 = 128) (hs : S1024x1024.Slices ![0, n] S1024x128) (inb) (x : S128x1024.Idx) :
    truncf .bf16 (transpose S128x1024 [1, 0] (mulf (rope (extractStridedSlice S1024x128 ![0, n] (bq m c t) hs)
      (iblk m c 6 t) (iblk m c 7 t)) (broadcast S1024x128 (Scalar.ofBits .f32 0x3DD53B95#32)))
      transposes_S1024x128_p1_0_S128x1024) bitsLt_bf16_f32 x
    = blockQ m c t ((Rect.unit (s := S1024x1024) ![n, 0] S128x1024.size inb).emb x) := by
  have h := turn_goal m c t n hn hs (x 0) (x 1) ((Rect.unit (s := S1024x1024) ![n, 0] S128x1024.size inb).emb x 0)
    (Rect.idx_unit_val _ _ inb x 0)
  have e : (Rect.unit (s := S1024x1024) ![n, 0] S128x1024.size inb).emb x 1 = x 1 :=
    Fin.ext ((Rect.idx_unit_val _ _ inb x 1).trans (Nat.zero_add _))
  rw [blockQ, e, ← h]
  congr 1
  funext b
  match b with
  | 0 => rfl
  | 1 => rfl

theorem sines_read : k0_pay4 (F := Ideal) (iblk m c 7 t) = iblk m c 7 t := by
  funext i; pointwise [k0_pay4]

/-- The first result's block. -/
theorem pointQ (y : S1024x1024.Idx) : View.canon (Val := Elt Ideal) (e := .bf16) [
    ⟨r0_24, k0_pay1 (k0_pay26 (iblk m c 6 t) (bq m c t)) (k0_pay27 (k0_pay4 (iblk m c 7 t)) (bq m c t))⟩,
    ⟨r0_23, k0_pay24 (bq m c t)⟩,
    ⟨r0_19, k0_pay20 (iblk m c 6 t) (k0_pay4 (iblk m c 7 t)) (bq m c t)⟩,
    ⟨r0_18, k0_pay19 (bq m c t)⟩,
    ⟨r0_14, k0_pay15 (iblk m c 6 t) (k0_pay4 (iblk m c 7 t)) (bq m c t)⟩,
    ⟨r0_13, k0_pay14 (bq m c t)⟩,
    ⟨r0_9, k0_pay11 (iblk m c 6 t) (k0_pay4 (iblk m c 7 t)) (k0_pay10 (bq m c t))
      (iota .tc S1024x128 32 [1] iota_S1024x128_d1_w32) (Scalar.select (Scalar.cmpi .eq 64#32 0#32) 1#32 64#32)⟩,
    ⟨r0_8, k0_pay9 (bq m c t)⟩] y = blockQ m c t y := by
  rw [sines_read]
  refine View.canon_apply_of_pieces (Val := Elt Ideal) (blockQ m c t) _ ?_ y (cover0_8 _ _ _ _ _ _ _ _ y)
  intro pc hpc
  rcases List.mem_cons.mp hpc with rfl | hpc
  · exact fun x => turn_block m c t 896 (by decide) slices_S1024x1024_o0_896_S1024x128 inb_S1024x1024_S128x1024_896_0 x
  rcases List.mem_cons.mp hpc with rfl | hpc
  · exact fun x => pass_block m c t 768 (by decide) slices_S1024x1024_o0_768_S1024x128 inb_S1024x1024_S128x1024_768_0 x
  rcases List.mem_cons.mp hpc with rfl | hpc
  · exact fun x => turn_block m c t 640 (by decide) slices_S1024x1024_o0_640_S1024x128 inb_S1024x1024_S128x1024_640_0 x
  rcases List.mem_cons.mp hpc with rfl | hpc
  · exact fun x => pass_block m c t 512 (by decide) slices_S1024x1024_o0_512_S1024x128 inb_S1024x1024_S128x1024_512_0 x
  rcases List.mem_cons.mp hpc with rfl | hpc
  · exact fun x => turn_block m c t 384 (by decide) slices_S1024x1024_o0_384_S1024x128 inb_S1024x1024_S128x1024_384_0 x
  rcases List.mem_cons.mp hpc with rfl | hpc
  · exact fun x => pass_block m c t 256 (by decide) slices_S1024x1024_o0_256_S1024x128 inb_S1024x1024_S128x1024_256_0 x
  rcases List.mem_cons.mp hpc with rfl | hpc
  · exact fun x => turn_block m c t 128 (by decide) slices_S1024x1024_o0_128_S1024x128 inb_S1024x1024_S128x1024_128_0 x
  rcases List.mem_cons.mp hpc with rfl | hpc
  · exact fun x => pass_block m c t 0 (by decide) slices_S1024x1024_o0_0_S1024x128 inb_S1024x1024_S128x1024_0_0 x
  nomatch hpc

/-- The second result's block, as the result's entries. -/
def blockK : FVec Ideal S1024x1024 .bf16 := fun y =>
  keyAt (m ((c : Thread nD τ).loc main_arg0)) (m ((c : Thread nD τ).loc main_arg2)) (m ((c : Thread nD τ).loc main_arg4))
    (m ((c : Thread nD τ).loc main_arg5)) (m ((c : Thread nD τ).loc main_arg6)) (row t (y 0)) (y 1)

/-- The point's block of the shared rotary key, before it turns. -/
abbrev bshared : FVec Ideal S1024x128 .f32 := extf .f32 (View.ld (iblk m c 1 t) r0_7) bitsLt_bf16_f32

theorem shared_read (i : Fin 1024) (j : Fin 128) : bshared m c t (ix2 i j)
    = m ((c : Thread nD τ).loc main_arg0) (ix2 (row t i) ⟨2816 + j.val, by omega⟩) := by
  pointwise [bshared]
  blk_point [iblk, V, idx t]

/-- The keys of the launch's arguments. -/
abbrev goalK (r : Fin 16384) (f : Fin 1024) : EReal :=
  keyAt (m ((c : Thread nD τ).loc main_arg0)) (m ((c : Thread nD τ).loc main_arg2)) (m ((c : Thread nD τ).loc main_arg4))
    (m ((c : Thread nD τ).loc main_arg5)) (m ((c : Thread nD τ).loc main_arg6)) r f

theorem own_goal (n k : ℕ) (hn : n % 256 = 0) (hk : k = n / 256 * 128) (hs : S1024x1024.Slices ![0, k] S1024x128)
    (i : Fin 1024) (a : Fin 128) (f : Fin 1024) (hf : f.val = n + a.val) :
    extractStridedSlice S1024x128 ![0, k] (bkv m c t) hs (ix2 i a) = goalK m c (row t i) f := by
  rw [goalK, keyAt, if_pos (by omega), slab _ k hs a i ⟨f.val / 256 * 128 + f.val % 128, by omega⟩ (by simp only []; omega)]
  exact kv_block m c t i _

theorem shared_goal (n : ℕ) (hn : n % 256 = 128) (i : Fin 1024) (a : Fin 128) (f : Fin 1024) (hf : f.val = n + a.val) :
    rope (bshared m c t) (iblk m c 6 t) (iblk m c 7 t) (ix2 i a) = goalK m c (row t i) f := by
  have e : (⟨f.val % 128, by omega⟩ : Fin 128) = a := Fin.ext (by simp only []; omega)
  rw [goalK, keyAt, if_neg (by omega), e, rope_block, shared_read, shared_read, sharedAt]

theorem own_block (n k : ℕ) (hn : n % 256 = 0) (hk : k = n / 256 * 128) (hs : S1024x1024.Slices ![0, k] S1024x128) (inb)
    (x : S1024x128.Idx) : truncf .bf16 (extractStridedSlice S1024x128 ![0, k] (bkv m c t) hs) bitsLt_bf16_f32 x
    = blockK m c t ((Rect.unit (s := S1024x1024) ![0, n] S1024x128.size inb).emb x) := by
  have h := own_goal m c t n k hn hk hs (x 0) (x 1) ((Rect.unit (s := S1024x1024) ![0, n] S1024x128.size inb).emb x 1)
    (Rect.idx_unit_val _ _ inb x 1)
  have e : (Rect.unit (s := S1024x1024) ![0, n] S1024x128.size inb).emb x 0 = x 0 :=
    Fin.ext ((Rect.idx_unit_val _ _ inb x 0).trans (Nat.zero_add _))
  rw [blockK, e]
  refine Eq.trans ?_ h
  exact plain_piece (bkv m c t) k hs x

theorem shared_block (n : ℕ) (hn : n % 256 = 128) (inb) (x : S1024x128.Idx) :
    truncf .bf16 (rope (bshared m c t) (iblk m c 6 t) (iblk m c 7 t)) bitsLt_bf16_f32 x
    = blockK m c t ((Rect.unit (s := S1024x1024) ![0, n] S1024x128.size inb).emb x) := by
  have h := shared_goal m c t n hn (x 0) (x 1) ((Rect.unit (s := S1024x1024) ![0, n] S1024x128.size inb).emb x 1)
    (Rect.idx_unit_val _ _ inb x 1)
  have e : (Rect.unit (s := S1024x1024) ![0, n] S1024x128.size inb).emb x 0 = x 0 :=
    Fin.ext ((Rect.idx_unit_val _ _ inb x 0).trans (Nat.zero_add _))
  rw [blockK, e]
  refine Eq.trans ?_ h
  exact congrArg (rope (bshared m c t) (iblk m c 6 t) (iblk m c 7 t)) (eq_ix2 x)

/-- The turned shared key, as the body names it. -/
theorem shared_name (v0 v2 : FVec Ideal S1024x128 .f32) (x : FVec Ideal S1024x128 .bf16) :
    k0_pay8 v0 v2 x = truncf .bf16 (rope (extf .f32 x bitsLt_bf16_f32) v0 v2) bitsLt_bf16_f32 := rfl

/-- The second result's block. -/
theorem pointK (y : S1024x1024.Idx) : View.canon (Val := Elt Ideal) (e := .bf16) [
    ⟨r0_26, k0_pay8 (iblk m c 6 t) (k0_pay4 (iblk m c 7 t)) (View.ld (iblk m c 1 t) r0_7)⟩,
    ⟨r0_25, k0_pay2 (bkv m c t)⟩,
    ⟨r0_21, k0_pay8 (iblk m c 6 t) (k0_pay4 (iblk m c 7 t)) (View.ld (iblk m c 1 t) r0_7)⟩,
    ⟨r0_20, k0_pay22 (k0_pay21 (bkv m c t))⟩,
    ⟨r0_16, k0_pay8 (iblk m c 6 t) (k0_pay4 (iblk m c 7 t)) (View.ld (iblk m c 1 t) r0_7)⟩,
    ⟨r0_15, k0_pay16 (bkv m c t)⟩,
    ⟨r0_11, k0_pay8 (iblk m c 6 t) (k0_pay4 (iblk m c 7 t)) (View.ld (iblk m c 1 t) r0_7)⟩,
    ⟨r0_10, k0_pay12 (bkv m c t)⟩] y = blockK m c t y := by
  rw [sines_read, shared_name]
  refine View.canon_apply_of_pieces (Val := Elt Ideal) (blockK m c t) _ ?_ y (cover0_9 _ _ _ _ _ _ _ _ y)
  intro pc hpc
  rcases List.mem_cons.mp hpc with rfl | hpc
  · exact fun x => shared_block m c t 896 (by decide) inb_S1024x1024_S1024x128_0_896 x
  rcases List.mem_cons.mp hpc with rfl | hpc
  · exact fun x => own_block m c t 768 384 (by decide) (by decide) slices_S1024x1024_o0_384_S1024x128 inb_S1024x1024_S1024x128_0_768 x
  rcases List.mem_cons.mp hpc with rfl | hpc
  · exact fun x => shared_block m c t 640 (by decide) inb_S1024x1024_S1024x128_0_640 x
  rcases List.mem_cons.mp hpc with rfl | hpc
  · exact fun x => own_block m c t 512 256 (by decide) (by decide) slices_S1024x1024_o0_256_S1024x128 inb_S1024x1024_S1024x128_0_512 x
  rcases List.mem_cons.mp hpc with rfl | hpc
  · exact fun x => shared_block m c t 384 (by decide) inb_S1024x1024_S1024x128_0_384 x
  rcases List.mem_cons.mp hpc with rfl | hpc
  · exact fun x => own_block m c t 256 128 (by decide) (by decide) slices_S1024x1024_o0_128_S1024x128 inb_S1024x1024_S1024x128_0_256 x
  rcases List.mem_cons.mp hpc with rfl | hpc
  · exact fun x => shared_block m c t 128 (by decide) inb_S1024x1024_S1024x128_0_128 x
  rcases List.mem_cons.mp hpc with rfl | hpc
  · exact fun x => own_block m c t 0 0 (by decide) (by decide) slices_S1024x1024_o0_0_S1024x128 inb_S1024x1024_S1024x128_0_0 x
  nomatch hpc

/-- The third result's block, as the result's entries. -/
def blockV : FVec Ideal S512x1024 .bf16 := fun y =>
  valueAt (m ((c : Thread nD τ).loc main_arg0)) (m ((c : Thread nD τ).loc main_arg2)) (m ((c : Thread nD τ).loc main_arg4))
    (y 0) (row t (y 1))

theorem value_block (n k : ℕ) (hk : k = 512 + n) (hs : S1024x1024.Slices ![0, k] S1024x128) (inb)
    (x : S128x1024.Idx) : truncf .bf16 (transpose S128x1024 [1, 0] (extractStridedSlice S1024x128 ![0, k] (bkv m c t) hs)
      transposes_S1024x128_p1_0_S128x1024) bitsLt_bf16_f32 x
    = blockV m c t ((Rect.unit (s := S512x1024) ![n, 0] S128x1024.size inb).emb x) := by
  have e0 : ((Rect.unit (s := S512x1024) ![n, 0] S128x1024.size inb).emb x 0).val = n + (x 0).val :=
    Rect.idx_unit_val _ _ inb x 0
  have e1 : (Rect.unit (s := S512x1024) ![n, 0] S128x1024.size inb).emb x 1 = x 1 :=
    Fin.ext ((Rect.idx_unit_val _ _ inb x 1).trans (Nat.zero_add _))
  have hb : ((Rect.unit (s := S512x1024) ![n, 0] S128x1024.size inb).emb x 0).val < 512 := Fin.isLt _
  rw [blockV, e1]
  refine Eq.trans ?_ (kv_block m c t (x 1)
    ⟨512 + ((Rect.unit (s := S512x1024) ![n, 0] S128x1024.size inb).emb x 0).val, by omega⟩)
  refine Eq.trans ?_ (flip_piece (bkv m c t) k hs (x 0) (x 1) _ (by simp only [e0]; omega))
  congr 1
  exact eq_ix2 x

/-- The third result's block. -/
theorem pointV (y : S512x1024.Idx) : View.canon (Val := Elt Ideal) (e := .bf16) [
    ⟨r0_27, k0_pay3 (bkv m c t)⟩, ⟨r0_22, k0_pay23 (bkv m c t)⟩, ⟨r0_17, k0_pay18 (k0_pay17 (bkv m c t))⟩,
    ⟨r0_12, k0_pay13 (bkv m c t)⟩] y = blockV m c t y := by
  refine View.canon_apply_of_pieces (Val := Elt Ideal) (blockV m c t) _ ?_ y (cover0_10 _ _ _ _ y)
  intro pc hpc
  rcases List.mem_cons.mp hpc with rfl | hpc
  · exact fun x => value_block m c t 384 896 rfl slices_S1024x1024_o0_896_S1024x128 inb_S512x1024_S128x1024_384_0 x
  rcases List.mem_cons.mp hpc with rfl | hpc
  · exact fun x => value_block m c t 256 768 rfl slices_S1024x1024_o0_768_S1024x128 inb_S512x1024_S128x1024_256_0 x
  rcases List.mem_cons.mp hpc with rfl | hpc
  · exact fun x => value_block m c t 128 640 rfl slices_S1024x1024_o0_640_S1024x128 inb_S512x1024_S128x1024_128_0 x
  rcases List.mem_cons.mp hpc with rfl | hpc
  · exact fun x => value_block m c t 0 512 rfl slices_S1024x1024_o0_512_S1024x128 inb_S512x1024_S128x1024_0_0 x
  nomatch hpc

end Point

/-! ## The three results after the run -/

theorem name_q (c : Dev nD) (t : Fin cfg0.N) : k0_pay29 (F := Ideal) (iblk m c 0 t) (iblk m c 1 t) (iblk m c 2 t)
    (iblk m c 3 t) (iblk m c 4 t) (iblk m c 5 t) (iblk m c 6 t) (iblk m c 7 t) = bq m c t := by
  unfold k0_pay29; frame_out

theorem name_s (c : Dev nD) (t : Fin cfg0.N) : k0_pay28 (F := Ideal) (iblk m c 0 t) (iblk m c 1 t) (iblk m c 2 t)
    (iblk m c 3 t) (iblk m c 4 t) (iblk m c 5 t) (iblk m c 6 t) (iblk m c 7 t) = k0_pay4 (iblk m c 7 t) := by
  unfold k0_pay28; frame_out

theorem name_kv (c : Dev nD) (t : Fin cfg0.N) : k0_pay30 (F := Ideal) (iblk m c 0 t) (iblk m c 1 t) (iblk m c 2 t)
    (iblk m c 3 t) (iblk m c 4 t) (iblk m c 5 t) (iblk m c 6 t) (iblk m c 7 t) = bkv m c t := by
  unfold k0_pay30; frame_out; rfl

theorem name_kr (c : Dev nD) (t : Fin cfg0.N) : k0_pay31 (F := Ideal) (iblk m c 0 t) (iblk m c 1 t) (iblk m c 2 t)
    (iblk m c 3 t) (iblk m c 4 t) (iblk m c 5 t) (iblk m c 6 t) (iblk m c 7 t)
    = k0_pay8 (iblk m c 6 t) (k0_pay4 (iblk m c 7 t)) (View.ld (iblk m c 1 t) r0_7) := by
  unfold k0_pay31; rw [name_s]; frame_out; rfl

theorem lift_q (c : Dev nD) (t : Fin cfg0.N) (y) : blockQ m c t y
    = specQ (m ((c : Thread nD τ).loc main_arg0)) (m ((c : Thread nD τ).loc main_arg1))
      (m ((c : Thread nD τ).loc main_arg3)) (m ((c : Thread nD τ).loc main_arg5)) (m ((c : Thread nD τ).loc main_arg6))
      (((cfg0.win 8).blk t).view.emb y) := by
  have e0 : ((cfg0.win 8).blk t).view.emb y 0 = y 0 := Fin.ext (by blk_point [idx t])
  have e1 : ((cfg0.win 8).blk t).view.emb y 1 = row t (y 1) := Fin.ext (by blk_point [idx t])
  rw [specQ, e0, e1, blockQ]

theorem lift_k (c : Dev nD) (t : Fin cfg0.N) (y) : blockK m c t y
    = specK (m ((c : Thread nD τ).loc main_arg0)) (m ((c : Thread nD τ).loc main_arg2))
      (m ((c : Thread nD τ).loc main_arg4)) (m ((c : Thread nD τ).loc main_arg5)) (m ((c : Thread nD τ).loc main_arg6))
      (((cfg0.win 9).blk t).view.emb y) := by
  have e0 : ((cfg0.win 9).blk t).view.emb y 0 = row t (y 0) := Fin.ext (by blk_point [idx t])
  have e1 : ((cfg0.win 9).blk t).view.emb y 1 = y 1 := Fin.ext (by blk_point [idx t])
  rw [specK, e0, e1, blockK]

theorem lift_v (c : Dev nD) (t : Fin cfg0.N) (y) : blockV m c t y
    = specV (m ((c : Thread nD τ).loc main_arg0)) (m ((c : Thread nD τ).loc main_arg2))
      (m ((c : Thread nD τ).loc main_arg4)) (((cfg0.win 10).blk t).view.emb y) := by
  have e0 : ((cfg0.win 10).blk t).view.emb y 0 = y 0 := Fin.ext (by blk_point [idx t])
  have e1 : ((cfg0.win 10).blk t).view.emb y 1 = row t (y 1) := Fin.ext (by blk_point [idx t])
  rw [specV, e0, e1, blockV]

/-- The first result after the run. -/
theorem finalQ (c : Dev nD) : (dats m 0 c).arrAt 8 (cfgs 0).N
    = specQ (m ((c : Thread nD τ).loc main_arg0)) (m ((c : Thread nD τ).loc main_arg1))
      (m ((c : Thread nD τ).loc main_arg3)) (m ((c : Thread nD τ).loc main_arg5)) (m ((c : Thread nD τ).loc main_arg6)) := by
  refine (dats m 0 c).arrAt_eq_of_covers 8 _ (by decide +kernel) fun t hf y => ?_
  blk_simp; rw [after0_8]; frame_out
  rw [name_q, name_s]
  exact (pointQ m c t y).trans (lift_q m c t y)

/-- The second result after the run. -/
theorem finalK (c : Dev nD) : (dats m 0 c).arrAt 9 (cfgs 0).N
    = specK (m ((c : Thread nD τ).loc main_arg0)) (m ((c : Thread nD τ).loc main_arg2))
      (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp; rw [after0_9]; frame_out
  rw [name_kr, name_kv]
  exact (pointK m c t y).trans (lift_k m c t y)

/-- The third result after the run. -/
theorem finalV (c : Dev nD) : (dats m 0 c).arrAt 10 (cfgs 0).N
    = specV (m ((c : Thread nD τ).loc main_arg0)) (m ((c : Thread nD τ).loc main_arg2))
      (m ((c : Thread nD τ).loc main_arg4)) := by
  refine (dats m 0 c).arrAt_eq_of_covers 10 _ (by decide +kernel) fun t hf y => ?_
  blk_simp; rw [after0_10]; frame_out
  rw [name_kv]
  exact (pointV m c t y).trans (lift_v m c t y)

end Cert.Kernel7Ideal.MlaPrep
end
-- ==== Proof.MlaPrepRef.lean ====
module

public import proofs.«01_k».proof.Proof.MlaPrep
public import proofs.«01_k».proof.Proof.Gen.Reference7Ideal.Read

/-! # The reference of the latent attention's preparation

The plain expressions for the queries, keys and values compute the arrays of `MlaPrep.lean`. -/

@[expose] public section

set_option maxRecDepth 16384

noncomputable section

open Idealize.ShloMosaic Idealize.ShloMosaic.TcCoe Idealize.SL.Sem
open scoped BigOperators

namespace Cert.Kernel7Ideal.MlaPrep

open Cert.Kernel7Ideal Cert.Kernel7Ideal.Gen Cert.Reference7Ideal.Read

variable (px : FVec Ideal S16384x4096 .bf16) (gq : FVec Ideal S1x512 .f32) (gkv : FVec Ideal S1x256 .f32)
  (wq : FVec Ideal S512x1024 .bf16) (wkv : FVec Ideal S256x1024 .bf16) (cos sin : FVec Ideal S4096x32 .f32)

/-- Position `l` of batch element `b`, as a row. -/
abbrev place (b : Fin 4) (l : Fin 4096) : Fin 16384 := ⟨b.val * 4096 + l.val, by omega⟩

/-- A feature in the first half of its group turns so. -/
theorem turn_lo (r : Fin 16384) (l : Fin 4096) (f : ℕ) (k : Fin 32) (a b : EReal) (hr : l.val = r.val % 4096)
    (hk : k.val = f % 32) (h : f % 64 < 32) : turn cos sin r f a b = a * cos (ix2 l k) - b * sin (ix2 l k) := by
  rw [show l = ⟨r.val % 4096, by omega⟩ from Fin.ext hr, show k = ⟨f % 32, by omega⟩ from Fin.ext hk]
  exact if_pos h

/-- A feature in the second half turns so. -/
theorem turn_hi (r : Fin 16384) (l : Fin 4096) (f : ℕ) (k : Fin 32) (a b : EReal) (hr : l.val = r.val % 4096)
    (hk : k.val = f % 32) (h : ¬ f % 64 < 32) : turn cos sin r f a b = b * sin (ix2 l k) + a * cos (ix2 l k) := by
  rw [show l = ⟨r.val % 4096, by omega⟩ from Fin.ext hr, show k = ⟨f % 32, by omega⟩ from Fin.ext hk]
  exact if_neg h

/-- The reference's queries before rotation and scale. -/
theorem ref_q (b : Fin 4) (l : Fin 4096) (f : Fin 1024) :
    val_main_v19 (F := Ideal) px gq wq (ix3 b l f) = qp px gq wq (place b l) f := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, qp, qn]

/-- The reference's keys and values. -/
theorem ref_kv (b : Fin 4) (l : Fin 4096) (f : Fin 1024) :
    val_main_v37 (F := Ideal) px gkv wkv (ix3 b l f) = kvp px gkv wkv (place b l) f := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v2, val_main_v1, val_main_v0, val_main_cst_2, val_main_cst_3, val_main_cst_4, kvp, kn]
  simp only [← Nat.add_assoc, Nat.reduceAdd]

/-- The reference's rotation of the queries. -/
theorem ref_turn_q (b : Fin 4) (l : Fin 4096) (h : Fin 4) (d : Fin 128) :
    val_main_v60 (F := Ideal) px gq wq cos sin (ix4 b l h d)
    = turn cos sin (place b l) d (qp px gq wq (place b l) ⟨h.val * 256 + (128 + d.val), by omega⟩)
      (qp px gq wq (place b l) ⟨h.val * 256 + (128 + mate d), by have := mate_lt 2 (f := d.val) d.isLt; omega⟩) := by
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v20]
  have hl : l.val = (place b l).val % 4096 := by show l.val = (b.val * 4096 + l.val) % 4096; omega
  have e (f g : Fin 1024) (h : f = g) : val_main_v19 (F := Ideal) px gq wq (ix3 b l f) = qp px gq wq (place b l) g := by
    rw [h]; exact ref_q ..
  by_cases hd : d.val % 64 < 32
  · refine (dif_pos hd).trans ?_
    have hm : mate d.val = d.val / 64 * 64 + (32 + d.val % 64) := by rw [mate, if_pos hd]; omega
    refine Eq.trans ?_ (turn_lo cos sin (place b l) l d ⟨d.val % 64, by omega⟩ _ _ hl (by simp only []; omega) hd).symm
    exact congrArg₂ (fun u v : EReal => u * cos (ix2 l ⟨d.val % 64, by omega⟩) - v * sin (ix2 l ⟨d.val % 64, by omega⟩))
      (e _ _ (Fin.ext (by simp only [])))
      (e _ _ (Fin.ext (by simp only [hm])))
  · refine (dif_neg hd).trans ?_
    have hm : mate d.val = d.val / 64 * 64 + (d.val % 64 - 32) := by rw [mate, if_neg hd]; omega
    refine Eq.trans ?_ (turn_hi cos sin (place b l) l d ⟨d.val % 64 - 32, by omega⟩ _ _ hl (by simp only []; omega) hd).symm
    exact congrArg₂ (fun u v : EReal => u * sin (ix2 l ⟨d.val % 64 - 32, by omega⟩) + v * cos (ix2 l ⟨d.val % 64 - 32, by omega⟩))
      (e _ _ (Fin.ext (by simp only [hm])))
      (e _ _ (Fin.ext (by simp only []; omega)))

/-- The reference's rotation of the shared key. -/
theorem ref_turn_k (b : Fin 4) (l : Fin 4096) (d : Fin 128) :
    val_main_v80 (F := Ideal) px cos sin (ix4 b l 0 d) = sharedAt px cos sin (place b l) d := by
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v40, val_main_v39, val_main_v2, val_main_v1, val_main_v0]
  have hl : l.val = (place b l).val % 4096 := by show l.val = (b.val * 4096 + l.val) % 4096; omega
  have e (f g : Fin 4096) (h : f = g) : (px (ix2 (place b l) f) : EReal) = px (ix2 (place b l) g) := by rw [h]
  by_cases hd : d.val % 64 < 32
  · refine (dif_pos hd).trans ?_
    have hm : mate d.val = d.val / 64 * 64 + (32 + d.val % 64) := by rw [mate, if_pos hd]; omega
    refine Eq.trans ?_ (turn_lo cos sin (place b l) l d ⟨d.val % 64, by omega⟩ _ _ hl (by simp only []; omega) hd).symm
    exact congrArg₂ (fun u v : EReal => u * cos (ix2 l ⟨d.val % 64, by omega⟩) - v * sin (ix2 l ⟨d.val % 64, by omega⟩))
      (e _ _ (Fin.ext (by simp only []; omega)))
      (e _ _ (Fin.ext (by simp only [hm]; omega)))
  · refine (dif_neg hd).trans ?_
    have hm : mate d.val = d.val / 64 * 64 + (d.val % 64 - 32) := by rw [mate, if_neg hd]; omega
    refine Eq.trans ?_ (turn_hi cos sin (place b l) l d ⟨d.val % 64 - 32, by omega⟩ _ _ hl (by simp only []; omega) hd).symm
    exact congrArg₂ (fun u v : EReal => u * sin (ix2 l ⟨d.val % 64 - 32, by omega⟩) + v * cos (ix2 l ⟨d.val % 64 - 32, by omega⟩))
      (e _ _ (Fin.ext (by simp only [hm]; omega)))
      (e _ _ (Fin.ext (by simp only []; omega)))

theorem turn_eq (x : Fin 16384 → Fin 1024 → EReal) (r r' : Fin 16384) (f g : ℕ) (u v u' v' : Fin 1024) (hr : r = r')
    (hf : f % 64 = g % 64) (hu : u = u') (hv : v = v') :
    turn cos sin r f (x r u) (x r v) = turn cos sin r' g (x r' u') (x r' v') := by
  subst hr hu hv
  exact turn_mod _ _ _ _ _ _ _ hf

/-- The first result. -/
theorem ref_eqQ : val_main_v93 (F := Ideal) px gq wq cos sin = specQ px gq wq cos sin := by
  funext i
  have hp : place ⟨(i 1).val / 4096, by idx_bounds; omega⟩ ⟨(i 1).val % 4096, by omega⟩ = i 1 :=
    Fin.ext (Nat.div_add_mod' _ _)
  have hb : (i 0).val < 1024 := (i 0).isLt
  pointwise [val_main_v93, val_main_v92, val_main_v91, val_main_v84, val_main_v83, val_main_v82, val_main_v81, val_main_v20, val_main_cst_5, specQ, queryAt]
  refine congrArg (· * _) ?_
  by_cases hd : (i 0).val % 256 < 128
  · refine (dif_pos hd).trans (Eq.trans ?_ (if_pos hd).symm)
    exact (ref_q ..).trans (congrArg (fun r => qp px gq wq r (i 0)) hp)
  · refine (dif_neg hd).trans (Eq.trans ?_ (if_neg hd).symm)
    refine (ref_turn_q ..).trans (turn_eq cos sin (qp px gq wq) _ _ _ _ _ _ _ _ hp ?_ ?_ ?_)
    · show ((i 0).val % 256 - 128) % 64 = (i 0).val % 64
      omega
    · refine Fin.ext ?_
      show (i 0).val / 256 * 256 + (128 + ((i 0).val % 256 - 128)) = (i 0).val
      omega
    · refine Fin.ext ?_
      show (i 0).val / 256 * 256 + (128 + mate ((i 0).val % 256 - 128)) = mate (i 0).val
      unfold mate
      split <;> split <;> omega

/-- The second result. -/
theorem ref_eqK : val_main_v95 (F := Ideal) px gkv wkv cos sin = specK px gkv wkv cos sin := by
  funext i
  have hp : place ⟨(i 0).val / 4096, by idx_bounds; omega⟩ ⟨(i 0).val % 4096, by omega⟩ = i 0 :=
    Fin.ext (Nat.div_add_mod' _ _)
  have hb : (i 1).val < 1024 := (i 1).isLt
  pointwise [val_main_v95, val_main_v94, val_main_v88, val_main_v87, val_main_v86, val_main_v85, val_main_v38, specK, keyAt]
  by_cases hd : (i 1).val % 256 < 128
  · refine (dif_pos hd).trans (Eq.trans ?_ (if_pos hd).symm)
    refine (ref_kv ..).trans (congr (congrArg (kvp px gkv wkv) hp) (Fin.ext ?_))
    show (i 1).val / 256 * 128 + (i 1).val % 256 = (i 1).val / 256 * 128 + (i 1).val % 128
    omega
  · refine (dif_neg hd).trans (Eq.trans ?_ (if_neg hd).symm)
    refine (ref_turn_k ..).trans (congr (congrArg (sharedAt px cos sin) hp) (Fin.ext ?_))
    show (i 1).val % 256 - 128 = (i 1).val % 128
    omega

/-- The third result. -/
theorem ref_eqV : val_main_v98 (F := Ideal) px gkv wkv = specV px gkv wkv := by
  funext i
  have hp : place ⟨(i 1).val / 4096, by idx_bounds; omega⟩ ⟨(i 1).val % 4096, by omega⟩ = i 1 :=
    Fin.ext (Nat.div_add_mod' _ _)
  pointwise [val_main_v98, val_main_v97, val_main_v96, val_main_v90, val_main_v89, val_main_v38, specV, valueAt]
  refine (ref_kv ..).trans (congr (congrArg (kvp px gkv wkv) hp) (Fin.ext ?_))
  show 512 + (i 0).val / 128 * 128 + (i 0).val % 128 = 512 + (i 0).val
  omega

end Cert.Kernel7Ideal.MlaPrep
end
-- ==== Proof.DaPrep.lean ====
module

public import proofs.«01_k».proof.Proof.Gen.Kernel8Ideal.Frame
public import Idealize.ShloMosaic.Lib.Pipeline.ValueKit
public import Idealize.ShloMosaic.Lib.Pipeline.Value
public import Idealize.ShloMosaic.Lib.StableHlo.Run
public import Idealize.ShloMosaic.Lib.KernelVsHost

/-! # The differential attention's preparation

One point takes 1024 rows of the projected array. It turns the queries and the keys, scales the queries, and lays queries,
keys and values out for the attention. -/

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.DaPrep

open Cert.Kernel8Ideal Cert.Kernel8Ideal.Gen

/-! ## What the call computes -/

section Spec

variable (px : FVec Ideal S16384x4096 .bf16) (cos sin : FVec Ideal S4096x32 .f32)

/-- The feature a rotary feature turns with: the other half of its group of 64. -/
def mate (f : ℕ) : ℕ := if f % 64 < 32 then f + 32 else f - 32

theorem mate_lt {f : ℕ} (n : ℕ) (h : f < n * 64) : mate f < n * 64 := by
  unfold mate; split <;> omega

/-- Rotary feature `f`, with value `a`, mate's value `b`, at row `r`. -/
def turn (r : Fin 16384) (f : ℕ) (a b : EReal) : EReal :=
  if f % 64 < 32 then
    a * cos (ix2 ⟨r.val % 4096, by omega⟩ ⟨f % 32, by omega⟩) - b * sin (ix2 ⟨r.val % 4096, by omega⟩ ⟨f % 32, by omega⟩)
  else
    b * sin (ix2 ⟨r.val % 4096, by omega⟩ ⟨f % 32, by omega⟩) + a * cos (ix2 ⟨r.val % 4096, by omega⟩ ⟨f % 32, by omega⟩)

/-- The queries (section 0 of the projected row), turned and scaled. -/
def queryAt (f : Fin 512) (r : Fin 16384) : EReal :=
  turn cos sin r f (px (ix2 r ⟨f.val, by omega⟩)) (px (ix2 r ⟨mate f, by have := mate_lt 8 (f := f.val) f.isLt; omega⟩))
    * Ideal.ofBits .f32 0x3E38AA3B#32

/-- The keys (section 1), turned. -/
def keyAt (r : Fin 16384) (f : Fin 512) : EReal :=
  turn cos sin r f (px (ix2 r ⟨512 + f.val, by omega⟩))
    (px (ix2 r ⟨512 + mate f, by have := mate_lt 8 (f := f.val) f.isLt; omega⟩))

/-- The values (section 2). -/
def valueAt (f : Fin 512) (r : Fin 16384) : EReal := px (ix2 r ⟨1024 + f.val, by omega⟩)

/-- The first result: the queries, feature by row. -/
def specQ : FVec Ideal S512x16384 .bf16 := fun i => queryAt px cos sin (i 0) (i 1)

/-- The second result: the keys, row by feature. -/
def specK : FVec Ideal S16384x512 .bf16 := fun i => keyAt px cos sin (i 0) (i 1)

/-- The third result: the values, feature by row. -/
def specV : FVec Ideal S512x16384 .bf16 := fun i => valueAt px (i 0) (i 1)

end Spec

/-! ## The rotation of 128 lanes -/

/-- Whether a lane is in the first half of its group of 64, as the body computes it. -/
def lane : IVec S1024x128 1 :=
  have v76 : BitVec 32 := Scalar.select (Scalar.cmpi .eq 64#32 0#32) 1#32 64#32
  have v78 : IVec S1024x128 32 := remsi (iota .tc S1024x128 32 [1] iota_S1024x128_d1_w32) (broadcast S1024x128 v76)
  cmpi .slt (select (andi (xori (cmpi .slt v78 (broadcast S1024x128 0#32))
    (broadcastTo S1024x128 (broadcast S1024x128 (Scalar.cmpi .slt v76 0#32)) broadcasts_S1024x128_S1024x128))
    (cmpi .ne v78 (broadcast S1024x128 0#32))) (addi v78 (broadcast S1024x128 v76)) v78) (broadcast S1024x128 32#32)

theorem lane0 : ∀ j : Fin 128, lane (ix2 0 j) = if j.val % 64 < 32 then 1#1 else 0#1 := by decide +kernel

theorem lane_at (i : Fin 1024) (j : Fin 128) : lane (ix2 i j) = if j.val % 64 < 32 then 1#1 else 0#1 := by
  rw [← lane0]; rfl

/-- The rotation of a slab of 128 lanes with the tables `c` and `s`. -/
def rope (x c s : FVec Ideal S1024x128 .f32) : FVec Ideal S1024x128 .f32 :=
  addf (mulf x c) (mulf (select lane (dynamicRotate 1 96#32 none x rotates_S1024x128_d1)
    (dynamicRotate 1 32#32 none x rotates_S1024x128_d1)) s)

theorem rope_at (x c s : FVec Ideal S1024x128 .f32) (i : Fin 1024) (j : Fin 128) : rope x c s (ix2 i j)
    = x (ix2 i j) * c (ix2 i j) + x (ix2 i ⟨mate j, mate_lt 2 j.isLt⟩) * s (ix2 i j) := by
  have e : select lane (dynamicRotate 1 96#32 none x rotates_S1024x128_d1)
      (dynamicRotate 1 32#32 none x rotates_S1024x128_d1) (ix2 i j) = x (ix2 i ⟨mate j, mate_lt 2 j.isLt⟩) := by
    show (if lane (ix2 i j) = 1#1 then _ else _) = _
    rw [lane_at]
    by_cases h : j.val % 64 < 32
    · rw [if_pos h, if_pos rfl]
      refine dynamicRotate_apply 1 96#32 x _ _ _ fun b => ?_
      match b with
      | 0 => rfl
      | 1 =>
        show mate j = (j.val + 128 - 96 % 128) % 128
        rw [mate, if_pos h]; omega
    · rw [if_neg h, if_neg (by decide)]
      refine dynamicRotate_apply 1 32#32 x _ _ _ fun b => ?_
      match b with
      | 0 => rfl
      | 1 =>
        show mate j = (j.val + 128 - 32 % 128) % 128
        rw [mate, if_neg h]; omega
  exact congrArg (fun z : EReal => x (ix2 i j) * c (ix2 i j) + z * s (ix2 i j)) e

/-! ## The tables the host code prepares -/

/-- The cosines, repeated four times. -/
def tcos (x : FVec Ideal S4096x32 .f32) : FVec Ideal S4096x128 .f32 :=
  shapeCast S4096x128 (broadcastInDim S1x4096x4x32 ![0, 1, 2, 3] bcast_S1x4096x1x32_S1x4096x4x32_0_1_2_3
    (shapeCast S1x4096x1x32 x shapeCasts_S4096x32_S1x4096x1x32)) shapeCasts_S1x4096x4x32_S4096x128

/-- The sines, negated in the first half of each group of 64. -/
def tsin (x : FVec Ideal S4096x32 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, Host.negf x⟩, ⟨S4096x32, x⟩]
      concatenates_S4096x32_S4096x32_S4096x64_d1) shapeCasts_S4096x64_S1x4096x1x64)) shapeCasts_S1x4096x2x64_S4096x128

theorem tcos_at (x : FVec Ideal S4096x32 .f32) (l : Fin 4096) (j : Fin 128) :
    tcos x (ix2 l j) = x (ix2 l ⟨j.val % 32, by omega⟩) := by
  pointwise [tcos]

theorem tsin_at (x : FVec Ideal S4096x32 .f32) (l : Fin 4096) (j : Fin 128) :
    tsin x (ix2 l j) = if j.val % 64 < 32 then - x (ix2 l ⟨j.val % 32, by omega⟩) else x (ix2 l ⟨j.val % 32, by omega⟩) := by
  pointwise [tsin]
  by_cases h : j.val % 64 < 32
  · rw [dif_pos h, if_pos h]
    congr 3
    exact Fin.ext (by simp only []; omega)
  · rw [dif_neg h, if_neg h]
    congr 2
    exact Fin.ext (by simp only []; omega)

variable (m : (ℓ : Loc nD τ sig) → Buf (Elt Ideal) ℓ)

theorem V_cos (c : Dev nD) : V m c main_v2 = tcos (m ((c : Thread nD τ).loc main_arg1)) := by
  show StableHlo.after hostOps0 _ (Proc.devRef .tc main_v2) = _
  after_results
  rfl

theorem V_sin (c : Dev nD) : V m c main_v7 = tsin (m ((c : Thread nD τ).loc main_arg2)) := by
  show StableHlo.after hostOps0 _ (Proc.devRef .tc main_v7) = _
  after_results
  rfl

/-! ## One point's values -/

/-- The block of each window at each of the 16 points. -/
theorem idx : ∀ t : Fin cfg0.N, win0_0.index t = ![t.val, 0] ∧ win0_1.index t = ![t.val, 1] ∧ win0_2.index t = ![t.val, 2]
    ∧ win0_3.index t = ![t.val % 4, 0] ∧ win0_4.index t = ![t.val % 4, 0]
    ∧ win0_5.index t = ![0, t.val] ∧ win0_6.index t = ![t.val, 0] ∧ win0_7.index t = ![0, t.val] :=
  (by decide +kernel : ∀ t : Fin grid0.N, _)

/-- Row `i` of point `t`. -/
abbrev row (t : Fin cfg0.N) (i : Fin 1024) : Fin 16384 := ⟨t.val * 1024 + i.val, by have : t.val < 16 := t.isLt; omega⟩

theorem cos_block (c : Dev nD) (t : Fin cfg0.N) (i : Fin 1024) (j : Fin 128) : iblk m c 3 t (ix2 i j)
    = m ((c : Thread nD τ).loc main_arg1) (ix2 ⟨(row t i).val % 4096, by omega⟩ ⟨j.val % 32, by omega⟩) := by
  have e : iblk m c 3 t (ix2 i j) = V m c main_v2 (ix2 ⟨(row t i).val % 4096, by omega⟩ j) := by
    blk_point [iblk, idx t]
  rw [e, V_cos, tcos_at]

theorem sin_block (c : Dev nD) (t : Fin cfg0.N) (i : Fin 1024) (j : Fin 128) : iblk m c 4 t (ix2 i j)
    = if j.val % 64 < 32 then
        @Neg.neg EReal _ (m ((c : Thread nD τ).loc main_arg2) (ix2 ⟨(row t i).val % 4096, by omega⟩ ⟨j.val % 32, by omega⟩))
      else m ((c : Thread nD τ).loc main_arg2) (ix2 ⟨(row t i).val % 4096, by omega⟩ ⟨j.val % 32, by omega⟩) := by
  have e : iblk m c 4 t (ix2 i j) = V m c main_v7 (ix2 ⟨(row t i).val % 4096, by omega⟩ j) := by
    blk_point [iblk, idx t]
  rw [e, V_sin, tsin_at]

/-- The body's rotation is `turn`. -/
theorem rope_block (c : Dev nD) (t : Fin cfg0.N) (x : FVec Ideal S1024x128 .f32) (i : Fin 1024) (j : Fin 128) :
    rope x (iblk m c 3 t) (iblk m c 4 t) (ix2 i j)
    = turn (m ((c : Thread nD τ).loc main_arg1)) (m ((c : Thread nD τ).loc main_arg2)) (row t i) j (x (ix2 i j))
      (x (ix2 i ⟨mate j, mate_lt 2 j.isLt⟩)) := by
  rw [rope_at, cos_block, sin_block, turn]
  by_cases h : j.val % 64 < 32
  · rw [if_pos h, if_pos h, mul_neg, sub_eq_add_neg]
  · rw [if_neg h, if_neg h, add_comm]

/-- Turning depends on the feature only within its group of 64. -/
theorem turn_mod (cos sin : FVec Ideal S4096x32 .f32) (r : Fin 16384) (f g : ℕ) (a b : EReal) (h : f % 64 = g % 64) :
    turn cos sin r f a b = turn cos sin r g a b := by
  have e : (⟨f % 32, by omega⟩ : Fin 32) = ⟨g % 32, by omega⟩ := Fin.ext (by simp only []; omega)
  rw [turn, turn, h, e]

/-! ## What a point stores -/

section Point

variable (c : Dev nD) (t : Fin cfg0.N)

/-- The launch's projected array. -/
abbrev proj : FVec Ideal S16384x4096 .bf16 := m ((c : Thread nD τ).loc main_arg0)

/-- The launch's cosines. -/
abbrev cosines : FVec Ideal S4096x32 .f32 := m ((c : Thread nD τ).loc main_arg1)

/-- The launch's sines. -/
abbrev sines : FVec Ideal S4096x32 .f32 := m ((c : Thread nD τ).loc main_arg2)

/-- The first result's block, as the result's entries. -/
def blockQ : FVec Ideal S512x1024 .bf16 := fun y => queryAt (proj m c) (cosines m c) (sines m c) (y 0) (row t (y 1))

/-- The second result's block, as the result's entries. -/
def blockK : FVec Ideal S1024x512 .bf16 := fun y => keyAt (proj m c) (cosines m c) (sines m c) (row t (y 0)) (y 1)

/-- The third result's block, as the result's entries. -/
def blockV : FVec Ideal S512x1024 .bf16 := fun y => valueAt (proj m c) (y 0) (row t (y 1))

theorem sines_read : k0_pay3 (F := Ideal) (iblk m c 4 t) = iblk m c 4 t := by
  funext i; pointwise [k0_pay3]

theorem read_q (n : ℕ) (hn : n + 128 ≤ 512) (inb) (i : Fin 1024) (a : Fin 128) :
    View.ld (iblk m c 0 t) (Rect.unit (s := S1024x512) ![0, n] S1024x128.size inb) (ix2 i a)
    = proj m c (ix2 (row t i) ⟨n + a.val, by omega⟩) := by
  blk_point [iblk, V, idx t]

theorem read_k (n : ℕ) (hn : n + 128 ≤ 512) (inb) (i : Fin 1024) (a : Fin 128) :
    View.ld (iblk m c 1 t) (Rect.unit (s := S1024x512) ![0, n] S1024x128.size inb) (ix2 i a)
    = proj m c (ix2 (row t i) ⟨512 + (n + a.val), by omega⟩) := by
  blk_point [iblk, V, idx t]

theorem read_v (n : ℕ) (hn : n + 128 ≤ 512) (inb) (i : Fin 1024) (a : Fin 128) :
    View.ld (iblk m c 2 t) (Rect.unit (s := S1024x512) ![0, n] S1024x128.size inb) (ix2 i a)
    = proj m c (ix2 (row t i) ⟨1024 + (n + a.val), by omega⟩) := by
  blk_point [iblk, V, idx t]

/-- A stretch of the queries: turned, scaled and transposed. -/
theorem turn_piece (x c s : FVec Ideal S1024x128 .f32) (a : Fin 128) (i : Fin 1024) :
    truncf .bf16 (transpose S128x1024 [1, 0] (mulf (rope x c s)
      (broadcast S1024x128 (Scalar.ofBits .f32 0x3E38AA3B#32))) transposes_S1024x128_p1_0_S128x1024) bitsLt_bf16_f32 (ix2 a i)
    = rope x c s (ix2 i a) * Ideal.ofBits .f32 0x3E38AA3B#32 := by
  pointwise []

/-- A stretch of the values, transposed. -/
theorem flip_piece (x : FVec Ideal S1024x128 .bf16) (a : Fin 128) (i : Fin 1024) :
    truncf .bf16 (transpose S128x1024 [1, 0] (extf .f32 x bitsLt_bf16_f32)
      transposes_S1024x128_p1_0_S128x1024) bitsLt_bf16_f32 (ix2 a i) = x (ix2 i a) := by
  pointwise []

theorem ext_at (x : FVec Ideal S1024x128 .bf16) (i : Fin 1024) (a : Fin 128) :
    (extf .f32 x bitsLt_bf16_f32 : FVec Ideal S1024x128 .f32) (ix2 i a) = x (ix2 i a) := by
  pointwise []

/-- The body's rotation of a stretch that starts at feature `n`. -/
theorem rope_goal (o n : ℕ) (hn : n % 64 = 0) (hl : n + 128 ≤ 512) (ho : o + 512 ≤ 4096) (x : FVec Ideal S1024x128 .bf16)
    (hx : ∀ (i : Fin 1024) (a : Fin 128), x (ix2 i a) = proj m c (ix2 (row t i) ⟨o + (n + a.val), by omega⟩))
    (i : Fin 1024) (a : Fin 128) (f : Fin 512) (hf : f.val = n + a.val) :
    rope (extf .f32 x bitsLt_bf16_f32) (iblk m c 3 t) (iblk m c 4 t) (ix2 i a)
    = turn (cosines m c) (sines m c) (row t i) f (proj m c (ix2 (row t i) ⟨o + f.val, by omega⟩))
      (proj m c (ix2 (row t i) ⟨o + mate f, by have := mate_lt 8 (f := f.val) f.isLt; omega⟩)) := by
  have hm : mate f.val = n + mate a.val := by unfold mate; split <;> split <;> omega
  rw [rope_block, ext_at, ext_at, hx, hx, turn_mod _ _ _ a f.val _ _ (by omega)]
  have e1 : (⟨o + (n + a.val), by omega⟩ : Fin 4096) = ⟨o + f.val, by omega⟩ := Fin.ext (by simp only [hf])
  have e2 : (⟨o + (n + mate a.val), by have := mate_lt 2 (f := a.val) a.isLt; omega⟩ : Fin 4096)
      = ⟨o + mate f, by have := mate_lt 8 (f := f.val) f.isLt; omega⟩ := Fin.ext (by simp only [hm])
  exact congrArg₂ (turn (cosines m c) (sines m c) (row t i) f) (congrArg (fun z => proj m c (ix2 (row t i) z)) e1)
    (congrArg (fun z => proj m c (ix2 (row t i) z)) e2)

theorem query_block (n : ℕ) (hn : n % 64 = 0) (hl : n + 128 ≤ 512) (inb inb') (x : S128x1024.Idx) :
    truncf .bf16 (transpose S128x1024 [1, 0] (mulf (rope
      (extf .f32 (View.ld (iblk m c 0 t) (Rect.unit (s := S1024x512) ![0, n] S1024x128.size inb')) bitsLt_bf16_f32)
      (iblk m c 3 t) (iblk m c 4 t)) (broadcast S1024x128 (Scalar.ofBits .f32 0x3E38AA3B#32)))
      transposes_S1024x128_p1_0_S128x1024) bitsLt_bf16_f32 x
    = blockQ m c t ((Rect.unit (s := S512x1024) ![n, 0] S128x1024.size inb).emb x) := by
  have e0 : ((Rect.unit (s := S512x1024) ![n, 0] S128x1024.size inb).emb x 0).val = n + (x 0).val :=
    Rect.idx_unit_val _ _ inb x 0
  have e1 : (Rect.unit (s := S512x1024) ![n, 0] S128x1024.size inb).emb x 1 = x 1 :=
    Fin.ext ((Rect.idx_unit_val _ _ inb x 1).trans (Nat.zero_add _))
  have h := rope_goal m c t 0 n hn hl (by decide) _
    (fun i a => (read_q m c t n hl inb' i a).trans (congrArg (fun z => proj m c (ix2 (row t i) z)) (Fin.ext (Nat.zero_add _).symm)))
    (x 1) (x 0) _ e0
  rw [blockQ, e1]
  refine Eq.trans ?_ ((turn_piece _ _ _ (x 0) (x 1)).trans (congrArg (· * Ideal.ofBits .f32 0x3E38AA3B#32) (h.trans ?_)))
  · congr 1
    exact eq_ix2 x
  · exact congrArg₂ (turn (cosines m c) (sines m c) (row t (x 1)) _)
      (congrArg (fun z => proj m c (ix2 (row t (x 1)) z)) (Fin.ext (Nat.zero_add _)))
      (congrArg (fun z => proj m c (ix2 (row t (x 1)) z)) (Fin.ext (Nat.zero_add _)))

theorem key_block (n : ℕ) (hn : n % 64 = 0) (hl : n + 128 ≤ 512) (inb inb') (x : S1024x128.Idx) :
    truncf .bf16 (rope
      (extf .f32 (View.ld (iblk m c 1 t) (Rect.unit (s := S1024x512) ![0, n] S1024x128.size inb')) bitsLt_bf16_f32)
      (iblk m c 3 t) (iblk m c 4 t)) bitsLt_bf16_f32 x
    = blockK m c t ((Rect.unit (s := S1024x512) ![0, n] S1024x128.size inb).emb x) := by
  have e1 : ((Rect.unit (s := S1024x512) ![0, n] S1024x128.size inb).emb x 1).val = n + (x 1).val :=
    Rect.idx_unit_val _ _ inb x 1
  have e0 : (Rect.unit (s := S1024x512) ![0, n] S1024x128.size inb).emb x 0 = x 0 :=
    Fin.ext ((Rect.idx_unit_val _ _ inb x 0).trans (Nat.zero_add _))
  have h := rope_goal m c t 512 n hn hl (by decide) _ (read_k m c t n hl inb') (x 0) (x 1) _ e1
  rw [blockK, e0]
  refine Eq.trans ?_ h
  exact congrArg (rope _ (iblk m c 3 t) (iblk m c 4 t)) (eq_ix2 x)

theorem value_block (n : ℕ) (hl : n + 128 ≤ 512) (inb inb') (x : S128x1024.Idx) :
    truncf .bf16 (transpose S128x1024 [1, 0]
      (extf .f32 (View.ld (iblk m c 2 t) (Rect.unit (s := S1024x512) ![0, n] S1024x128.size inb')) bitsLt_bf16_f32)
      transposes_S1024x128_p1_0_S128x1024) bitsLt_bf16_f32 x
    = blockV m c t ((Rect.unit (s := S512x1024) ![n, 0] S128x1024.size inb).emb x) := by
  have e0 : ((Rect.unit (s := S512x1024) ![n, 0] S128x1024.size inb).emb x 0).val = n + (x 0).val :=
    Rect.idx_unit_val _ _ inb x 0
  have e1 : (Rect.unit (s := S512x1024) ![n, 0] S128x1024.size inb).emb x 1 = x 1 :=
    Fin.ext ((Rect.idx_unit_val _ _ inb x 1).trans (Nat.zero_add _))
  rw [blockV, e1]
  refine Eq.trans ?_ ((flip_piece _ (x 0) (x 1)).trans ((read_v m c t n hl inb' (x 1) (x 0)).trans ?_))
  · congr 1
    exact eq_ix2 x
  · exact congrArg (fun z => proj m c (ix2 (row t (x 1)) z)) (Fin.ext (congrArg (1024 + ·) e0.symm))

theorem lift_q (y) : blockQ m c t y = specQ (proj m c) (cosines m c) (sines m c) (((cfg0.win 5).blk t).view.emb y) := by
  have e0 : ((cfg0.win 5).blk t).view.emb y 0 = y 0 := Fin.ext (by blk_point [idx t])
  have e1 : ((cfg0.win 5).blk t).view.emb y 1 = row t (y 1) := Fin.ext (by blk_point [idx t])
  rw [specQ, e0, e1, blockQ]

theorem lift_k (y) : blockK m c t y = specK (proj m c) (cosines m c) (sines m c) (((cfg0.win 6).blk t).view.emb y) := by
  have e0 : ((cfg0.win 6).blk t).view.emb y 0 = row t (y 0) := Fin.ext (by blk_point [idx t])
  have e1 : ((cfg0.win 6).blk t).view.emb y 1 = y 1 := Fin.ext (by blk_point [idx t])
  rw [specK, e0, e1, blockK]

theorem lift_v (y) : blockV m c t y = specV (proj m c) (((cfg0.win 7).blk t).view.emb y) := by
  have e0 : ((cfg0.win 7).blk t).view.emb y 0 = y 0 := Fin.ext (by blk_point [idx t])
  have e1 : ((cfg0.win 7).blk t).view.emb y 1 = row t (y 1) := Fin.ext (by blk_point [idx t])
  rw [specV, e0, e1, blockV]

/-- The body's expression of the first stretch of the queries. -/
theorem first_query (c s : FVec Ideal S1024x128 .f32) (x : FVec Ideal S1024x128 .bf16) : k0_pay4 c s x
    = truncf .bf16 (transpose S128x1024 [1, 0] (mulf (rope (extf .f32 x bitsLt_bf16_f32) c (k0_pay3 s))
      (broadcast S1024x128 (Scalar.ofBits .f32 0x3E38AA3B#32))) transposes_S1024x128_p1_0_S128x1024) bitsLt_bf16_f32 := rfl

/-- The first result's block. -/
theorem pointQ (y : S512x1024.Idx) : View.canon (Val := Elt Ideal) (e := .bf16) [
    ⟨r0_8, k0_pay23 (iblk m c 3 t) (k0_pay3 (iblk m c 4 t)) (View.ld (iblk m c 0 t) r0_7)⟩,
    ⟨r0_6, k0_pay20 (iblk m c 3 t) (k0_pay3 (iblk m c 4 t)) (k0_pay17 (View.ld (iblk m c 0 t) r0_5)) k0_pay18
      (k0_pay19 (View.ld (iblk m c 0 t) r0_5))⟩,
    ⟨r0_4, k0_pay10 (iblk m c 3 t) (k0_pay3 (iblk m c 4 t)) (k0_pay8 (View.ld (iblk m c 0 t) r0_3))
      (Scalar.select (Scalar.cmpi .eq 64#32 0#32) 1#32 64#32) k0_pay9⟩,
    ⟨r0_2, k0_pay4 (iblk m c 3 t) (iblk m c 4 t) (View.ld (iblk m c 0 t) r0_1)⟩] y = blockQ m c t y := by
  rw [first_query, sines_read]
  refine View.canon_apply_of_pieces (Val := Elt Ideal) (blockQ m c t) _ ?_ y (cover0_5 _ _ _ _ y)
  intro pc hpc
  rcases List.mem_cons.mp hpc with rfl | hpc
  · exact fun x => query_block m c t 384 (by decide) (by decide) inb_S512x1024_S128x1024_384_0 inb_S1024x512_S1024x128_0_384 x
  rcases List.mem_cons.mp hpc with rfl | hpc
  · exact fun x => query_block m c t 256 (by decide) (by decide) inb_S512x1024_S128x1024_256_0 inb_S1024x512_S1024x128_0_256 x
  rcases List.mem_cons.mp hpc with rfl | hpc
  · exact fun x => query_block m c t 128 (by decide) (by decide) inb_S512x1024_S128x1024_128_0 inb_S1024x512_S1024x128_0_128 x
  rcases List.mem_cons.mp hpc with rfl | hpc
  · exact fun x => query_block m c t 0 (by decide) (by decide) inb_S512x1024_S128x1024_0_0 inb_S1024x512_S1024x128_0_0 x
  nomatch hpc

/-- The second result's block. -/
theorem pointK (y : S1024x512.Idx) : View.canon (Val := Elt Ideal) (e := .bf16) [
    ⟨r0_7, k0_pay1 (iblk m c 3 t) (k0_pay3 (iblk m c 4 t)) (k0_pay24 (View.ld (iblk m c 1 t) r0_7))
      (iota .tc S1024x128 32 [1] iota_S1024x128_d1_w32)⟩,
    ⟨r0_5, k0_pay21 (iblk m c 3 t) (k0_pay3 (iblk m c 4 t)) (View.ld (iblk m c 1 t) r0_5)⟩,
    ⟨r0_3, k0_pay15 (iblk m c 3 t) (k0_pay3 (iblk m c 4 t)) (k0_pay11 (View.ld (iblk m c 1 t) r0_3)) k0_pay12 k0_pay13
      k0_pay14⟩,
    ⟨r0_1, k0_pay6 (iblk m c 3 t) (k0_pay3 (iblk m c 4 t)) (k0_pay5 (View.ld (iblk m c 1 t) r0_1))
      (iota .tc S1024x128 32 [1] iota_S1024x128_d1_w32)⟩] y = blockK m c t y := by
  rw [sines_read]
  refine View.canon_apply_of_pieces (Val := Elt Ideal) (blockK m c t) _ ?_ y (cover0_6 _ _ _ _ y)
  intro pc hpc
  rcases List.mem_cons.mp hpc with rfl | hpc
  · exact fun x => key_block m c t 384 (by decide) (by decide) inb_S1024x512_S1024x128_0_384 inb_S1024x512_S1024x128_0_384 x
  rcases List.mem_cons.mp hpc with rfl | hpc
  · exact fun x => key_block m c t 256 (by decide) (by decide) inb_S1024x512_S1024x128_0_256 inb_S1024x512_S1024x128_0_256 x
  rcases List.mem_cons.mp hpc with rfl | hpc
  · exact fun x => key_block m c t 128 (by decide) (by decide) inb_S1024x512_S1024x128_0_128 inb_S1024x512_S1024x128_0_128 x
  rcases List.mem_cons.mp hpc with rfl | hpc
  · exact fun x => key_block m c t 0 (by decide) (by decide) inb_S1024x512_S1024x128_0_0 inb_S1024x512_S1024x128_0_0 x
  nomatch hpc

/-- The third result's block. -/
theorem pointV (y : S512x1024.Idx) : View.canon (Val := Elt Ideal) (e := .bf16) [
    ⟨r0_8, k0_pay2 (View.ld (iblk m c 2 t) r0_7)⟩, ⟨r0_6, k0_pay22 (View.ld (iblk m c 2 t) r0_5)⟩,
    ⟨r0_4, k0_pay16 (View.ld (iblk m c 2 t) r0_3)⟩, ⟨r0_2, k0_pay7 (View.ld (iblk m c 2 t) r0_1)⟩] y
    = blockV m c t y := by
  refine View.canon_apply_of_pieces (Val := Elt Ideal) (blockV m c t) _ ?_ y (cover0_7 _ _ _ _ y)
  intro pc hpc
  rcases List.mem_cons.mp hpc with rfl | hpc
  · exact fun x => value_block m c t 384 (by decide) inb_S512x1024_S128x1024_384_0 inb_S1024x512_S1024x128_0_384 x
  rcases List.mem_cons.mp hpc with rfl | hpc
  · exact fun x => value_block m c t 256 (by decide) inb_S512x1024_S128x1024_256_0 inb_S1024x512_S1024x128_0_256 x
  rcases List.mem_cons.mp hpc with rfl | hpc
  · exact fun x => value_block m c t 128 (by decide) inb_S512x1024_S128x1024_128_0 inb_S1024x512_S1024x128_0_128 x
  rcases List.mem_cons.mp hpc with rfl | hpc
  · exact fun x => value_block m c t 0 (by decide) inb_S512x1024_S128x1024_0_0 inb_S1024x512_S1024x128_0_0 x
  nomatch hpc

end Point

/-! ## The three results after the run -/

theorem name_s (c : Dev nD) (t : Fin cfg0.N) : k0_pay25 (F := Ideal) (iblk m c 0 t) (iblk m c 1 t) (iblk m c 2 t)
    (iblk m c 3 t) (iblk m c 4 t) = k0_pay3 (iblk m c 4 t) := by
  unfold k0_pay25; frame_out

/-- The first result after the run. -/
theorem finalQ (c : Dev nD) : (dats m 0 c).arrAt 5 (cfgs 0).N = specQ (proj m c) (cosines m c) (sines m c) := by
  refine (dats m 0 c).arrAt_eq_of_covers 5 _ (by decide +kernel) fun t hf y => ?_
  blk_simp; rw [after0_5]; frame_out
  rw [name_s]
  exact (pointQ m c t y).trans (lift_q m c t y)

/-- The second result after the run. -/
theorem finalK (c : Dev nD) : (dats m 0 c).arrAt 6 (cfgs 0).N = specK (proj m c) (cosines m c) (sines m c) := by
  refine (dats m 0 c).arrAt_eq_of_covers 6 _ (by decide +kernel) fun t hf y => ?_
  blk_simp; rw [after0_6]; frame_out
  rw [name_s]
  exact (pointK m c t y).trans (lift_k m c t y)

/-- The third result after the run. -/
theorem finalV (c : Dev nD) : (dats m 0 c).arrAt 7 (cfgs 0).N = specV (proj m c) := by
  refine (dats m 0 c).arrAt_eq_of_covers 7 _ (by decide +kernel) fun t hf y => ?_
  blk_simp; rw [after0_7]; frame_out
  exact (pointV m c t y).trans (lift_v m c t y)

end Cert.Kernel8Ideal.DaPrep
end
-- ==== Proof.DaPrepRef.lean ====
module

public import proofs.«01_k».proof.Proof.DaPrep
public import proofs.«01_k».proof.Proof.Gen.Reference8Ideal.Read

/-! # The reference of the differential attention's preparation

The plain expressions for the queries, keys and values compute the arrays of `DaPrep.lean`. -/

@[expose] public section

set_option maxRecDepth 16384

noncomputable section

open Idealize.ShloMosaic Idealize.ShloMosaic.TcCoe Idealize.SL.Sem
open scoped BigOperators

namespace Cert.Kernel8Ideal.DaPrep

open Cert.Kernel8Ideal Cert.Kernel8Ideal.Gen Cert.Reference8Ideal.Read

variable (px : FVec Ideal S16384x4096 .bf16) (cos sin : FVec Ideal S4096x32 .f32)

/-- Position `l` of batch element `b`, as a row. -/
abbrev place (b : Fin 4) (l : Fin 4096) : Fin 16384 := ⟨b.val * 4096 + l.val, by omega⟩

/-- A feature in the first half of its group turns so. -/
theorem turn_lo (r : Fin 16384) (l : Fin 4096) (f : ℕ) (k : Fin 32) (a b : EReal) (hr : l.val = r.val % 4096)
    (hk : k.val = f % 32) (h : f % 64 < 32) : turn cos sin r f a b = a * cos (ix2 l k) - b * sin (ix2 l k) := by
  rw [show l = ⟨r.val % 4096, by omega⟩ from Fin.ext hr, show k = ⟨f % 32, by omega⟩ from Fin.ext hk]
  exact if_pos h

/-- A feature in the second half turns so. -/
theorem turn_hi (r : Fin 16384) (l : Fin 4096) (f : ℕ) (k : Fin 32) (a b : EReal) (hr : l.val = r.val % 4096)
    (hk : k.val = f % 32) (h : ¬ f % 64 < 32) : turn cos sin r f a b = b * sin (ix2 l k) + a * cos (ix2 l k) := by
  rw [show l = ⟨r.val % 4096, by omega⟩ from Fin.ext hr, show k = ⟨f % 32, by omega⟩ from Fin.ext hk]
  exact if_neg h

/-- The reference's rotation of the queries. -/
theorem ref_turn_q (b : Fin 4) (l : Fin 4096) (h : Fin 8) (d : Fin 64) (f : Fin 512) (hf : f.val = h.val * 64 + d.val) :
    val_main_v24 (F := Ideal) px cos sin (ix4 b l h d)
    = turn cos sin (place b l) f (px (ix2 (place b l) ⟨f.val, by omega⟩))
      (px (ix2 (place b l) ⟨mate f, by have := mate_lt 8 (f := f.val) f.isLt; omega⟩)) := by
  rw [turn_mod cos sin (place b l) f.val d.val _ _ (by omega)]
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v3, val_main_v2, val_main_v1, val_main_v0]
  have hl : l.val = (place b l).val % 4096 := by show l.val = (b.val * 4096 + l.val) % 4096; omega
  have e (f g : Fin 4096) (h : f = g) : (px (ix2 (place b l) f) : EReal) = px (ix2 (place b l) g) := by rw [h]
  by_cases hd : d.val < 32
  · refine (dif_pos hd).trans ?_
    have hm : mate f.val = h.val * 64 + (32 + d.val) := by rw [mate, if_pos (by omega)]; omega
    refine Eq.trans ?_ (turn_lo cos sin (place b l) l d ⟨d.val, by omega⟩ _ _ hl (by simp only []; omega) (by omega)).symm
    exact congrArg₂ (fun u v : EReal => u * cos (ix2 l ⟨d.val, by omega⟩) - v * sin (ix2 l ⟨d.val, by omega⟩))
      (e _ _ (Fin.ext (by simp only [hf])))
      (e _ _ (Fin.ext (by simp only [hm])))
  · refine (dif_neg hd).trans ?_
    have hm : mate f.val = h.val * 64 + (d.val - 32) := by rw [mate, if_neg (by omega)]; omega
    refine Eq.trans ?_ (turn_hi cos sin (place b l) l d ⟨d.val - 32, by omega⟩ _ _ hl (by simp only []; omega) (by omega)).symm
    exact congrArg₂ (fun u v : EReal => u * sin (ix2 l ⟨d.val - 32, by omega⟩) + v * cos (ix2 l ⟨d.val - 32, by omega⟩))
      (e _ _ (Fin.ext (by simp only [hm])))
      (e _ _ (Fin.ext (by simp only [hf]; omega)))

/-- The reference's rotation of the keys. -/
theorem ref_turn_k (b : Fin 4) (l : Fin 4096) (h : Fin 8) (d : Fin 64) (f : Fin 512) (hf : f.val = h.val * 64 + d.val) :
    val_main_v46 (F := Ideal) px cos sin (ix4 b l h d)
    = turn cos sin (place b l) f (px (ix2 (place b l) ⟨512 + f.val, by omega⟩))
      (px (ix2 (place b l) ⟨512 + mate f, by have := mate_lt 8 (f := f.val) f.isLt; omega⟩)) := by
  rw [turn_mod cos sin (place b l) f.val d.val _ _ (by omega)]
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v7, val_main_v6, val_main_v5, val_main_v4, val_main_v1, val_main_v0]
  have hl : l.val = (place b l).val % 4096 := by show l.val = (b.val * 4096 + l.val) % 4096; omega
  have e (f g : Fin 4096) (h : f = g) : (px (ix2 (place b l) f) : EReal) = px (ix2 (place b l) g) := by rw [h]
  by_cases hd : d.val < 32
  · refine (dif_pos hd).trans ?_
    have hm : mate f.val = h.val * 64 + (32 + d.val) := by rw [mate, if_pos (by omega)]; omega
    refine Eq.trans ?_ (turn_lo cos sin (place b l) l d ⟨d.val, by omega⟩ _ _ hl (by simp only []; omega) (by omega)).symm
    exact congrArg₂ (fun u v : EReal => u * cos (ix2 l ⟨d.val, by omega⟩) - v * sin (ix2 l ⟨d.val, by omega⟩))
      (e _ _ (Fin.ext (by simp only [hf])))
      (e _ _ (Fin.ext (by simp only [hm])))
  · refine (dif_neg hd).trans ?_
    have hm : mate f.val = h.val * 64 + (d.val - 32) := by rw [mate, if_neg (by omega)]; omega
    refine Eq.trans ?_ (turn_hi cos sin (place b l) l d ⟨d.val - 32, by omega⟩ _ _ hl (by simp only []; omega) (by omega)).symm
    exact congrArg₂ (fun u v : EReal => u * sin (ix2 l ⟨d.val - 32, by omega⟩) + v * cos (ix2 l ⟨d.val - 32, by omega⟩))
      (e _ _ (Fin.ext (by simp only [hm])))
      (e _ _ (Fin.ext (by simp only [hf]; omega)))

/-- The first result. -/
theorem ref_eqQ : val_main_v29 (F := Ideal) px cos sin = specQ px cos sin := by
  funext i
  have hp : place ⟨(i 1).val / 4096, by idx_bounds; omega⟩ ⟨(i 1).val % 4096, by omega⟩ = i 1 :=
    Fin.ext (Nat.div_add_mod' _ _)
  have hb : (i 0).val < 512 := (i 0).isLt
  pointwise [val_main_v29, val_main_v28, val_main_v27, val_main_v26, val_main_v25, val_main_cst, specQ, queryAt]
  refine congrArg (· * _) ?_
  refine (ref_turn_q px cos sin _ _ _ _ (i 0) (Nat.div_add_mod' _ _).symm).trans ?_
  rw [hp]

/-- The second result. -/
theorem ref_eqK : val_main_v48 (F := Ideal) px cos sin = specK px cos sin := by
  funext i
  have hp : place ⟨(i 0).val / 4096, by idx_bounds; omega⟩ ⟨(i 0).val % 4096, by omega⟩ = i 0 :=
    Fin.ext (Nat.div_add_mod' _ _)
  have hb : (i 1).val < 512 := (i 1).isLt
  pointwise [val_main_v48, val_main_v47, specK, keyAt]
  refine (ref_turn_k px cos sin _ _ _ _ (i 1) (Nat.div_add_mod' _ _).symm).trans ?_
  rw [hp]

/-- The third result. -/
theorem ref_eqV : val_main_v51 (F := Ideal) px = specV px := by
  funext i
  pointwise [val_main_v51, val_main_v50, val_main_v49, val_main_v1, val_main_v0, specV, valueAt]

end Cert.Kernel8Ideal.DaPrep
end
-- ==== Proof.Ada.lean ====
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.Value
public import Idealize.ShloMosaic.Lib.StableHlo.Run
public import Idealize.ShloMosaic.Lib.KernelVsHost

/-! # The modulation vectors

One point takes 512 of a layer's modulation features: it applies SiLU to the eight conditioning rows, multiplies with the
layer's weight and adds its bias. -/

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Ada

open Cert.Kernel9Ideal Cert.Kernel9Ideal.Gen

/-- What the call leaves for layer `l`, conditioning row `g`, feature `f`. -/
def specAt (cc : FVec Ideal S8x2048 .f32) (w : FVec Ideal S4x2048x12288 .f32) (b : FVec Ideal S4x12288 .f32)
    (l : Fin 4) (g : Fin 8) (f : Fin 12288) : EReal :=
  (∑ k : Fin 2048, cc (ix2 g k) * Ideal.logistic (cc (ix2 g k)) * w (ix3 l k f)) + b (ix2 l f)

/-- The result array. -/
def spec (cc : FVec Ideal S8x2048 .f32) (w : FVec Ideal S4x2048x12288 .f32) (b : FVec Ideal S4x12288 .f32) :
    FVec Ideal S4x8x12288 .f32 := fun i => specAt cc w b (i 0) (i 1) (i 2)

variable (m : (ℓ : Loc nD τ sig) → Buf (Elt Ideal) ℓ)

/-- The bias as the host code lays it out: one row a layer. -/
theorem V_bias (c : Dev nD) : V m c main_v0
    = shapeCast S4x1x12288 (m ((c : Thread nD τ).loc main_arg2)) shapeCasts_S4x12288_S4x1x12288 := by
  show StableHlo.after hostOps0 _ (Proc.devRef .tc main_v0) = _
  after_results
  rfl

theorem bias_at (x : FVec Ideal S4x12288 .f32) (l : Fin 4) (f : Fin 12288) :
    shapeCast S4x1x12288 x shapeCasts_S4x12288_S4x1x12288 (ix3 l 0 f) = x (ix2 l f) := by
  pointwise []

/-- The block of each window at each of the 96 points. -/
theorem idx : ∀ t : Fin cfg0.N, win0_0.index t = ![0, 0] ∧ win0_1.index t = ![t.val / 24, 0, t.val % 24]
    ∧ win0_2.index t = ![t.val / 24, 0, t.val % 24] ∧ win0_3.index t = ![t.val / 24, 0, t.val % 24] :=
  (by decide +kernel : ∀ t : Fin grid0.N, _)

/-- The layer of point `t`. -/
abbrev layer (t : Fin cfg0.N) : Fin 4 := ⟨t.val / 24, by have : t.val < 96 := t.isLt; omega⟩

/-- Feature `f` of point `t`. -/
abbrev feat (t : Fin cfg0.N) (f : Fin 512) : Fin 12288 := ⟨t.val % 24 * 512 + f.val, by omega⟩

theorem bias_block (c : Dev nD) (t : Fin cfg0.N) (f : Fin 512) : iblk m c 2 t (ix3 0 0 f)
    = m ((c : Thread nD τ).loc main_arg2) (ix2 (layer t) (feat t f)) := by
  have e : iblk m c 2 t (ix3 0 0 f) = V m c main_v0 (ix3 (layer t) 0 (feat t f)) := by
    blk_point [iblk, idx t]
  rw [e, V_bias, bias_at]

theorem weight_block (c : Dev nD) (t : Fin cfg0.N) (k : Fin 2048) (f : Fin 512) : iblk m c 1 t (ix3 0 k f)
    = m ((c : Thread nD τ).loc main_arg1) (ix3 (layer t) k (feat t f)) := by
  blk_point [iblk, V, idx t]

theorem cond_block (c : Dev nD) (t : Fin cfg0.N) (g : Fin 8) (k : Fin 2048) : iblk m c 0 t (ix2 g k)
    = m ((c : Thread nD τ).loc main_arg0) (ix2 g k) := by
  blk_point [iblk, V, idx t]

/-- What one point computes, from its blocks. -/
theorem pay_at (x : FVec Ideal S8x2048 .f32) (w : FVec Ideal S1x2048x512 .f32) (b : FVec Ideal S1x1x512 .f32)
    (u : Fin 1) (g : Fin 8) (f : Fin 512) : k0_pay1 x w b (ix3 u g f)
    = (∑ k : Fin 2048, x (ix2 g k) * Ideal.logistic (x (ix2 g k)) * w (ix3 0 k f)) + b (ix3 0 0 f) := by
  pointwise [k0_pay1]

theorem block_at (c : Dev nD) (t : Fin cfg0.N) (u : Fin 1) (g : Fin 8) (f : Fin 512) :
    k0_pay1 (iblk m c 0 t) (iblk m c 1 t) (iblk m c 2 t) (ix3 u g f)
    = specAt (m ((c : Thread nD τ).loc main_arg0)) (m ((c : Thread nD τ).loc main_arg1))
      (m ((c : Thread nD τ).loc main_arg2)) (layer t) g (feat t f) := by
  rw [pay_at, bias_block]
  simp only [weight_block, cond_block]
  rfl

/-- What one point stores is `spec` at the array index of the block index. -/
theorem point (c : Dev nD) (t : Fin cfg0.N) (y : S1x8x512.Idx) :
    k0_pay1 (iblk m c 0 t) (iblk m c 1 t) (iblk m c 2 t) y
    = spec (m ((c : Thread nD τ).loc main_arg0)) (m ((c : Thread nD τ).loc main_arg1))
      (m ((c : Thread nD τ).loc main_arg2)) (((cfg0.win 3).blk t).view.emb y) := by
  have e0 : ((cfg0.win 3).blk t).view.emb y 0 = layer t := Fin.ext (by blk_point [idx t])
  have e1 : ((cfg0.win 3).blk t).view.emb y 1 = y 1 := Fin.ext (by blk_point [idx t])
  have e2 : ((cfg0.win 3).blk t).view.emb y 2 = feat t (y 2) := Fin.ext (by blk_point [idx t])
  have h := block_at m c t (y 0) (y 1) (y 2)
  rw [spec, e0, e1, e2, ← h]
  congr 1
  exact eq_ix3 y

/-- The result array after the run is `spec` of the arguments. -/
theorem final (c : Dev nD) : (dats m 0 c).arrAt 3 (cfgs 0).N
    = spec (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp; rw [after0_3]; frame_out
  exact point m c t y

/-! ## The reference -/

open Cert.Reference9Ideal.Read

/-- The reference computes `spec`. -/
theorem ref_eq (cc : FVec Ideal S8x2048 .f32) (w : FVec Ideal S4x2048x12288 .f32) (b : FVec Ideal S4x12288 .f32) :
    val_main_v5 (F := Ideal) cc w b = spec cc w b := by
  funext i
  pointwise [val_main_v5, val_main_v4, val_main_v3, val_main_v2, val_main_v1, val_main_v0, val_main_call0_v5,
    val_main_call0_v4, val_main_call0_v3, val_main_call0_v2, val_main_call0_v1, val_main_call0_v0, val_main_call0_cst,
    val_main_call0_cst_0, spec, specAt]
  exact congrArg (· + _) (Finset.sum_congr rfl fun k _ => mul_comm _ _)

end Cert.Kernel9Ideal.Ada
end
-- ==== Proof.ConvMod.lean ====
module

public import proofs.«01_k».proof.Proof.Gen.Kernel10Ideal.Frame
public import Idealize.ShloMosaic.Lib.Pipeline.ValueKit
public import Idealize.ShloMosaic.Lib.Pipeline.Value
public import Idealize.ShloMosaic.Lib.StableHlo.Run
public import Idealize.ShloMosaic.Lib.KernelVsHost

/-! # The convolution module

One point takes 512 rows of one batch entry. It gates them and the 16 rows on either side, keeps eight copies of the gated
rows, each shifted by one row more, and sums 31 products of a row of weights with the rows a fixed distance away; it adds a
bias, normalises each row to mean zero and variance one, scales and shifts it, and applies SiLU. -/

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.ConvMod

open Cert.Kernel10Ideal Cert.Kernel10Ideal.Gen

/-- The gated rows of batch entry `b`, with sixteen rows of zeros before and after: row `q` of 4128, feature `f`. -/
def gated (px : FVec Ideal S16384x4096 .bf16) (b : Fin 4) (q : ℕ) (f : Fin 512) : EReal :=
  if h : 16 ≤ q ∧ q < 4112 then
    px (ix2 ⟨b.val * 4096 + (q - 16), by omega⟩ ⟨3072 + f.val, by omega⟩)
      * Ideal.logistic (px (ix2 ⟨b.val * 4096 + (q - 16), by omega⟩ ⟨3584 + f.val, by omega⟩))
  else 0

/-- The sum of the first `n` terms, from the first on. -/
def acc (x : ℕ → EReal) : ℕ → EReal
  | 0 => 0
  | n + 1 => acc x n + x n

/-- Row `n` of the weights. -/
def wrow (w : FVec Ideal S32x512 .f32) (n : ℕ) : FVec Ideal S1x512 .f32 :=
  fun y => w (ix2 ⟨n % 32, Nat.mod_lt _ (by decide)⟩ (y 1))

/-- The convolution at position `l`: 31 taps, centred, and the bias. -/
def conv (px : FVec Ideal S16384x4096 .bf16) (w : FVec Ideal S32x512 .f32) (bias : FVec Ideal S1x512 .f32) (b : Fin 4)
    (l : ℕ) (f : Fin 512) : EReal :=
  acc (fun n => wrow w n (ix2 0 f) * gated px b (l + n + 1) f) 31 + bias (ix2 0 f)

/-- A row less its mean. -/
def centred (y : Fin 512 → EReal) (f : Fin 512) : EReal :=
  y f - Ideal.div (∑ k, y k) (Ideal.ofBits .f32 0x44000000#32)

/-- A row normalised, scaled and shifted. -/
def normed (y : Fin 512 → EReal) (g h : FVec Ideal S1x512 .f32) (f : Fin 512) : EReal :=
  centred y f * Ideal.rsqrt (Ideal.div (∑ k, centred y k * centred y k) (Ideal.ofBits .f32 0x44000000#32)
    + Ideal.ofBits .f32 0x358637BD#32) * g (ix2 0 f) + h (ix2 0 f)

/-- The layer norm of a row, and SiLU. -/
def act (y : Fin 512 → EReal) (g h : FVec Ideal S1x512 .f32) (f : Fin 512) : EReal :=
  normed y g h f * Ideal.logistic (normed y g h f)

/-- What the call leaves at position `l` of batch entry `b`, feature `f`. -/
def specAt (px : FVec Ideal S16384x4096 .bf16) (w : FVec Ideal S32x512 .f32) (bias g h : FVec Ideal S1x512 .f32) (b : Fin 4)
    (l : ℕ) (f : Fin 512) : EReal := act (conv px w bias b l) g h f

/-- The result array. -/
def spec (px : FVec Ideal S16384x4096 .bf16) (w : FVec Ideal S32x512 .f32) (bias g h : FVec Ideal S1x512 .f32) :
    FVec Ideal S16384x512 .bf16 := fun i => specAt px w bias g h ⟨(i 0).val / 4096, by idx_bounds; omega⟩ ((i 0).val % 4096) (i 1)

/-! ## The arithmetic of one point -/

theorem acc_eq (x y : ℕ → EReal) (n : ℕ) (h : ∀ k, k < n → x k = y k) : acc x n = acc y n := by
  induction n with
  | zero => rfl
  | succ n ih => exact congrArg₂ (· + ·) (ih fun k hk => h k (by omega)) (h n (by omega))

section Sums

variable (w : ℕ → FVec Ideal S1x512 .f32) (x : ℕ → FVec Ideal S512x512 .f32) (s : FVec Ideal S512x512 .f32)
  (bias : FVec Ideal S1x512 .f32) (i f : Fin 512)

theorem first_taps : k0_pay12 (F := Ideal) (w 0) (x 0) (w 1) (x 1) (w 2) (x 2) (w 3) (x 3) (w 4) (x 4) (w 5) (x 5) (ix2 i f)
    = acc (fun n => w n (ix2 0 f) * x n (ix2 i f)) 6 := by
  pointwise [k0_pay12, acc]

theorem next_taps (hs : s (ix2 i f) = acc (fun n => w n (ix2 0 f) * x n (ix2 i f)) 6) :
    k0_pay13 s (w 6) (x 6) (w 7) (x 7) (w 8) (x 8) (w 9) (x 9) (w 10) (x 10) (w 11) (x 11) (ix2 i f)
    = acc (fun n => w n (ix2 0 f) * x n (ix2 i f)) 12 := by
  pointwise [k0_pay13]
  rw [hs]; rfl

theorem middle_taps (hs : s (ix2 i f) = acc (fun n => w n (ix2 0 f) * x n (ix2 i f)) 12) :
    k0_pay15 s (x 12) (k0_pay14 (w 12)) (w 13) (x 13) (w 14) (x 14) (w 15) (x 15) (w 16) (x 16) (w 17) (x 17) (w 18) (x 18)
      (ix2 i f) = acc (fun n => w n (ix2 0 f) * x n (ix2 i f)) 19 := by
  pointwise [k0_pay15, k0_pay14]
  rw [hs]; rfl

theorem later_taps (hs : s (ix2 i f) = acc (fun n => w n (ix2 0 f) * x n (ix2 i f)) 19) :
    k0_pay16 s (w 19) (x 19) (w 20) (x 20) (w 21) (x 21) (w 22) (x 22) (w 23) (x 23) (w 24) (x 24) (w 25) (x 25) (ix2 i f)
    = acc (fun n => w n (ix2 0 f) * x n (ix2 i f)) 26 := by
  pointwise [k0_pay16]
  rw [hs]; rfl

theorem last_taps (hs : s (ix2 i f) = acc (fun n => w n (ix2 0 f) * x n (ix2 i f)) 26) :
    k0_pay17 s (w 26) (x 26) (w 27) (x 27) (w 28) (x 28) (w 29) (x 29) (w 30) (x 30) bias (ix2 i f)
    = acc (fun n => w n (ix2 0 f) * x n (ix2 i f)) 31 + bias (ix2 0 f) := by
  pointwise [k0_pay17]
  rw [hs]; rfl

/-- The sum of the first 26 products. -/
def most : FVec Ideal S512x512 .f32 :=
  k0_pay16 (k0_pay15 (k0_pay13 (k0_pay12 (w 0) (x 0) (w 1) (x 1) (w 2) (x 2) (w 3) (x 3) (w 4) (x 4) (w 5) (x 5))
      (w 6) (x 6) (w 7) (x 7) (w 8) (x 8) (w 9) (x 9) (w 10) (x 10) (w 11) (x 11))
      (x 12) (k0_pay14 (w 12)) (w 13) (x 13) (w 14) (x 14) (w 15) (x 15) (w 16) (x 16) (w 17) (x 17) (w 18) (x 18))
    (w 19) (x 19) (w 20) (x 20) (w 21) (x 21) (w 22) (x 22) (w 23) (x 23) (w 24) (x 24) (w 25) (x 25)

/-- All 31 products and the bias. -/
def sums : FVec Ideal S512x512 .f32 :=
  k0_pay17 (most w x) (w 26) (x 26) (w 27) (x 27) (w 28) (x 28) (w 29) (x 29) (w 30) (x 30) bias

theorem sums_at : sums w x bias (ix2 i f) = acc (fun n => w n (ix2 0 f) * x n (ix2 i f)) 31 + bias (ix2 0 f) :=
  last_taps w x _ bias i f (later_taps w x _ i f (middle_taps w x _ i f (next_taps w x _ i f (first_taps w x i f))))

/-- The mean of each row of sums. -/
def means : FVec Ideal S512x1 .f32 :=
  k0_pay18 (most w x) (w 26) (x 26) (w 27) (x 27) (w 28) (x 28) (w 29) (x 29) (w 30) (x 30) bias

theorem means_at : means w x bias (ix2 i 0)
    = Ideal.div (∑ k, sums w x bias (ix2 i k)) (Ideal.ofBits .f32 0x44000000#32) := by
  unfold means k0_pay18
  change _ = Ideal.div (∑ k, k0_pay17 (most w x) (w 26) (x 26) (w 27) (x 27) (w 28) (x 28) (w 29) (x 29) (w 30) (x 30) bias
    (ix2 i k)) _
  generalize k0_pay17 (most w x) (w 26) (x 26) (w 27) (x 27) (w 28) (x 28) (w 29) (x 29) (w 30) (x 30) bias = y
  pointwise []

/-- The sum of the squares of each centred row. -/
def squares : FVec Ideal S512 .f32 :=
  k0_pay19 (most w x) (w 26) (x 26) (w 27) (x 27) (w 28) (x 28) (w 29) (x 29) (w 30) (x 30) bias

theorem squares_at : squares w x bias (ix1 i)
    = ∑ k, centred (fun d => sums w x bias (ix2 i d)) k * centred (fun d => sums w x bias (ix2 i d)) k := by
  have e := means_at w x bias i
  unfold squares k0_pay19 centred
  change _ = ∑ k, (sums w x bias (ix2 i k) - _) * (sums w x bias (ix2 i k) - _)
  rw [← e]
  unfold means sums
  generalize k0_pay17 (most w x) (w 26) (x 26) (w 27) (x 27) (w 28) (x 28) (w 29) (x 29) (w 30) (x 30) bias = y
  generalize k0_pay18 (most w x) (w 26) (x 26) (w 27) (x 27) (w 28) (x 28) (w 29) (x 29) (w 30) (x 30) bias = z
  pointwise []

theorem normed_at (y : FVec Ideal S512x512 .f32) (z : FVec Ideal S512x1 .f32) (v : FVec Ideal S512 .f32)
    (g h : FVec Ideal S1x512 .f32)
    (hz : z (ix2 i 0) = Ideal.div (∑ k, y (ix2 i k)) (Ideal.ofBits .f32 0x44000000#32))
    (hv : v (ix1 i) = ∑ k, centred (fun d => y (ix2 i d)) k * centred (fun d => y (ix2 i d)) k) :
    k0_pay1 y z v g h (ix2 i f) = act (fun d => y (ix2 i d)) g h f := by
  unfold act normed
  rw [← hv]
  unfold centred
  rw [← hz]
  pointwise [k0_pay1]

end Sums

/-! ## What the eight copies hold -/

/-- Rows `n` to `n + 511` of the 544 rows. -/
def rows (E : S544x512.Idx → EReal) (n : ℕ) : FVec Ideal S512x512 .f32 :=
  fun y => E (ix2 ⟨(n + (y 0).val) % 544, Nat.mod_lt _ (by decide)⟩ (y 1))

theorem rows_at (E : S544x512.Idx → EReal) (n : ℕ) (i f : Fin 512) :
    rows E n (ix2 i f) = E (ix2 ⟨(n + i.val) % 544, Nat.mod_lt _ (by decide)⟩ f) := rfl

theorem wrow_ld (w : FVec Ideal S32x512 .f32) (n : ℕ) (inb) :
    (View.ld (Val := Elt Ideal) (e' := .f32) w (Rect.unit (s := S32x512) ![n, 0] ![1, 512] inb) : FVec Ideal S1x512 .f32) = wrow w n := by
  have h : n + 1 ≤ 32 := inb 0
  funext y
  have y0 : (y 0).val < 1 := (y 0).isLt
  show w ((Rect.unit (s := S32x512) ![n, 0] ![1, 512] inb).idx y) = w _
  refine congrArg w ((eq_ix2 _).trans ?_)
  refine congrArg₂ ix2 (Fin.ext ?_) (Fin.ext ?_)
  · exact (Rect.idx_unit_val _ _ _ _ _).trans (by show n + (y 0).val = n % 32; omega)
  · exact (Rect.idx_unit_val _ _ _ _ _).trans (by show 0 + (y 1).val = (y 1).val; omega)

/-- A load of 512 rows of the unshifted copy. -/
theorem load_plain (v : View sig .tc .vmem S544x512 .f32) (L : List (View.Piece (Elt Ideal) S544x512 .f32)) (o : ℕ) (inb) :
    v.readCov L (Rect.unit (s := S544x512) ![o, 0] ![512, 512] inb).toLoadRect = rows (View.canon L) o := by
  have h : o + 512 ≤ 544 := inb 0
  rw [View.readCov_eq_canon']
  funext y
  have y0 : (y 0).val < 512 := (y 0).isLt
  refine congrArg (View.canon L) ((eq_ix2 _).trans ?_)
  refine congrArg₂ ix2 (Fin.ext ?_) (Fin.ext ?_)
  · exact (Rect.idx_unit_val _ _ _ _ _).trans (by show o + (y 0).val = (o + (y 0).val) % 544; omega)
  · exact (Rect.idx_unit_val _ _ _ _ _).trans (by show 0 + (y 1).val = (y 1).val; omega)

/-- A load of 512 rows of a copy shifted by `s` rows. -/
theorem load_shifted (v v' : View sig .tc .vmem S544x512 .f32) (L : List (View.Piece (Elt Ideal) S544x512 .f32)) (s o : ℕ)
    (inb0) (inbs) (inbo) (ho : o ≤ 24) :
    v.readCov [⟨Rect.unit (s := S544x512) ![0, 0] ![536, 512] inb0,
      v'.readCov L (Rect.unit (s := S544x512) ![s, 0] ![536, 512] inbs).toLoadRect⟩]
      (Rect.unit (s := S544x512) ![o, 0] ![512, 512] inbo).toLoadRect = rows (View.canon L) (s + o) := by
  have h : s + 536 ≤ 544 := inbs 0
  rw [load_plain]
  funext y
  have y0 : (y 0).val < 512 := (y 0).isLt
  unfold rows
  refine (View.canon_apply_of_pieces (Val := Elt Ideal) (e := .f32) (fun z : S544x512.Idx => View.canon L
    (ix2 ⟨(s + (z 0).val) % 544, Nat.mod_lt _ (by decide)⟩ (z 1))) _ ?_ _ ?_).trans ?_
  · intro pc hpc
    rcases List.mem_cons.mp hpc with rfl | hpc
    · intro x
      have x0 : (x 0).val < 536 := (x 0).isLt
      rw [View.readCov_eq_canon']
      refine congrArg (View.canon L) ((eq_ix2 _).trans ?_)
      refine congrArg₂ ix2 (Fin.ext ?_) (Fin.ext ?_)
      · refine (Rect.idx_unit_val _ _ _ _ _).trans ?_
        have e : ((Rect.unit (s := S544x512) ![0, 0] ![536, 512] inb0).emb x 0).val = 0 + (x 0).val :=
          Rect.idx_unit_val _ _ _ _ _
        show s + (x 0).val = (s + ((Rect.unit (s := S544x512) ![0, 0] ![536, 512] inb0).emb x 0).val) % 544
        rw [e]; omega
      · refine (Rect.idx_unit_val _ _ _ _ _).trans ?_
        exact (Rect.idx_unit_val _ _ _ _ _).symm
    nomatch hpc
  · refine ⟨_, List.mem_cons_self .., ?_⟩
    refine (Rect.mem_set_unit (s := S544x512) (off := ![0, 0]) (size := ![536, 512]) (inb := inb0)).mpr fun j => ?_
    match j with
    | 0 => exact ⟨Nat.zero_le _, by show (o + (y 0).val) % 544 < 0 + 536; omega⟩
    | 1 => exact ⟨Nat.zero_le _, by have : (y 1).val < 512 := (y 1).isLt; show (y 1).val < 0 + 512; omega⟩
  · refine congrArg (View.canon L) (congrArg₂ ix2 (Fin.ext ?_) rfl)
    show (s + (o + (y 0).val) % 544) % 544 = (s + o + (y 0).val) % 544
    omega

variable (m : (ℓ : Loc nD τ sig) → Buf (Elt Ideal) ℓ)

/-- The 544 gated rows of point `t`. -/
def ext (c : Dev nD) (t : Fin cfg0.N) : S544x512.Idx → EReal := View.canon (Val := Elt Ideal) (e := .f32)
  [⟨Rect.unit ![528, 0] ![16, 512] inb_S544x512_S16x512_528_0, k0_pay4 (grid0.coords t) (iblk m c 2 t) (iblk m c 5 t)⟩,
    ⟨Rect.unit ![16, 0] ![512, 512] inb_S544x512_S512x512_16_0, k0_pay3 (iblk m c 1 t) (iblk m c 4 t)⟩,
    ⟨Rect.unit ![0, 0] ![16, 512] inb_S544x512_S16x512_0_0, k0_pay2 (grid0.coords t) (iblk m c 0 t) (iblk m c 3 t)⟩]

/-- Tap `n` of point `t`: the gated rows from row `n + 1`. -/
def tap (c : Dev nD) (t : Fin cfg0.N) (n : ℕ) : FVec Ideal S512x512 .f32 := rows (ext m c t) (n + 1)

set_option maxHeartbeats 3200000 in
/-- What a point stores, from its taps. -/
theorem opened (c : Dev nD) (t : Fin cfg0.N) : outsAt0 (F := Ideal) m c t
    = k0_pay1 (sums (wrow (iblk m c 6 t)) (tap m c t) (iblk m c 7 t)) (means (wrow (iblk m c 6 t)) (tap m c t) (iblk m c 7 t))
      (squares (wrow (iblk m c 6 t)) (tap m c t) (iblk m c 7 t)) (iblk m c 8 t) (iblk m c 9 t) := by
  unfold outsAt0
  frame_out
  simp only [k0_pay5, k0_pay6, k0_pay7, k0_pay8, k0_pay9, k0_pay10, k0_pay11, shapeCast_self]
  simp (disch := decide) only [load_shifted]
  simp only [load_plain, sums, means, squares, most, tap, ext, Nat.reduceAdd]
  simp only [wrow_ld]

/-! ## The gated rows -/

/-- The block of each window at each of the 32 points. -/
theorem idx : ∀ t : Fin cfg0.N, win0_0.index t = ![t.val * 32 - 1, 6] ∧ win0_1.index t = ![t.val, 6]
    ∧ win0_2.index t = ![min (t.val * 32 + 32) 1023, 6] ∧ win0_3.index t = ![t.val * 32 - 1, 7]
    ∧ win0_4.index t = ![t.val, 7] ∧ win0_5.index t = ![min (t.val * 32 + 32) 1023, 7]
    ∧ win0_6.index t = ![0, 0] ∧ win0_7.index t = ![0, 0] ∧ win0_8.index t = ![0, 0] ∧ win0_9.index t = ![0, 0]
    ∧ win0_10.index t = ![t.val, 0] :=
  (by decide +kernel : ∀ t : Fin grid0.N, _)

theorem first_point : ∀ t : Fin cfg0.N, Scalar.cmpi .sgt (BitVec.ofNat 32 (grid0.coords t 1).val) 0#32
    = if t.val % 8 = 0 then 0#1 else 1#1 :=
  (by decide +kernel : ∀ t : Fin grid0.N, _)

theorem last_point : ∀ t : Fin cfg0.N, Scalar.cmpi .slt (BitVec.ofNat 32 (grid0.coords t 1).val) 7#32
    = if t.val % 8 = 7 then 0#1 else 1#1 :=
  (by decide +kernel : ∀ t : Fin grid0.N, _)

theorem select_one (a b : EReal) : Scalar.select 1#1 a b = a := if_pos rfl

/-- The batch entry of point `t`. -/
abbrev batch (t : Fin cfg0.N) : Fin 4 := ⟨t.val / 8, by have : t.val < 32 := t.isLt; omega⟩

theorem whole6 (c : Dev nD) (t : Fin cfg0.N) : iblk m c 6 t = m ((c : Thread nD τ).loc main_arg1) := by
  funext y
  rw [eq_ix2 y]
  blk_point [iblk, V, idx t]

theorem whole7 (c : Dev nD) (t : Fin cfg0.N) : iblk m c 7 t = m ((c : Thread nD τ).loc main_arg2) := by
  funext y
  rw [eq_ix2 y]
  blk_point [iblk, V, idx t]

theorem whole8 (c : Dev nD) (t : Fin cfg0.N) : iblk m c 8 t = m ((c : Thread nD τ).loc main_arg3) := by
  funext y
  rw [eq_ix2 y]
  blk_point [iblk, V, idx t]

theorem whole9 (c : Dev nD) (t : Fin cfg0.N) : iblk m c 9 t = m ((c : Thread nD τ).loc main_arg4) := by
  funext y
  rw [eq_ix2 y]
  blk_point [iblk, V, idx t]

/-- The rows before the block: sixteen rows of the block before, or zeros at the first point of a batch entry. -/
theorem before_at (c : Dev nD) (t : Fin cfg0.N) (r : Fin 16) (f : Fin 512) :
    k0_pay2 (grid0.coords t) (iblk m c 0 t) (iblk m c 3 t) (ix2 r f)
    = gated (m ((c : Thread nD τ).loc main_arg0)) (batch t) (t.val % 8 * 512 + r.val) f := by
  have ht : t.val < 32 := t.isLt
  unfold gated
  pointwise [k0_pay2]
  rw [first_point]
  by_cases h0 : t.val % 8 = 0
  · rw [if_pos h0, dif_neg (by omega)]
    pointwise []
  · rw [if_neg h0, dif_pos (by omega), select_one]
    blk_point [iblk, V, idx t]

/-- The block's own rows. -/
theorem own_at (c : Dev nD) (t : Fin cfg0.N) (r f : Fin 512) :
    k0_pay3 (iblk m c 1 t) (iblk m c 4 t) (ix2 r f)
    = gated (m ((c : Thread nD τ).loc main_arg0)) (batch t) (t.val % 8 * 512 + 16 + r.val) f := by
  have ht : t.val < 32 := t.isLt
  unfold gated
  rw [dif_pos (by omega)]
  pointwise [k0_pay3]
  blk_point [iblk, V, idx t]

/-- The rows after the block. -/
theorem after_at (c : Dev nD) (t : Fin cfg0.N) (r : Fin 16) (f : Fin 512) :
    k0_pay4 (grid0.coords t) (iblk m c 2 t) (iblk m c 5 t) (ix2 r f)
    = gated (m ((c : Thread nD τ).loc main_arg0)) (batch t) (t.val % 8 * 512 + 528 + r.val) f := by
  have ht : t.val < 32 := t.isLt
  unfold gated
  pointwise [k0_pay4]
  rw [last_point]
  by_cases h0 : t.val % 8 = 7
  · rw [if_pos h0, dif_neg (by omega)]
    pointwise []
  · rw [if_neg h0, dif_pos (by omega), select_one]
    blk_point [iblk, V, idx t]

theorem emb_row (o n : ℕ) (inb) (x : (⟨2, ![n, 512]⟩ : Shape).Idx) :
    ((Rect.unit (s := S544x512) ![o, 0] ![n, 512] inb).emb x 0).val = o + (x 0).val := Rect.idx_unit_val _ _ _ _ _

theorem emb_col (o n : ℕ) (inb) (x : (⟨2, ![n, 512]⟩ : Shape).Idx) :
    ((Rect.unit (s := S544x512) ![o, 0] ![n, 512] inb).emb x 1).val = 0 + (x 1).val := Rect.idx_unit_val _ _ _ _ _

/-- Row `r` of the 544 rows. -/
theorem ext_at (c : Dev nD) (t : Fin cfg0.N) (z : S544x512.Idx) : ext m c t z
    = gated (m ((c : Thread nD τ).loc main_arg0)) (batch t) (t.val % 8 * 512 + (z 0).val) (z 1) := by
  have z0 : (z 0).val < 544 := (z 0).isLt
  have z1 : (z 1).val < 512 := (z 1).isLt
  unfold ext
  refine View.canon_apply_of_pieces (Val := Elt Ideal) (e := .f32) (fun z : S544x512.Idx =>
    gated (m ((c : Thread nD τ).loc main_arg0)) (batch t) (t.val % 8 * 512 + (z 0).val) (z 1)) _ ?_ z ?_
  · intro pc hpc
    rcases List.mem_cons.mp hpc with rfl | hpc
    · intro x
      rw [eq_ix2 x]
      refine (after_at m c t (x 0) (x 1)).trans (congrArg₂ (gated _ (batch t)) ?_ (Fin.ext ?_))
      · exact (Nat.add_assoc _ _ _).trans (congrArg (t.val % 8 * 512 + ·) (emb_row 528 16 inb_S544x512_S16x512_528_0 (ix2 (x 0) (x 1))).symm)
      · exact (Nat.zero_add _).symm.trans (emb_col 528 16 inb_S544x512_S16x512_528_0 (ix2 (x 0) (x 1))).symm
    rcases List.mem_cons.mp hpc with rfl | hpc
    · intro x
      rw [eq_ix2 x]
      refine (own_at m c t (x 0) (x 1)).trans (congrArg₂ (gated _ (batch t)) ?_ (Fin.ext ?_))
      · exact (Nat.add_assoc _ _ _).trans (congrArg (t.val % 8 * 512 + ·) (emb_row 16 512 inb_S544x512_S512x512_16_0 (ix2 (x 0) (x 1))).symm)
      · exact (Nat.zero_add _).symm.trans (emb_col 16 512 inb_S544x512_S512x512_16_0 (ix2 (x 0) (x 1))).symm
    rcases List.mem_cons.mp hpc with rfl | hpc
    · intro x
      rw [eq_ix2 x]
      refine (before_at m c t (x 0) (x 1)).trans (congrArg₂ (gated _ (batch t)) ?_ (Fin.ext ?_))
      · exact congrArg (t.val % 8 * 512 + ·) ((Nat.zero_add _).symm.trans (emb_row 0 16 inb_S544x512_S16x512_0_0 (ix2 (x 0) (x 1))).symm)
      · exact (Nat.zero_add _).symm.trans (emb_col 0 16 inb_S544x512_S16x512_0_0 (ix2 (x 0) (x 1))).symm
    nomatch hpc
  · by_cases h2 : 528 ≤ (z 0).val
    · refine ⟨_, List.mem_cons_self .., ?_⟩
      refine (Rect.mem_set_unit (s := S544x512) (off := ![528, 0]) (size := ![16, 512])
        (inb := inb_S544x512_S16x512_528_0)).mpr fun j => ?_
      match j with
      | 0 => exact ⟨h2, z0⟩
      | 1 => exact ⟨Nat.zero_le _, z1⟩
    by_cases h1 : 16 ≤ (z 0).val
    · refine ⟨_, List.mem_cons_of_mem _ (List.mem_cons_self ..), ?_⟩
      refine (Rect.mem_set_unit (s := S544x512) (off := ![16, 0]) (size := ![512, 512])
        (inb := inb_S544x512_S512x512_16_0)).mpr fun j => ?_
      match j with
      | 0 => exact ⟨h1, by show (z 0).val < 16 + 512; omega⟩
      | 1 => exact ⟨Nat.zero_le _, z1⟩
    · refine ⟨_, List.mem_cons_of_mem _ (List.mem_cons_of_mem _ (List.mem_cons_self ..)), ?_⟩
      refine (Rect.mem_set_unit (s := S544x512) (off := ![0, 0]) (size := ![16, 512])
        (inb := inb_S544x512_S16x512_0_0)).mpr fun j => ?_
      match j with
      | 0 => exact ⟨Nat.zero_le _, by show (z 0).val < 0 + 16; omega⟩
      | 1 => exact ⟨Nat.zero_le _, by show (z 1).val < 0 + 512; omega⟩

theorem ext_at2 (c : Dev nD) (t : Fin cfg0.N) (r : Fin 544) (f : Fin 512) : ext m c t (ix2 r f)
    = gated (m ((c : Thread nD τ).loc main_arg0)) (batch t) (t.val % 8 * 512 + r.val) f := ext_at m c t (ix2 r f)

/-- A row of tap `n`. -/
theorem tap_at (c : Dev nD) (t : Fin cfg0.N) (n : ℕ) (hn : n < 31) (i f : Fin 512) : tap m c t n (ix2 i f)
    = gated (m ((c : Thread nD τ).loc main_arg0)) (batch t) (t.val % 8 * 512 + i.val + n + 1) f := by
  have r : t.val % 8 * 512 + (n + 1 + i.val) % 544 = t.val % 8 * 512 + i.val + n + 1 := by omega
  unfold tap
  refine (rows_at (ext m c t) (n + 1) i f).trans ((ext_at2 m c t _ f).trans ?_)
  rw [← r]

/-- The convolution of a row of the block. -/
theorem sums_conv (c : Dev nD) (t : Fin cfg0.N) (i f : Fin 512) :
    sums (wrow (iblk m c 6 t)) (tap m c t) (iblk m c 7 t) (ix2 i f)
    = conv (m ((c : Thread nD τ).loc main_arg0)) (m ((c : Thread nD τ).loc main_arg1)) (m ((c : Thread nD τ).loc main_arg2))
      (batch t) (t.val % 8 * 512 + i.val) f := by
  rw [sums_at]
  unfold conv
  refine congrArg₂ (· + ·) (acc_eq _ _ 31 fun n hn => ?_) (congrArg (fun z => z (ix2 0 f)) (whole7 m c t))
  exact congrArg₂ (· * ·) (congrArg (fun z => wrow z n (ix2 0 f)) (whole6 m c t)) (tap_at m c t n hn i f)

/-- What a point stores, at a row and a feature of its block. -/
theorem out_at (c : Dev nD) (t : Fin cfg0.N) (i f : Fin 512) : outsAt0 (F := Ideal) m c t (ix2 i f)
    = specAt (m ((c : Thread nD τ).loc main_arg0)) (m ((c : Thread nD τ).loc main_arg1)) (m ((c : Thread nD τ).loc main_arg2))
      (m ((c : Thread nD τ).loc main_arg3)) (m ((c : Thread nD τ).loc main_arg4)) (batch t) (t.val % 8 * 512 + i.val) f := by
  rw [opened]
  refine (normed_at i f _ _ _ _ _ (means_at _ _ _ i) (squares_at _ _ _ i)).trans ?_
  unfold specAt
  have e : (fun d => sums (wrow (iblk m c 6 t)) (tap m c t) (iblk m c 7 t) (ix2 i d)) = _ := funext (sums_conv m c t i)
  exact (congrArg (fun y => act y _ _ f) e).trans (congrArg₂ (fun g h => act _ g h f) (whole8 m c t) (whole9 m c t))

theorem specAt_congr (px : FVec Ideal S16384x4096 .bf16) (w : FVec Ideal S32x512 .f32) (bias g h : FVec Ideal S1x512 .f32)
    {b b' : Fin 4} {l l' : ℕ} {f f' : Fin 512} (hb : b = b') (hl : l = l') (hf : f = f') :
    specAt px w bias g h b l f = specAt px w bias g h b' l' f' := by
  subst hb hl hf; rfl

theorem emb_out (t : Fin cfg0.N) (y : S512x512.Idx) :
    ((((cfg0.win 10).blk t).view.emb y) 0).val = t.val * 512 + (y 0).val ∧ ((((cfg0.win 10).blk t).view.emb y) 1).val = (y 1).val := by
  have e := (idx t).2.2.2.2.2.2.2.2.2.2
  constructor
  · blk_simp [e]
    try exact congrArg (· + (y 0).val) (Nat.mul_comm _ _)
  · blk_simp [e]

/-- What a point stores is `spec` at the array index of the block index. -/
theorem out_spec (c : Dev nD) (t : Fin cfg0.N) (y : S512x512.Idx) : outsAt0 (F := Ideal) m c t y
    = spec (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 10).blk t).view.emb y) := by
  obtain ⟨e0, e1⟩ := emb_out t y
  have ht : t.val < 32 := t.isLt
  have b0 : (y 0).val < 512 := (y 0).isLt
  refine (congrArg (outsAt0 (F := Ideal) m c t) (eq_ix2 y)).trans ((out_at m c t (y 0) (y 1)).trans ?_)
  unfold spec
  refine specAt_congr _ _ _ _ _ (Fin.ext ?_) ?_ (Fin.ext e1.symm)
  · show t.val / 8 = _ / 4096
    rw [e0]; omega
  · rw [e0]; omega

/-- The result array after the run is `spec` of the arguments. -/
theorem final (c : Dev nD) : (dats m 0 c).arrAt 10 (cfgs 0).N
    = spec (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 10 _ (by decide +kernel) fun t hf y => ?_
  blk_simp
  rw [after0_10]
  exact out_spec m c t y

end Cert.Kernel10Ideal.ConvMod
end
-- ==== Proof.ConvModRef.lean ====
module

public import proofs.«01_k».proof.Proof.ConvMod
public import proofs.«01_k».proof.Proof.Gen.Reference10Ideal.Read
public import Idealize.ShloMosaic.Lib.Pipeline.ValueKit
public import Idealize.ShloMosaic.Lib.StableHlo.Run
public import Idealize.ShloMosaic.Lib.KernelVsHost

/-! # The convolution module's reference

The reference pads the gated rows, multiplies 31 shifts of them by the rows of weights, and adds up the products in turn. -/

@[expose] public section

set_option maxRecDepth 16384

noncomputable section

open Idealize.ShloMosaic Idealize.ShloMosaic.TcCoe Idealize.SL.Sem
open scoped BigOperators

namespace Cert.Kernel10Ideal.ConvMod

open Cert.Reference10Ideal Cert.Reference10Ideal.Read

variable (px : FVec Ideal S16384x4096 .bf16) (w : FVec Ideal S32x512 .f32) (bias g h : FVec Ideal S1x512 .f32)

/-- The gated rows before the padding. -/
theorem ref_gate (b : Fin 4) (q : Fin 4096) (f : Fin 512) : val_main_v11 (F := Ideal) px (ix3 b q f)
    = px (ix2 ⟨b.val * 4096 + q.val, by omega⟩ ⟨3072 + f.val, by omega⟩)
      * Ideal.logistic (px (ix2 ⟨b.val * 4096 + q.val, by omega⟩ ⟨3584 + f.val, by omega⟩)) := by
  pointwise [val_main_v11, val_main_v10, val_main_v9, val_main_v8, val_main_v7, val_main_v6, val_main_v5, val_main_v4,
    val_main_v3, val_main_v2, val_main_v1, val_main_v0, val_main_cst, val_main_cst_0]
  have e : (⟨3072 + (512 + f.val), by omega⟩ : Fin 4096) = ⟨3584 + f.val, by omega⟩ := Fin.ext (by show 3072 + (512 + f.val) = 3584 + f.val; omega)
  rw [e]
  rfl

/-- The padding value is zero. -/
theorem ref_zero (z : S_.Idx) : val_main_call0_v0 (F := Ideal) z = 0 := by
  show ((((0#32 : BitVec 32).toInt : ℝ)) : EReal) = 0
  simp

/-- The padded rows: the reference pads by fifteen rows, one fewer than the module's tiles. -/
theorem ref_pad (b : Fin 4) (q : Fin 4126) (f : Fin 512) : val_main_v12 (F := Ideal) px (ix3 b q f)
    = gated px b (q.val + 1) f := by
  unfold val_main_v12 gated
  by_cases hq : 15 ≤ q.val ∧ q.val < 4111
  · rw [dif_pos (by omega)]
    refine (pad_apply_of_inside _ _ _ _ _ _ _ _ (ix3 b ⟨q.val - 15, by omega⟩ f) fun a => ?_).trans ?_
    · match a with
      | 0 => show b.val = 0 + b.val * (0 + 1); omega
      | 1 => show q.val = 15 + (q.val - 15) * (0 + 1); omega
      | 2 => show f.val = 0 + f.val * (0 + 1); omega
    · refine (ref_gate px b _ f).trans ?_
      have e : q.val - 15 = q.val + 1 - 16 := by omega
      simp only [e]
  · rw [dif_neg (by omega)]
    refine (pad_apply_of_not_inside _ _ _ _ _ _ _ _ 1 fun hin => hq ?_).trans (ref_zero _)
    have h1 : 15 ≤ q.val := hin.1
    have h2 : (q.val - 15) / (0 + 1) < 4096 := hin.2.2
    omega

/-- The product of tap `n`. -/
theorem ref_tap (b : Fin 4) (l : Fin 4096) (f : Fin 512) (n : ℕ) (hn : n < 31) (h1) (h2) (h3) (h4) (h5) :
    mulf (broadcastInDim S4x4096x512 ![0, 1, 2] h3
      (broadcastInDim S1x1x512 ![2] h4 (shapeCast S512 (extractStridedSlice S1x512 ![n, 0] w h1)
        h5)))
      (extractStridedSlice S4x4096x512 ![0, n, 0] (val_main_v12 (F := Ideal) px) h2) (ix3 b l f)
    = wrow w n (ix2 0 f) * gated px b (l.val + n + 1) f := by
  have e := ref_pad px b ⟨l.val + n, by omega⟩ f
  have r : n % 32 = n := by omega
  refine Eq.trans ?_ (congrArg (wrow w n (ix2 0 f) * ·) e)
  generalize val_main_v12 (F := Ideal) px = y
  have e1 : (⟨n + l.val, by omega⟩ : Fin 4126) = ⟨l.val + n, by omega⟩ := Fin.ext (Nat.add_comm _ _)
  have e2 : (⟨n % 32, by omega⟩ : Fin 32) = ⟨n, by omega⟩ := Fin.ext r
  unfold wrow
  pointwise []
  rw [e1, e2]

/-- The term of tap `n`. -/
def term (b : Fin 4) (l : ℕ) (f : Fin 512) (n : ℕ) : EReal := wrow w n (ix2 0 f) * gated px b (l + n + 1) f

/-! The partial sums, tap by tap. -/

theorem ref_sum0 (b : Fin 4) (l : Fin 4096) (f : Fin 512) :
    val_main_v20 (F := Ideal) px w (ix3 b l f) = acc (term px w b l f) 1 := by
  have z : val_main_v19 (F := Ideal) (ix3 b l f) = 0 := by pointwise [val_main_v19, val_main_cst_1]
  exact congrArg₂ (· + ·) z (ref_tap px w b l f 0 (by decide) _ _ _ _ _)

theorem ref_sum1 (b : Fin 4) (l : Fin 4096) (f : Fin 512) :
    val_main_v27 (F := Ideal) px w (ix3 b l f) = acc (term px w b l f) 2 :=
  congrArg₂ (· + ·) (ref_sum0 px w b l f) (ref_tap px w b l f 1 (by decide) _ _ _ _ _)

theorem ref_sum2 (b : Fin 4) (l : Fin 4096) (f : Fin 512) :
    val_main_v34 (F := Ideal) px w (ix3 b l f) = acc (term px w b l f) 3 :=
  congrArg₂ (· + ·) (ref_sum1 px w b l f) (ref_tap px w b l f 2 (by decide) _ _ _ _ _)

theorem ref_sum3 (b : Fin 4) (l : Fin 4096) (f : Fin 512) :
    val_main_v41 (F := Ideal) px w (ix3 b l f) = acc (term px w b l f) 4 :=
  congrArg₂ (· + ·) (ref_sum2 px w b l f) (ref_tap px w b l f 3 (by decide) _ _ _ _ _)

theorem ref_sum4 (b : Fin 4) (l : Fin 4096) (f : Fin 512) :
    val_main_v48 (F := Ideal) px w (ix3 b l f) = acc (term px w b l f) 5 :=
  congrArg₂ (· + ·) (ref_sum3 px w b l f) (ref_tap px w b l f 4 (by decide) _ _ _ _ _)

theorem ref_sum5 (b : Fin 4) (l : Fin 4096) (f : Fin 512) :
    val_main_v55 (F := Ideal) px w (ix3 b l f) = acc (term px w b l f) 6 :=
  congrArg₂ (· + ·) (ref_sum4 px w b l f) (ref_tap px w b l f 5 (by decide) _ _ _ _ _)

theorem ref_sum6 (b : Fin 4) (l : Fin 4096) (f : Fin 512) :
    val_main_v62 (F := Ideal) px w (ix3 b l f) = acc (term px w b l f) 7 :=
  congrArg₂ (· + ·) (ref_sum5 px w b l f) (ref_tap px w b l f 6 (by decide) _ _ _ _ _)

theorem ref_sum7 (b : Fin 4) (l : Fin 4096) (f : Fin 512) :
    val_main_v69 (F := Ideal) px w (ix3 b l f) = acc (term px w b l f) 8 :=
  congrArg₂ (· + ·) (ref_sum6 px w b l f) (ref_tap px w b l f 7 (by decide) _ _ _ _ _)

theorem ref_sum8 (b : Fin 4) (l : Fin 4096) (f : Fin 512) :
    val_main_v76 (F := Ideal) px w (ix3 b l f) = acc (term px w b l f) 9 :=
  congrArg₂ (· + ·) (ref_sum7 px w b l f) (ref_tap px w b l f 8 (by decide) _ _ _ _ _)

theorem ref_sum9 (b : Fin 4) (l : Fin 4096) (f : Fin 512) :
    val_main_v83 (F := Ideal) px w (ix3 b l f) = acc (term px w b l f) 10 :=
  congrArg₂ (· + ·) (ref_sum8 px w b l f) (ref_tap px w b l f 9 (by decide) _ _ _ _ _)

theorem ref_sum10 (b : Fin 4) (l : Fin 4096) (f : Fin 512) :
    val_main_v90 (F := Ideal) px w (ix3 b l f) = acc (term px w b l f) 11 :=
  congrArg₂ (· + ·) (ref_sum9 px w b l f) (ref_tap px w b l f 10 (by decide) _ _ _ _ _)

theorem ref_sum11 (b : Fin 4) (l : Fin 4096) (f : Fin 512) :
    val_main_v97 (F := Ideal) px w (ix3 b l f) = acc (term px w b l f) 12 :=
  congrArg₂ (· + ·) (ref_sum10 px w b l f) (ref_tap px w b l f 11 (by decide) _ _ _ _ _)

theorem ref_sum12 (b : Fin 4) (l : Fin 4096) (f : Fin 512) :
    val_main_v104 (F := Ideal) px w (ix3 b l f) = acc (term px w b l f) 13 :=
  congrArg₂ (· + ·) (ref_sum11 px w b l f) (ref_tap px w b l f 12 (by decide) _ _ _ _ _)

theorem ref_sum13 (b : Fin 4) (l : Fin 4096) (f : Fin 512) :
    val_main_v111 (F := Ideal) px w (ix3 b l f) = acc (term px w b l f) 14 :=
  congrArg₂ (· + ·) (ref_sum12 px w b l f) (ref_tap px w b l f 13 (by decide) _ _ _ _ _)

theorem ref_sum14 (b : Fin 4) (l : Fin 4096) (f : Fin 512) :
    val_main_v118 (F := Ideal) px w (ix3 b l f) = acc (term px w b l f) 15 :=
  congrArg₂ (· + ·) (ref_sum13 px w b l f) (ref_tap px w b l f 14 (by decide) _ _ _ _ _)

theorem ref_sum15 (b : Fin 4) (l : Fin 4096) (f : Fin 512) :
    val_main_v125 (F := Ideal) px w (ix3 b l f) = acc (term px w b l f) 16 :=
  congrArg₂ (· + ·) (ref_sum14 px w b l f) (ref_tap px w b l f 15 (by decide) _ _ _ _ _)

theorem ref_sum16 (b : Fin 4) (l : Fin 4096) (f : Fin 512) :
    val_main_v132 (F := Ideal) px w (ix3 b l f) = acc (term px w b l f) 17 :=
  congrArg₂ (· + ·) (ref_sum15 px w b l f) (ref_tap px w b l f 16 (by decide) _ _ _ _ _)

theorem ref_sum17 (b : Fin 4) (l : Fin 4096) (f : Fin 512) :
    val_main_v139 (F := Ideal) px w (ix3 b l f) = acc (term px w b l f) 18 :=
  congrArg₂ (· + ·) (ref_sum16 px w b l f) (ref_tap px w b l f 17 (by decide) _ _ _ _ _)

theorem ref_sum18 (b : Fin 4) (l : Fin 4096) (f : Fin 512) :
    val_main_v146 (F := Ideal) px w (ix3 b l f) = acc (term px w b l f) 19 :=
  congrArg₂ (· + ·) (ref_sum17 px w b l f) (ref_tap px w b l f 18 (by decide) _ _ _ _ _)

theorem ref_sum19 (b : Fin 4) (l : Fin 4096) (f : Fin 512) :
    val_main_v153 (F := Ideal) px w (ix3 b l f) = acc (term px w b l f) 20 :=
  congrArg₂ (· + ·) (ref_sum18 px w b l f) (ref_tap px w b l f 19 (by decide) _ _ _ _ _)

theorem ref_sum20 (b : Fin 4) (l : Fin 4096) (f : Fin 512) :
    val_main_v160 (F := Ideal) px w (ix3 b l f) = acc (term px w b l f) 21 :=
  congrArg₂ (· + ·) (ref_sum19 px w b l f) (ref_tap px w b l f 20 (by decide) _ _ _ _ _)

theorem ref_sum21 (b : Fin 4) (l : Fin 4096) (f : Fin 512) :
    val_main_v167 (F := Ideal) px w (ix3 b l f) = acc (term px w b l f) 22 :=
  congrArg₂ (· + ·) (ref_sum20 px w b l f) (ref_tap px w b l f 21 (by decide) _ _ _ _ _)

theorem ref_sum22 (b : Fin 4) (l : Fin 4096) (f : Fin 512) :
    val_main_v174 (F := Ideal) px w (ix3 b l f) = acc (term px w b l f) 23 :=
  congrArg₂ (· + ·) (ref_sum21 px w b l f) (ref_tap px w b l f 22 (by decide) _ _ _ _ _)

theorem ref_sum23 (b : Fin 4) (l : Fin 4096) (f : Fin 512) :
    val_main_v181 (F := Ideal) px w (ix3 b l f) = acc (term px w b l f) 24 :=
  congrArg₂ (· + ·) (ref_sum22 px w b l f) (ref_tap px w b l f 23 (by decide) _ _ _ _ _)

theorem ref_sum24 (b : Fin 4) (l : Fin 4096) (f : Fin 512) :
    val_main_v188 (F := Ideal) px w (ix3 b l f) = acc (term px w b l f) 25 :=
  congrArg₂ (· + ·) (ref_sum23 px w b l f) (ref_tap px w b l f 24 (by decide) _ _ _ _ _)

theorem ref_sum25 (b : Fin 4) (l : Fin 4096) (f : Fin 512) :
    val_main_v195 (F := Ideal) px w (ix3 b l f) = acc (term px w b l f) 26 :=
  congrArg₂ (· + ·) (ref_sum24 px w b l f) (ref_tap px w b l f 25 (by decide) _ _ _ _ _)

theorem ref_sum26 (b : Fin 4) (l : Fin 4096) (f : Fin 512) :
    val_main_v202 (F := Ideal) px w (ix3 b l f) = acc (term px w b l f) 27 :=
  congrArg₂ (· + ·) (ref_sum25 px w b l f) (ref_tap px w b l f 26 (by decide) _ _ _ _ _)

theorem ref_sum27 (b : Fin 4) (l : Fin 4096) (f : Fin 512) :
    val_main_v209 (F := Ideal) px w (ix3 b l f) = acc (term px w b l f) 28 :=
  congrArg₂ (· + ·) (ref_sum26 px w b l f) (ref_tap px w b l f 27 (by decide) _ _ _ _ _)

theorem ref_sum28 (b : Fin 4) (l : Fin 4096) (f : Fin 512) :
    val_main_v216 (F := Ideal) px w (ix3 b l f) = acc (term px w b l f) 29 :=
  congrArg₂ (· + ·) (ref_sum27 px w b l f) (ref_tap px w b l f 28 (by decide) _ _ _ _ _)

theorem ref_sum29 (b : Fin 4) (l : Fin 4096) (f : Fin 512) :
    val_main_v223 (F := Ideal) px w (ix3 b l f) = acc (term px w b l f) 30 :=
  congrArg₂ (· + ·) (ref_sum28 px w b l f) (ref_tap px w b l f 29 (by decide) _ _ _ _ _)

theorem ref_sum30 (b : Fin 4) (l : Fin 4096) (f : Fin 512) :
    val_main_v230 (F := Ideal) px w (ix3 b l f) = acc (term px w b l f) 31 :=
  congrArg₂ (· + ·) (ref_sum29 px w b l f) (ref_tap px w b l f 30 (by decide) _ _ _ _ _)

/-- The reference's convolution. -/
theorem ref_conv (b : Fin 4) (l : Fin 4096) (f : Fin 512) :
    val_main_v233 (F := Ideal) px w bias (ix3 b l f) = conv px w bias b l.val f := by
  have z : val_main_v232 (F := Ideal) bias (ix3 b l f) = bias (ix2 0 f) := by pointwise [val_main_v232, val_main_v231]
  exact congrArg₂ (· + ·) (ref_sum30 px w b l f) z

/-- The reference's layer norm and SiLU. -/
theorem ref_act (b : Fin 4) (l : Fin 4096) (f : Fin 512) :
    val_main_v256 (F := Ideal) px w bias g h (ix3 b l f) = specAt px w bias g h b l.val f := by
  have e (k : Fin 512) := ref_conv px w bias b l k
  unfold specAt act normed centred
  simp only [← e]
  pointwise [val_main_v256, val_main_call1_v5, val_main_call1_v4, val_main_call1_v3, val_main_call1_v2, val_main_call1_v1,
    val_main_call1_v0, val_main_call1_cst, val_main_call1_cst_0, val_main_v255, val_main_v254, val_main_v253, val_main_v252,
    val_main_v251, val_main_v250, val_main_v249, val_main_v248, val_main_v247, val_main_v246, val_main_v245, val_main_v244,
    val_main_v243, val_main_v242, val_main_v241, val_main_v240, val_main_v239, val_main_v238, val_main_v237, val_main_v236,
    val_main_v235, val_main_v234, val_main_cst_2, val_main_cst_3, val_main_cst_4, val_main_cst_5, val_main_cst_6]
  simp only [Ideal.logistic]

/-- The reference's result is the same function. -/
theorem ref_eq : val_main_v258 (F := Ideal) px w bias g h = spec px w bias g h := by
  funext i
  have hi : (i 0).val < 16384 := (i 0).isLt
  refine Eq.trans ?_ (ref_act px w bias g h ⟨(i 0).val / 4096, by omega⟩ ⟨(i 0).val % 4096, by omega⟩ (i 1))
  unfold val_main_v258 val_main_v257
  generalize val_main_v256 (F := Ideal) px w bias g h = y
  pointwise []

end Cert.Kernel10Ideal.ConvMod
end
-- ==== Proof.lean ====
module

public import proofs.«01_k».proof.Defs
public import proofs.«01_k».proof.Proof.AttnRef
public import proofs.«01_k».proof.Proof.Attn5Ref
public import proofs.«01_k».proof.Proof.FfnRef
public import proofs.«01_k».proof.Proof.InProjRef
public import proofs.«01_k».proof.Proof.MixOut
public import proofs.«01_k».proof.Proof.Glu
public import proofs.«01_k».proof.Proof.MlaPrepRef
public import proofs.«01_k».proof.Proof.DaPrepRef
public import proofs.«01_k».proof.Proof.Ada
public import proofs.«01_k».proof.Proof.ConvModRef
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read

/-! # The certificate: every claim, assembled

Each kernel's frame is the frame of its generated run; each value claim joins what the kernel's call leaves with what the
reference computes, both equal to the call's `spec`. -/

@[expose] public section

noncomputable section

namespace Cert.Proof

open Idealize.ShloMosaic Idealize.ShloMosaic.TcCoe Idealize.SL.Sem

/-- The reference of call 1 runs and keeps its arguments. -/
theorem frame_reference : quiescent_ReferenceIdeal := fun m g _ =>
  (θ_run Cert.ReferenceIdeal.defs _ _).mono (fun _ h => ⟨fun c => (h c).2, sem_eq_zero_of_no_sems (by decide) _⟩) (Cert.ReferenceIdeal.Value.run m g)

/-- The reference of call 2 runs and keeps its arguments. -/
theorem frame_reference2 : quiescent_Reference2Ideal := fun m g _ =>
  (θ_run Cert.Reference2Ideal.defs _ _).mono (fun _ h => ⟨fun c => (h c).2, sem_eq_zero_of_no_sems (by decide) _⟩) (Cert.Reference2Ideal.Value.run m g)

/-- The reference of call 3 runs and keeps its arguments. -/
theorem frame_reference3 : quiescent_Reference3Ideal := fun m g _ =>
  (θ_run Cert.Reference3Ideal.defs _ _).mono (fun _ h => ⟨fun c => (h c).2, sem_eq_zero_of_no_sems (by decide) _⟩) (Cert.Reference3Ideal.Value.run m g)

/-- The reference of call 4 runs and keeps its arguments. -/
theorem frame_reference4 : quiescent_Reference4Ideal := fun m g _ =>
  (θ_run Cert.Reference4Ideal.defs _ _).mono (fun _ h => ⟨fun c => (h c).2, sem_eq_zero_of_no_sems (by decide) _⟩) (Cert.Reference4Ideal.Value.run m g)

/-- The reference of call 5 runs and keeps its arguments. -/
theorem frame_reference5 : quiescent_Reference5Ideal := fun m g _ =>
  (θ_run Cert.Reference5Ideal.defs _ _).mono (fun _ h => ⟨fun c => (h c).2, sem_eq_zero_of_no_sems (by decide) _⟩) (Cert.Reference5Ideal.Value.run m g)

/-- The reference of call 6 runs and keeps its arguments. -/
theorem frame_reference6 : quiescent_Reference6Ideal := fun m g _ =>
  (θ_run Cert.Reference6Ideal.defs _ _).mono (fun _ h => ⟨fun c => (h c).2, sem_eq_zero_of_no_sems (by decide) _⟩) (Cert.Reference6Ideal.Value.run m g)

/-- The reference of call 7 runs and keeps its arguments. -/
theorem frame_reference7 : quiescent_Reference7Ideal := fun m g _ =>
  (θ_run Cert.Reference7Ideal.defs _ _).mono (fun _ h => ⟨fun c => (h c).2.2.2, sem_eq_zero_of_no_sems (by decide) _⟩) (Cert.Reference7Ideal.Value.run m g)

/-- The reference of call 8 runs and keeps its arguments. -/
theorem frame_reference8 : quiescent_Reference8Ideal := fun m g _ =>
  (θ_run Cert.Reference8Ideal.defs _ _).mono (fun _ h => ⟨fun c => (h c).2.2.2, sem_eq_zero_of_no_sems (by decide) _⟩) (Cert.Reference8Ideal.Value.run m g)

/-- The reference of call 9 runs and keeps its arguments. -/
theorem frame_reference9 : quiescent_Reference9Ideal := fun m g _ =>
  (θ_run Cert.Reference9Ideal.defs _ _).mono (fun _ h => ⟨fun c => (h c).2, sem_eq_zero_of_no_sems (by decide) _⟩) (Cert.Reference9Ideal.Value.run m g)

/-- The reference of call 10 runs and keeps its arguments. -/
theorem frame_reference10 : quiescent_Reference10Ideal := fun m g _ =>
  (θ_run Cert.Reference10Ideal.defs _ _).mono (fun _ h => ⟨fun c => (h c).2, sem_eq_zero_of_no_sems (by decide) _⟩) (Cert.Reference10Ideal.Value.run m g)

/-- The side conditions of `finite5`. -/
theorem facts_finite5 : Cert.Pre_finite5.Facts where
  bitsLt_bf16_f32 := by decide
  bcast_S_S1024x16384 := by decide
  bcast_S_S1024x1024 := by decide
  bcast_S_S16384x1024 := by decide

/-- Under the precondition of call 5 its queries are real numbers. -/
theorem real5_0 (m : (ℓ : Loc Cert.Kernel5Ideal.nD Cert.Kernel5Ideal.τ Cert.Kernel5Ideal.sig) → Buf (Elt Ideal) ℓ)
    (h : @Pre_Kernel5Ideal_finite5 facts_finite5 m) (c : Dev Cert.Kernel5Ideal.nD) (i : Cert.Kernel5Ideal.S1024x16384.Idx) :
    ∃ r : ℝ, @Eq EReal ((m ((c : Thread Cert.Kernel5Ideal.nD Cert.Kernel5Ideal.τ).loc Cert.Kernel5Ideal.main_arg0)) i) r :=
  Cert.Softmax.real_of_abs _ (congrFun (h c).1 i)

/-- Under the precondition of call 5 its context keys are real numbers. -/
theorem real5_1 (m : (ℓ : Loc Cert.Kernel5Ideal.nD Cert.Kernel5Ideal.τ Cert.Kernel5Ideal.sig) → Buf (Elt Ideal) ℓ)
    (h : @Pre_Kernel5Ideal_finite5 facts_finite5 m) (c : Dev Cert.Kernel5Ideal.nD) (i : Cert.Kernel5Ideal.S1024x1024.Idx) :
    ∃ r : ℝ, @Eq EReal ((m ((c : Thread Cert.Kernel5Ideal.nD Cert.Kernel5Ideal.τ).loc Cert.Kernel5Ideal.main_arg1)) i) r :=
  Cert.Softmax.real_of_abs _ (congrFun (h c).2.1 i)

/-- Under the precondition of call 5 its image keys are real numbers. -/
theorem real5_3 (m : (ℓ : Loc Cert.Kernel5Ideal.nD Cert.Kernel5Ideal.τ Cert.Kernel5Ideal.sig) → Buf (Elt Ideal) ℓ)
    (h : @Pre_Kernel5Ideal_finite5 facts_finite5 m) (c : Dev Cert.Kernel5Ideal.nD) (i : Cert.Kernel5Ideal.S16384x1024.Idx) :
    ∃ r : ℝ, @Eq EReal ((m ((c : Thread Cert.Kernel5Ideal.nD Cert.Kernel5Ideal.τ).loc Cert.Kernel5Ideal.main_arg3)) i) r :=
  Cert.Softmax.real_of_abs _ (congrFun (h c).2.2 i)

/-- The differential attention call and its reference end with the same array. -/
theorem value1 : algebraic_KernelIdeal_ReferenceIdeal := fun m g m' g' _ ha =>
  ⟨fun c => Cert.KernelIdeal.Attn.spec (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)),
    (θ_run Cert.KernelIdeal.defs _ _).mono (fun _ h c => ⟨(h c).1.trans (Cert.KernelIdeal.Attn.final m c), (h c).2⟩) (Cert.KernelIdeal.Value.run_blocks m g),
    (θ_run Cert.ReferenceIdeal.defs _ _).mono (fun _ h c => ⟨(h c).1.trans (by
        obtain ⟨a0, a1, a2, a3, a4, a5, a6, a7, a8, a9⟩ := ha c
        rw [Cert.ReferenceIdeal.Read.val_main_v62_eq, a0, a1, a2, a3, a4, a5, a6, a7, a8, a9]
        exact Cert.KernelIdeal.Attn.ref_eq ..), (h c).2⟩) (Cert.ReferenceIdeal.Value.run m' g')⟩

/-- The feed-forward call and its reference end with the same array. -/
theorem value2 : algebraic_Kernel2Ideal_Reference2Ideal := fun m g m' g' _ ha =>
  ⟨fun c => Cert.Kernel2Ideal.Ffn.spec (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)),
    (θ_run Cert.Kernel2Ideal.defs _ _).mono (fun _ h c => ⟨(h c).1.trans (Cert.Kernel2Ideal.Ffn.final m c), (h c).2⟩) (Cert.Kernel2Ideal.Value.run_blocks m g),
    (θ_run Cert.Reference2Ideal.defs _ _).mono (fun _ h c => ⟨(h c).1.trans (by
        obtain ⟨a0, a1, a2, a3, a4, a5⟩ := ha c
        rw [Cert.Reference2Ideal.Read.val_main_v56_eq, a0, a1, a2, a3, a4, a5]
        exact Cert.Kernel2Ideal.Ffn.ref_eq ..), (h c).2⟩) (Cert.Reference2Ideal.Value.run m' g')⟩

/-- The input projection call and its reference end with the same array. -/
theorem value3 : algebraic_Kernel3Ideal_Reference3Ideal := fun m g m' g' _ ha =>
  ⟨fun c => Cert.Kernel3Ideal.InProj.spec (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)),
    (θ_run Cert.Kernel3Ideal.defs _ _).mono (fun _ h c => ⟨(h c).1.trans (Cert.Kernel3Ideal.InProj.final m c), (h c).2⟩) (Cert.Kernel3Ideal.Value.run_blocks m g),
    (θ_run Cert.Reference3Ideal.defs _ _).mono (fun _ h c => ⟨(h c).1.trans (by
        obtain ⟨a0, a1, a2, a3⟩ := ha c
        rw [Cert.Reference3Ideal.Read.val_main_v30_eq, a0, a1, a2, a3]
        exact Cert.Kernel3Ideal.InProj.ref_eq ..), (h c).2⟩) (Cert.Reference3Ideal.Value.run m' g')⟩

/-- The mixing call and its reference end with the same array. -/
theorem value4 : algebraic_Kernel4Ideal_Reference4Ideal := fun m g m' g' _ ha =>
  ⟨fun c => Cert.Kernel4Ideal.MixOut.spec (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) (m ((c : Thread Cert.Kernel4Ideal.nD Cert.Kernel4Ideal.τ).loc Cert.Kernel4Ideal.main_arg7)),
    (θ_run Cert.Kernel4Ideal.defs _ _).mono (fun _ h c => ⟨(h c).1.trans (Cert.Kernel4Ideal.MixOut.final m c), (h c).2⟩) (Cert.Kernel4Ideal.Value.run_blocks m g),
    (θ_run Cert.Reference4Ideal.defs _ _).mono (fun _ h c => ⟨(h c).1.trans (by
        obtain ⟨a0, a1, a2, a3, a4, a5, a6, a7⟩ := ha c
        rw [Cert.Reference4Ideal.Read.val_main_v33_eq, a0, a1, a2, a3, a4, a5, a6, a7]
        exact Cert.Kernel4Ideal.MixOut.ref_eq ..), (h c).2⟩) (Cert.Reference4Ideal.Value.run m' g')⟩

/-- The latent attention call and its reference end with the same array, the queries and keys being finite. -/
theorem value5 : @algebraic_Kernel5Ideal_Reference5Ideal_pre_finite5 Cert.Kernel5Ideal.Gen.facts Cert.Reference5Ideal.Gen.facts facts_finite5 :=
  fun m g m' g' hp ha =>
  ⟨fun c => Cert.Kernel5Ideal.Mla.spec (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) (m ((c : Thread Cert.Kernel5Ideal.nD Cert.Kernel5Ideal.τ).loc Cert.Kernel5Ideal.main_arg4)),
    (θ_run Cert.Kernel5Ideal.defs _ _).mono (fun _ h c => ⟨(h c).1.trans (Cert.Kernel5Ideal.Mla.final m c), (h c).2⟩) (Cert.Kernel5Ideal.Value.run_blocks m g),
    (θ_run Cert.Reference5Ideal.defs _ _).mono (fun _ h c => ⟨(h c).1.trans (by
        obtain ⟨a0, a1, a2, a3, a4⟩ := ha c
        rw [Cert.Reference5Ideal.Read.val_main_v31_eq, a0, a1, a2, a3, a4]
        exact Cert.Kernel5Ideal.Mla.ref_eq (hq := real5_0 m hp c) (hc := real5_1 m hp c) (hx := real5_3 m hp c) ..), (h c).2⟩) (Cert.Reference5Ideal.Value.run m' g')⟩

/-- The S5 readout call and its reference end with the same array. -/
theorem value6 : algebraic_Kernel6Ideal_Reference6Ideal := fun m g m' g' _ ha =>
  ⟨fun c => Cert.Kernel6Ideal.Glu.spec (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)),
    (θ_run Cert.Kernel6Ideal.defs _ _).mono (fun _ h c => ⟨(h c).1.trans (Cert.Kernel6Ideal.Glu.final m c), (h c).2⟩) (Cert.Kernel6Ideal.Value.run_blocks m g),
    (θ_run Cert.Reference6Ideal.defs _ _).mono (fun _ h c => ⟨(h c).1.trans (by
        obtain ⟨a0, a1, a2, a3⟩ := ha c
        rw [Cert.Reference6Ideal.Read.val_main_v37_eq, a0, a1, a2, a3]
        exact Cert.Kernel6Ideal.Glu.ref_eq ..), (h c).2⟩) (Cert.Reference6Ideal.Value.run m' g')⟩

/-- The call that prepares the latent attention and its reference end with the same three arrays. -/
theorem value7 : algebraic_Kernel7Ideal_Reference7Ideal := fun m g m' g' _ ha =>
  ⟨fun c => Cert.Kernel7Ideal.MlaPrep.specQ (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg3)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)),
    fun c => Cert.Kernel7Ideal.MlaPrep.specK (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg4)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)),
    fun c => Cert.Kernel7Ideal.MlaPrep.specV (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg4)),
    (θ_run Cert.Kernel7Ideal.defs _ _).mono (fun _ h c => ⟨(h c).1.trans (Cert.Kernel7Ideal.MlaPrep.finalQ m c),
        (h c).2.1.trans (Cert.Kernel7Ideal.MlaPrep.finalK m c), (h c).2.2.1.trans (Cert.Kernel7Ideal.MlaPrep.finalV m c),
        (h c).2.2.2⟩) (Cert.Kernel7Ideal.Value.run_blocks m g),
    (θ_run Cert.Reference7Ideal.defs _ _).mono (fun _ h c => ⟨(h c).1.trans (by
        obtain ⟨a0, a1, a2, a3, a4, a5, a6⟩ := ha c
        rw [Cert.Reference7Ideal.Read.val_main_v93_eq, a0, a1, a3, a5, a6]
        exact Cert.Kernel7Ideal.MlaPrep.ref_eqQ ..),
      (h c).2.1.trans (by
        obtain ⟨a0, a1, a2, a3, a4, a5, a6⟩ := ha c
        rw [Cert.Reference7Ideal.Read.val_main_v95_eq, a0, a2, a4, a5, a6]
        exact Cert.Kernel7Ideal.MlaPrep.ref_eqK ..),
      (h c).2.2.1.trans (by
        obtain ⟨a0, a1, a2, a3, a4, a5, a6⟩ := ha c
        refine (Cert.Reference7Ideal.Read.val_main_v98_eq ..).trans ?_
        rw [a0, a2, a4]
        exact Cert.Kernel7Ideal.MlaPrep.ref_eqV ..),
      (h c).2.2.2⟩) (Cert.Reference7Ideal.Value.run m' g')⟩

/-- The call that prepares the differential attention and its reference end with the same three arrays. -/
theorem value8 : algebraic_Kernel8Ideal_Reference8Ideal := fun m g m' g' _ ha =>
  ⟨fun c => Cert.Kernel8Ideal.DaPrep.specQ (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)),
    fun c => Cert.Kernel8Ideal.DaPrep.specK (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)),
    fun c => Cert.Kernel8Ideal.DaPrep.specV (m ((c : Thread Cert.Kernel8Ideal.nD Cert.Kernel8Ideal.τ).loc Cert.Kernel8Ideal.main_arg0)),
    (θ_run Cert.Kernel8Ideal.defs _ _).mono (fun _ h c => ⟨(h c).1.trans (Cert.Kernel8Ideal.DaPrep.finalQ m c),
        (h c).2.1.trans (Cert.Kernel8Ideal.DaPrep.finalK m c), (h c).2.2.1.trans (Cert.Kernel8Ideal.DaPrep.finalV m c),
        (h c).2.2.2⟩) (Cert.Kernel8Ideal.Value.run_blocks m g),
    (θ_run Cert.Reference8Ideal.defs _ _).mono (fun _ h c => ⟨(h c).1.trans (by
        obtain ⟨a0, a1, a2⟩ := ha c
        refine (Cert.Reference8Ideal.Read.val_main_v29_eq ..).trans ?_
        rw [a0, a1, a2]
        exact Cert.Kernel8Ideal.DaPrep.ref_eqQ ..),
      (h c).2.1.trans (by
        obtain ⟨a0, a1, a2⟩ := ha c
        refine (Cert.Reference8Ideal.Read.val_main_v48_eq ..).trans ?_
        rw [a0, a1, a2]
        exact Cert.Kernel8Ideal.DaPrep.ref_eqK ..),
      (h c).2.2.1.trans (by
        obtain ⟨a0, a1, a2⟩ := ha c
        refine (Cert.Reference8Ideal.Read.val_main_v51_eq ..).trans ?_
        rw [a0]
        exact Cert.Kernel8Ideal.DaPrep.ref_eqV ..),
      (h c).2.2.2⟩) (Cert.Reference8Ideal.Value.run m' g')⟩

/-- The modulation call and its reference end with the same array. -/
theorem value9 : algebraic_Kernel9Ideal_Reference9Ideal := fun m g m' g' _ ha =>
  ⟨fun c => Cert.Kernel9Ideal.Ada.spec (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2)),
    (θ_run Cert.Kernel9Ideal.defs _ _).mono (fun _ h c => ⟨(h c).1.trans (Cert.Kernel9Ideal.Ada.final m c), (h c).2⟩) (Cert.Kernel9Ideal.Value.run_blocks m g),
    (θ_run Cert.Reference9Ideal.defs _ _).mono (fun _ h c => ⟨(h c).1.trans (by
        obtain ⟨a0, a1, a2⟩ := ha c
        refine (Cert.Reference9Ideal.Read.val_main_v5_eq ..).trans ?_
        rw [a0, a1, a2]
        exact Cert.Kernel9Ideal.Ada.ref_eq ..), (h c).2⟩) (Cert.Reference9Ideal.Value.run m' g')⟩

/-- The convolution module and its reference end with the same array. -/
theorem value10 : algebraic_Kernel10Ideal_Reference10Ideal := fun m g m' g' _ ha =>
  ⟨fun c => Cert.Kernel10Ideal.ConvMod.spec (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2)) (m ((c : Thread Cert.Kernel10Ideal.nD Cert.Kernel10Ideal.τ).loc Cert.Kernel10Ideal.main_arg3)) (m ((c : Thread Cert.Kernel10Ideal.nD Cert.Kernel10Ideal.τ).loc Cert.Kernel10Ideal.main_arg4)),
    (θ_run Cert.Kernel10Ideal.defs _ _).mono (fun _ h c => ⟨(h c).1.trans (Cert.Kernel10Ideal.ConvMod.final m c), (h c).2⟩) (Cert.Kernel10Ideal.Value.run_blocks m g),
    (θ_run Cert.Reference10Ideal.defs _ _).mono (fun _ h c => ⟨(h c).1.trans (by
        obtain ⟨a0, a1, a2, a3, a4⟩ := ha c
        refine (Cert.Reference10Ideal.Read.val_main_v258_eq ..).trans ?_
        refine (Cert.Kernel10Ideal.ConvMod.ref_eq ..).trans ?_
        exact congr (congr (congr (congr (congrArg Cert.Kernel10Ideal.ConvMod.spec a0) a1) a2) a3) a4), (h c).2⟩) (Cert.Reference10Ideal.Value.run m' g')⟩

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    facts_finite5,
    fun m ρ _ => Cert.Kernel.Gen.frame m ρ,
    fun m ρ _ => Cert.KernelIdeal.Gen.frame m ρ,
    frame_reference,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    fun m ρ _ => Cert.Kernel5Ideal.Gen.frame m ρ,
    frame_reference5,
    fun m g _ => frame_reference5 m g trivial,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    trivial, value1, trivial, value2, trivial, value3, trivial, value4, trivial, value5, trivial, value6, trivial, value7,
    trivial, value8, trivial, value9, trivial, value10⟩

end Cert.Proof

end
